-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_FfnCd (m : (ℓ : Loc Cert.FfnCd.nD Cert.FfnCd.τ Cert.FfnCd.sig) → Buf (Elt Bits) ℓ) : Prop :=
  True

def Pre_FfnCdIdeal (m : (ℓ : Loc Cert.FfnCdIdeal.nD Cert.FfnCdIdeal.τ Cert.FfnCdIdeal.sig) → Buf (Elt Ideal) ℓ) : Prop :=
  True

def Pre_RefFfnCdIdeal (m : (ℓ : Loc Cert.RefFfnCdIdeal.nD Cert.RefFfnCdIdeal.τ Cert.RefFfnCdIdeal.sig) → Buf (Elt Ideal) ℓ) : Prop :=
  True

def Pre_ProjCd (m : (ℓ : Loc Cert.ProjCd.nD Cert.ProjCd.τ Cert.ProjCd.sig) → Buf (Elt Bits) ℓ) : Prop :=
  True

def Pre_ProjCdIdeal (m : (ℓ : Loc Cert.ProjCdIdeal.nD Cert.ProjCdIdeal.τ Cert.ProjCdIdeal.sig) → Buf (Elt Ideal) ℓ) : Prop :=
  True

def Pre_RefProjCdIdeal (m : (ℓ : Loc Cert.RefProjCdIdeal.nD Cert.RefProjCdIdeal.τ Cert.RefProjCdIdeal.sig) → Buf (Elt Ideal) ℓ) : Prop :=
  True

def Pre_Win0 (m : (ℓ : Loc Cert.Win0.nD Cert.Win0.τ Cert.Win0.sig) → Buf (Elt Bits) ℓ) : Prop :=
  True

def Pre_Win0Ideal (m : (ℓ : Loc Cert.Win0Ideal.nD Cert.Win0Ideal.τ Cert.Win0Ideal.sig) → Buf (Elt Ideal) ℓ) : Prop :=
  True

def Pre_Win0Ideal_finite_scores [hPre_finite_scores : Cert.Pre_finite_scores.Facts] (m : (ℓ : Loc Cert.Win0Ideal.nD Cert.Win0Ideal.τ Cert.Win0Ideal.sig) → Buf (Elt Ideal) ℓ) : Prop :=
  ∀ c : Dev Cert.Win0Ideal.nD,
    (Cert.Pre_finite_scores.fn (F := Ideal) (m ((c.tc : Thread Cert.Win0Ideal.nD Cert.Win0Ideal.τ).loc Cert.Win0Ideal.main_arg0)) (m ((c.tc : Thread Cert.Win0Ideal.nD Cert.Win0Ideal.τ).loc Cert.Win0Ideal.main_arg1)) (m ((c.tc : Thread Cert.Win0Ideal.nD Cert.Win0Ideal.τ).loc Cert.Win0Ideal.main_arg2))) = (fun _ => 1#1)

def Pre_RefWin0Ideal (m : (ℓ : Loc Cert.RefWin0Ideal.nD Cert.RefWin0Ideal.τ Cert.RefWin0Ideal.sig) → Buf (Elt Ideal) ℓ) : Prop :=
  True

def Pre_RefWin0Ideal_finite_scores [hPre_finite_scores : Cert.Pre_finite_scores.Facts] (m : (ℓ : Loc Cert.RefWin0Ideal.nD Cert.RefWin0Ideal.τ Cert.RefWin0Ideal.sig) → Buf (Elt Ideal) ℓ) : Prop :=
  ∀ c : Dev Cert.RefWin0Ideal.nD,
    (Cert.Pre_finite_scores.fn (F := Ideal) (m ((c.tc : Thread Cert.RefWin0Ideal.nD Cert.RefWin0Ideal.τ).loc Cert.RefWin0Ideal.main_arg0)) (m ((c.tc : Thread Cert.RefWin0Ideal.nD Cert.RefWin0Ideal.τ).loc Cert.RefWin0Ideal.main_arg1)) (m ((c.tc : Thread Cert.RefWin0Ideal.nD Cert.RefWin0Ideal.τ).loc Cert.RefWin0Ideal.main_arg2))) = (fun _ => 1#1)

def Pre_FfnStep (m : (ℓ : Loc Cert.FfnStep.nD Cert.FfnStep.τ Cert.FfnStep.sig) → Buf (Elt Bits) ℓ) : Prop :=
  True

def Pre_FfnStepIdeal (m : (ℓ : Loc Cert.FfnStepIdeal.nD Cert.FfnStepIdeal.τ Cert.FfnStepIdeal.sig) → Buf (Elt Ideal) ℓ) : Prop :=
  True

def Pre_RefFfnStepIdeal (m : (ℓ : Loc Cert.RefFfnStepIdeal.nD Cert.RefFfnStepIdeal.τ Cert.RefFfnStepIdeal.sig) → Buf (Elt Ideal) ℓ) : Prop :=
  True

def Pre_ProjStep (m : (ℓ : Loc Cert.ProjStep.nD Cert.ProjStep.τ Cert.ProjStep.sig) → Buf (Elt Bits) ℓ) : Prop :=
  True

def Pre_ProjStepIdeal (m : (ℓ : Loc Cert.ProjStepIdeal.nD Cert.ProjStepIdeal.τ Cert.ProjStepIdeal.sig) → Buf (Elt Ideal) ℓ) : Prop :=
  True

def Pre_RefProjStepIdeal (m : (ℓ : Loc Cert.RefProjStepIdeal.nD Cert.RefProjStepIdeal.τ Cert.RefProjStepIdeal.sig) → Buf (Elt Ideal) ℓ) : Prop :=
  True

def Pre_AbQkv (m : (ℓ : Loc Cert.AbQkv.nD Cert.AbQkv.τ Cert.AbQkv.sig) → Buf (Elt Bits) ℓ) : Prop :=
  True

def Pre_AbQkvIdeal (m : (ℓ : Loc Cert.AbQkvIdeal.nD Cert.AbQkvIdeal.τ Cert.AbQkvIdeal.sig) → Buf (Elt Ideal) ℓ) : Prop :=
  True

def Pre_AbQkvIdeal_finite_heads [hPre_finite_heads : Cert.Pre_finite_heads.Facts] (m : (ℓ : Loc Cert.AbQkvIdeal.nD Cert.AbQkvIdeal.τ Cert.AbQkvIdeal.sig) → Buf (Elt Ideal) ℓ) : Prop :=
  ∀ c : Dev Cert.AbQkvIdeal.nD,
    (Cert.Pre_finite_heads.fn (F := Ideal) (m ((c.tc : Thread Cert.AbQkvIdeal.nD Cert.AbQkvIdeal.τ).loc Cert.AbQkvIdeal.main_arg0)) (m ((c.tc : Thread Cert.AbQkvIdeal.nD Cert.AbQkvIdeal.τ).loc Cert.AbQkvIdeal.main_arg1)) (m ((c.tc : Thread Cert.AbQkvIdeal.nD Cert.AbQkvIdeal.τ).loc Cert.AbQkvIdeal.main_arg2))) = (fun _ => 1#1)

def Pre_RefAbQkvIdeal (m : (ℓ : Loc Cert.RefAbQkvIdeal.nD Cert.RefAbQkvIdeal.τ Cert.RefAbQkvIdeal.sig) → Buf (Elt Ideal) ℓ) : Prop :=
  True

def Pre_RefAbQkvIdeal_finite_heads [hPre_finite_heads : Cert.Pre_finite_heads.Facts] (m : (ℓ : Loc Cert.RefAbQkvIdeal.nD Cert.RefAbQkvIdeal.τ Cert.RefAbQkvIdeal.sig) → Buf (Elt Ideal) ℓ) : Prop :=
  ∀ c : Dev Cert.RefAbQkvIdeal.nD,
    (Cert.Pre_finite_heads.fn (F := Ideal) (m ((c.tc : Thread Cert.RefAbQkvIdeal.nD Cert.RefAbQkvIdeal.τ).loc Cert.RefAbQkvIdeal.main_arg0)) (m ((c.tc : Thread Cert.RefAbQkvIdeal.nD Cert.RefAbQkvIdeal.τ).loc Cert.RefAbQkvIdeal.main_arg1)) (m ((c.tc : Thread Cert.RefAbQkvIdeal.nD Cert.RefAbQkvIdeal.τ).loc Cert.RefAbQkvIdeal.main_arg2))) = (fun _ => 1#1)

def Pre_ConvStep (m : (ℓ : Loc Cert.ConvStep.nD Cert.ConvStep.τ Cert.ConvStep.sig) → Buf (Elt Bits) ℓ) : Prop :=
  True

def Pre_ConvStepIdeal (m : (ℓ : Loc Cert.ConvStepIdeal.nD Cert.ConvStepIdeal.τ Cert.ConvStepIdeal.sig) → Buf (Elt Ideal) ℓ) : Prop :=
  True

def Pre_RefConvStepIdeal (m : (ℓ : Loc Cert.RefConvStepIdeal.nD Cert.RefConvStepIdeal.τ Cert.RefConvStepIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_RefConvIdeal (m : (ℓ : Loc Cert.RefConvIdeal.nD Cert.RefConvIdeal.τ Cert.RefConvIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4)
      ∧ r.2.mem ((c.tc : Thread Cert.RefFfnIdeal.nD Cert.RefFfnIdeal.τ).loc Cert.RefFfnIdeal.main_arg5) = m ((c.tc : Thread Cert.RefFfnIdeal.nD Cert.RefFfnIdeal.τ).loc Cert.RefFfnIdeal.main_arg5)
      ∧ r.2.mem ((c.tc : Thread Cert.RefFfnIdeal.nD Cert.RefFfnIdeal.τ).loc Cert.RefFfnIdeal.main_arg6) = m ((c.tc : Thread Cert.RefFfnIdeal.nD Cert.RefFfnIdeal.τ).loc Cert.RefFfnIdeal.main_arg6)
      ∧ r.2.mem ((c.tc : Thread Cert.RefFfnIdeal.nD Cert.RefFfnIdeal.τ).loc Cert.RefFfnIdeal.main_arg7) = m ((c.tc : Thread Cert.RefFfnIdeal.nD Cert.RefFfnIdeal.τ).loc Cert.RefFfnIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1)
      ∧ r.2.mem ((c.tc : Thread Cert.RefProjIdeal.nD Cert.RefProjIdeal.τ).loc Cert.RefProjIdeal.main_arg2) = m ((c.tc : Thread Cert.RefProjIdeal.nD Cert.RefProjIdeal.τ).loc Cert.RefProjIdeal.main_arg2))
      ∧ r.2.sem = fun _ => 0)

def quiescent_FfnCd [hFfnCd : Cert.FfnCd.Facts] : Prop :=
  ∀ (m : (ℓ : Loc Cert.FfnCd.nD Cert.FfnCd.τ Cert.FfnCd.sig) → Buf (Elt Bits) ℓ) (g : Dev Cert.FfnCd.nD → PrngReg), Pre_FfnCd m →
    θ_run (Cert.FfnCd.defs (F := Bits)) (onTc (τ := Cert.FfnCd.τ) (Cert.FfnCd.main (F := Bits))) ⟨m, fun _ => 0, g⟩ (fun r => (∀ c : Dev Cert.FfnCd.nD,
      r.2.mem ((c.tc : Thread Cert.FfnCd.nD Cert.FfnCd.τ).loc Cert.FfnCd.main_arg0) = m ((c.tc : Thread Cert.FfnCd.nD Cert.FfnCd.τ).loc Cert.FfnCd.main_arg0)
      ∧ r.2.mem ((c.tc : Thread Cert.FfnCd.nD Cert.FfnCd.τ).loc Cert.FfnCd.main_arg1) = m ((c.tc : Thread Cert.FfnCd.nD Cert.FfnCd.τ).loc Cert.FfnCd.main_arg1)
      ∧ r.2.mem ((c.tc : Thread Cert.FfnCd.nD Cert.FfnCd.τ).loc Cert.FfnCd.main_arg2) = m ((c.tc : Thread Cert.FfnCd.nD Cert.FfnCd.τ).loc Cert.FfnCd.main_arg2)
      ∧ r.2.mem ((c.tc : Thread Cert.FfnCd.nD Cert.FfnCd.τ).loc Cert.FfnCd.main_arg3) = m ((c.tc : Thread Cert.FfnCd.nD Cert.FfnCd.τ).loc Cert.FfnCd.main_arg3)
      ∧ r.2.mem ((c.tc : Thread Cert.FfnCd.nD Cert.FfnCd.τ).loc Cert.FfnCd.main_arg4) = m ((c.tc : Thread Cert.FfnCd.nD Cert.FfnCd.τ).loc Cert.FfnCd.main_arg4)
      ∧ r.2.mem ((c.tc : Thread Cert.FfnCd.nD Cert.FfnCd.τ).loc Cert.FfnCd.main_arg5) = m ((c.tc : Thread Cert.FfnCd.nD Cert.FfnCd.τ).loc Cert.FfnCd.main_arg5)
      ∧ r.2.mem ((c.tc : Thread Cert.FfnCd.nD Cert.FfnCd.τ).loc Cert.FfnCd.main_arg6) = m ((c.tc : Thread Cert.FfnCd.nD Cert.FfnCd.τ).loc Cert.FfnCd.main_arg6)
      ∧ r.2.mem ((c.tc : Thread Cert.FfnCd.nD Cert.FfnCd.τ).loc Cert.FfnCd.main_arg7) = m ((c.tc : Thread Cert.FfnCd.nD Cert.FfnCd.τ).loc Cert.FfnCd.main_arg7))
      ∧ r.2.sem = fun _ => 0)

def quiescent_FfnCdIdeal [hFfnCdIdeal : Cert.FfnCdIdeal.Facts] : Prop :=
  ∀ (m : (ℓ : Loc Cert.FfnCdIdeal.nD Cert.FfnCdIdeal.τ Cert.FfnCdIdeal.sig) → Buf (Elt Ideal) ℓ) (g : Dev Cert.FfnCdIdeal.nD → PrngReg), Pre_FfnCdIdeal m →
    θ_run (Cert.FfnCdIdeal.defs (F := Ideal)) (onTc (τ := Cert.FfnCdIdeal.τ) (Cert.FfnCdIdeal.main (F := Ideal))) ⟨m, fun _ => 0, g⟩ (fun r => (∀ c : Dev Cert.FfnCdIdeal.nD,
      r.2.mem ((c.tc : Thread Cert.FfnCdIdeal.nD Cert.FfnCdIdeal.τ).loc Cert.FfnCdIdeal.main_arg0) = m ((c.tc : Thread Cert.FfnCdIdeal.nD Cert.FfnCdIdeal.τ).loc Cert.FfnCdIdeal.main_arg0)
      ∧ r.2.mem ((c.tc : Thread Cert.FfnCdIdeal.nD Cert.FfnCdIdeal.τ).loc Cert.FfnCdIdeal.main_arg1) = m ((c.tc : Thread Cert.FfnCdIdeal.nD Cert.FfnCdIdeal.τ).loc Cert.FfnCdIdeal.main_arg1)
      ∧ r.2.mem ((c.tc : Thread Cert.FfnCdIdeal.nD Cert.FfnCdIdeal.τ).loc Cert.FfnCdIdeal.main_arg2) = m ((c.tc : Thread Cert.FfnCdIdeal.nD Cert.FfnCdIdeal.τ).loc Cert.FfnCdIdeal.main_arg2)
      ∧ r.2.mem ((c.tc : Thread Cert.FfnCdIdeal.nD Cert.FfnCdIdeal.τ).loc Cert.FfnCdIdeal.main_arg3) = m ((c.tc : Thread Cert.FfnCdIdeal.nD Cert.FfnCdIdeal.τ).loc Cert.FfnCdIdeal.main_arg3)
      ∧ r.2.mem ((c.tc : Thread Cert.FfnCdIdeal.nD Cert.FfnCdIdeal.τ).loc Cert.FfnCdIdeal.main_arg4) = m ((c.tc : Thread Cert.FfnCdIdeal.nD Cert.FfnCdIdeal.τ).loc Cert.FfnCdIdeal.main_arg4)
      ∧ r.2.mem ((c.tc : Thread Cert.FfnCdIdeal.nD Cert.FfnCdIdeal.τ).loc Cert.FfnCdIdeal.main_arg5) = m ((c.tc : Thread Cert.FfnCdIdeal.nD Cert.FfnCdIdeal.τ).loc Cert.FfnCdIdeal.main_arg5)
      ∧ r.2.mem ((c.tc : Thread Cert.FfnCdIdeal.nD Cert.FfnCdIdeal.τ).loc Cert.FfnCdIdeal.main_arg6) = m ((c.tc : Thread Cert.FfnCdIdeal.nD Cert.FfnCdIdeal.τ).loc Cert.FfnCdIdeal.main_arg6)
      ∧ r.2.mem ((c.tc : Thread Cert.FfnCdIdeal.nD Cert.FfnCdIdeal.τ).loc Cert.FfnCdIdeal.main_arg7) = m ((c.tc : Thread Cert.FfnCdIdeal.nD Cert.FfnCdIdeal.τ).loc Cert.FfnCdIdeal.main_arg7))
      ∧ r.2.sem = fun _ => 0)

def quiescent_RefFfnCdIdeal [hRefFfnCdIdeal : Cert.RefFfnCdIdeal.Facts] : Prop :=
  ∀ (m : (ℓ : Loc Cert.RefFfnCdIdeal.nD Cert.RefFfnCdIdeal.τ Cert.RefFfnCdIdeal.sig) → Buf (Elt Ideal) ℓ) (g : Dev Cert.RefFfnCdIdeal.nD → PrngReg), Pre_RefFfnCdIdeal m →
    θ_run (Cert.RefFfnCdIdeal.defs (F := Ideal)) (onTc (τ := Cert.RefFfnCdIdeal.τ) (Cert.RefFfnCdIdeal.main (F := Ideal))) ⟨m, fun _ => 0, g⟩ (fun r => (∀ c : Dev Cert.RefFfnCdIdeal.nD,
      r.2.mem ((c.tc : Thread Cert.RefFfnCdIdeal.nD Cert.RefFfnCdIdeal.τ).loc Cert.RefFfnCdIdeal.main_arg0) = m ((c.tc : Thread Cert.RefFfnCdIdeal.nD Cert.RefFfnCdIdeal.τ).loc Cert.RefFfnCdIdeal.main_arg0)
      ∧ r.2.mem ((c.tc : Thread Cert.RefFfnCdIdeal.nD Cert.RefFfnCdIdeal.τ).loc Cert.RefFfnCdIdeal.main_arg1) = m ((c.tc : Thread Cert.RefFfnCdIdeal.nD Cert.RefFfnCdIdeal.τ).loc Cert.RefFfnCdIdeal.main_arg1)
      ∧ r.2.mem ((c.tc : Thread Cert.RefFfnCdIdeal.nD Cert.RefFfnCdIdeal.τ).loc Cert.RefFfnCdIdeal.main_arg2) = m ((c.tc : Thread Cert.RefFfnCdIdeal.nD Cert.RefFfnCdIdeal.τ).loc Cert.RefFfnCdIdeal.main_arg2)
      ∧ r.2.mem ((c.tc : Thread Cert.RefFfnCdIdeal.nD Cert.RefFfnCdIdeal.τ).loc Cert.RefFfnCdIdeal.main_arg3) = m ((c.tc : Thread Cert.RefFfnCdIdeal.nD Cert.RefFfnCdIdeal.τ).loc Cert.RefFfnCdIdeal.main_arg3)
      ∧ r.2.mem ((c.tc : Thread Cert.RefFfnCdIdeal.nD Cert.RefFfnCdIdeal.τ).loc Cert.RefFfnCdIdeal.main_arg4) = m ((c.tc : Thread Cert.RefFfnCdIdeal.nD Cert.RefFfnCdIdeal.τ).loc Cert.RefFfnCdIdeal.main_arg4)
      ∧ r.2.mem ((c.tc : Thread Cert.RefFfnCdIdeal.nD Cert.RefFfnCdIdeal.τ).loc Cert.RefFfnCdIdeal.main_arg5) = m ((c.tc : Thread Cert.RefFfnCdIdeal.nD Cert.RefFfnCdIdeal.τ).loc Cert.RefFfnCdIdeal.main_arg5)
      ∧ r.2.mem ((c.tc : Thread Cert.RefFfnCdIdeal.nD Cert.RefFfnCdIdeal.τ).loc Cert.RefFfnCdIdeal.main_arg6) = m ((c.tc : Thread Cert.RefFfnCdIdeal.nD Cert.RefFfnCdIdeal.τ).loc Cert.RefFfnCdIdeal.main_arg6)
      ∧ r.2.mem ((c.tc : Thread Cert.RefFfnCdIdeal.nD Cert.RefFfnCdIdeal.τ).loc Cert.RefFfnCdIdeal.main_arg7) = m ((c.tc : Thread Cert.RefFfnCdIdeal.nD Cert.RefFfnCdIdeal.τ).loc Cert.RefFfnCdIdeal.main_arg7))
      ∧ r.2.sem = fun _ => 0)

def quiescent_ProjCd [hProjCd : Cert.ProjCd.Facts] : Prop :=
  ∀ (m : (ℓ : Loc Cert.ProjCd.nD Cert.ProjCd.τ Cert.ProjCd.sig) → Buf (Elt Bits) ℓ) (g : Dev Cert.ProjCd.nD → PrngReg), Pre_ProjCd m →
    θ_run (Cert.ProjCd.defs (F := Bits)) (onTc (τ := Cert.ProjCd.τ) (Cert.ProjCd.main (F := Bits))) ⟨m, fun _ => 0, g⟩ (fun r => (∀ c : Dev Cert.ProjCd.nD,
      r.2.mem ((c.tc : Thread Cert.ProjCd.nD Cert.ProjCd.τ).loc Cert.ProjCd.main_arg0) = m ((c.tc : Thread Cert.ProjCd.nD Cert.ProjCd.τ).loc Cert.ProjCd.main_arg0)
      ∧ r.2.mem ((c.tc : Thread Cert.ProjCd.nD Cert.ProjCd.τ).loc Cert.ProjCd.main_arg1) = m ((c.tc : Thread Cert.ProjCd.nD Cert.ProjCd.τ).loc Cert.ProjCd.main_arg1)
      ∧ r.2.mem ((c.tc : Thread Cert.ProjCd.nD Cert.ProjCd.τ).loc Cert.ProjCd.main_arg2) = m ((c.tc : Thread Cert.ProjCd.nD Cert.ProjCd.τ).loc Cert.ProjCd.main_arg2))
      ∧ r.2.sem = fun _ => 0)

def quiescent_ProjCdIdeal [hProjCdIdeal : Cert.ProjCdIdeal.Facts] : Prop :=
  ∀ (m : (ℓ : Loc Cert.ProjCdIdeal.nD Cert.ProjCdIdeal.τ Cert.ProjCdIdeal.sig) → Buf (Elt Ideal) ℓ) (g : Dev Cert.ProjCdIdeal.nD → PrngReg), Pre_ProjCdIdeal m →
    θ_run (Cert.ProjCdIdeal.defs (F := Ideal)) (onTc (τ := Cert.ProjCdIdeal.τ) (Cert.ProjCdIdeal.main (F := Ideal))) ⟨m, fun _ => 0, g⟩ (fun r => (∀ c : Dev Cert.ProjCdIdeal.nD,
      r.2.mem ((c.tc : Thread Cert.ProjCdIdeal.nD Cert.ProjCdIdeal.τ).loc Cert.ProjCdIdeal.main_arg0) = m ((c.tc : Thread Cert.ProjCdIdeal.nD Cert.ProjCdIdeal.τ).loc Cert.ProjCdIdeal.main_arg0)
      ∧ r.2.mem ((c.tc : Thread Cert.ProjCdIdeal.nD Cert.ProjCdIdeal.τ).loc Cert.ProjCdIdeal.main_arg1) = m ((c.tc : Thread Cert.ProjCdIdeal.nD Cert.ProjCdIdeal.τ).loc Cert.ProjCdIdeal.main_arg1)
      ∧ r.2.mem ((c.tc : Thread Cert.ProjCdIdeal.nD Cert.ProjCdIdeal.τ).loc Cert.ProjCdIdeal.main_arg2) = m ((c.tc : Thread Cert.ProjCdIdeal.nD Cert.ProjCdIdeal.τ).loc Cert.ProjCdIdeal.main_arg2))
      ∧ r.2.sem = fun _ => 0)

def quiescent_RefProjCdIdeal [hRefProjCdIdeal : Cert.RefProjCdIdeal.Facts] : Prop :=
  ∀ (m : (ℓ : Loc Cert.RefProjCdIdeal.nD Cert.RefProjCdIdeal.τ Cert.RefProjCdIdeal.sig) → Buf (Elt Ideal) ℓ) (g : Dev Cert.RefProjCdIdeal.nD → PrngReg), Pre_RefProjCdIdeal m →
    θ_run (Cert.RefProjCdIdeal.defs (F := Ideal)) (onTc (τ := Cert.RefProjCdIdeal.τ) (Cert.RefProjCdIdeal.main (F := Ideal))) ⟨m, fun _ => 0, g⟩ (fun r => (∀ c : Dev Cert.RefProjCdIdeal.nD,
      r.2.mem ((c.tc : Thread Cert.RefProjCdIdeal.nD Cert.RefProjCdIdeal.τ).loc Cert.RefProjCdIdeal.main_arg0) = m ((c.tc : Thread Cert.RefProjCdIdeal.nD Cert.RefProjCdIdeal.τ).loc Cert.RefProjCdIdeal.main_arg0)
      ∧ r.2.mem ((c.tc : Thread Cert.RefProjCdIdeal.nD Cert.RefProjCdIdeal.τ).loc Cert.RefProjCdIdeal.main_arg1) = m ((c.tc : Thread Cert.RefProjCdIdeal.nD Cert.RefProjCdIdeal.τ).loc Cert.RefProjCdIdeal.main_arg1)
      ∧ r.2.mem ((c.tc : Thread Cert.RefProjCdIdeal.nD Cert.RefProjCdIdeal.τ).loc Cert.RefProjCdIdeal.main_arg2) = m ((c.tc : Thread Cert.RefProjCdIdeal.nD Cert.RefProjCdIdeal.τ).loc Cert.RefProjCdIdeal.main_arg2))
      ∧ r.2.sem = fun _ => 0)

def quiescent_Win0 [hWin0 : Cert.Win0.Facts] : Prop :=
  ∀ (m : (ℓ : Loc Cert.Win0.nD Cert.Win0.τ Cert.Win0.sig) → Buf (Elt Bits) ℓ) (g : Dev Cert.Win0.nD → PrngReg), Pre_Win0 m →
    θ_run (Cert.Win0.defs (F := Bits)) (onTc (τ := Cert.Win0.τ) (Cert.Win0.main (F := Bits))) ⟨m, fun _ => 0, g⟩ (fun r => (∀ c : Dev Cert.Win0.nD,
      r.2.mem ((c.tc : Thread Cert.Win0.nD Cert.Win0.τ).loc Cert.Win0.main_arg0) = m ((c.tc : Thread Cert.Win0.nD Cert.Win0.τ).loc Cert.Win0.main_arg0)
      ∧ r.2.mem ((c.tc : Thread Cert.Win0.nD Cert.Win0.τ).loc Cert.Win0.main_arg1) = m ((c.tc : Thread Cert.Win0.nD Cert.Win0.τ).loc Cert.Win0.main_arg1)
      ∧ r.2.mem ((c.tc : Thread Cert.Win0.nD Cert.Win0.τ).loc Cert.Win0.main_arg2) = m ((c.tc : Thread Cert.Win0.nD Cert.Win0.τ).loc Cert.Win0.main_arg2))
      ∧ r.2.sem = fun _ => 0)

def quiescent_Win0Ideal [hWin0Ideal : Cert.Win0Ideal.Facts] : Prop :=
  ∀ (m : (ℓ : Loc Cert.Win0Ideal.nD Cert.Win0Ideal.τ Cert.Win0Ideal.sig) → Buf (Elt Ideal) ℓ) (g : Dev Cert.Win0Ideal.nD → PrngReg), Pre_Win0Ideal m →
    θ_run (Cert.Win0Ideal.defs (F := Ideal)) (onTc (τ := Cert.Win0Ideal.τ) (Cert.Win0Ideal.main (F := Ideal))) ⟨m, fun _ => 0, g⟩ (fun r => (∀ c : Dev Cert.Win0Ideal.nD,
      r.2.mem ((c.tc : Thread Cert.Win0Ideal.nD Cert.Win0Ideal.τ).loc Cert.Win0Ideal.main_arg0) = m ((c.tc : Thread Cert.Win0Ideal.nD Cert.Win0Ideal.τ).loc Cert.Win0Ideal.main_arg0)
      ∧ r.2.mem ((c.tc : Thread Cert.Win0Ideal.nD Cert.Win0Ideal.τ).loc Cert.Win0Ideal.main_arg1) = m ((c.tc : Thread Cert.Win0Ideal.nD Cert.Win0Ideal.τ).loc Cert.Win0Ideal.main_arg1)
      ∧ r.2.mem ((c.tc : Thread Cert.Win0Ideal.nD Cert.Win0Ideal.τ).loc Cert.Win0Ideal.main_arg2) = m ((c.tc : Thread Cert.Win0Ideal.nD Cert.Win0Ideal.τ).loc Cert.Win0Ideal.main_arg2))
      ∧ r.2.sem = fun _ => 0)

def quiescent_Win0Ideal_pre_finite_scores [hWin0Ideal : Cert.Win0Ideal.Facts] [hPre_finite_scores : Cert.Pre_finite_scores.Facts] : Prop :=
  ∀ (m : (ℓ : Loc Cert.Win0Ideal.nD Cert.Win0Ideal.τ Cert.Win0Ideal.sig) → Buf (Elt Ideal) ℓ) (g : Dev Cert.Win0Ideal.nD → PrngReg), Pre_Win0Ideal_finite_scores m →
    θ_run (Cert.Win0Ideal.defs (F := Ideal)) (onTc (τ := Cert.Win0Ideal.τ) (Cert.Win0Ideal.main (F := Ideal))) ⟨m, fun _ => 0, g⟩ (fun r => (∀ c : Dev Cert.Win0Ideal.nD,
      r.2.mem ((c.tc : Thread Cert.Win0Ideal.nD Cert.Win0Ideal.τ).loc Cert.Win0Ideal.main_arg0) = m ((c.tc : Thread Cert.Win0Ideal.nD Cert.Win0Ideal.τ).loc Cert.Win0Ideal.main_arg0)
      ∧ r.2.mem ((c.tc : Thread Cert.Win0Ideal.nD Cert.Win0Ideal.τ).loc Cert.Win0Ideal.main_arg1) = m ((c.tc : Thread Cert.Win0Ideal.nD Cert.Win0Ideal.τ).loc Cert.Win0Ideal.main_arg1)
      ∧ r.2.mem ((c.tc : Thread Cert.Win0Ideal.nD Cert.Win0Ideal.τ).loc Cert.Win0Ideal.main_arg2) = m ((c.tc : Thread Cert.Win0Ideal.nD Cert.Win0Ideal.τ).loc Cert.Win0Ideal.main_arg2))
      ∧ r.2.sem = fun _ => 0)

def quiescent_RefWin0Ideal [hRefWin0Ideal : Cert.RefWin0Ideal.Facts] : Prop :=
  ∀ (m : (ℓ : Loc Cert.RefWin0Ideal.nD Cert.RefWin0Ideal.τ Cert.RefWin0Ideal.sig) → Buf (Elt Ideal) ℓ) (g : Dev Cert.RefWin0Ideal.nD → PrngReg), Pre_RefWin0Ideal m →
    θ_run (Cert.RefWin0Ideal.defs (F := Ideal)) (onTc (τ := Cert.RefWin0Ideal.τ) (Cert.RefWin0Ideal.main (F := Ideal))) ⟨m, fun _ => 0, g⟩ (fun r => (∀ c : Dev Cert.RefWin0Ideal.nD,
      r.2.mem ((c.tc : Thread Cert.RefWin0Ideal.nD Cert.RefWin0Ideal.τ).loc Cert.RefWin0Ideal.main_arg0) = m ((c.tc : Thread Cert.RefWin0Ideal.nD Cert.RefWin0Ideal.τ).loc Cert.RefWin0Ideal.main_arg0)
      ∧ r.2.mem ((c.tc : Thread Cert.RefWin0Ideal.nD Cert.RefWin0Ideal.τ).loc Cert.RefWin0Ideal.main_arg1) = m ((c.tc : Thread Cert.RefWin0Ideal.nD Cert.RefWin0Ideal.τ).loc Cert.RefWin0Ideal.main_arg1)
      ∧ r.2.mem ((c.tc : Thread Cert.RefWin0Ideal.nD Cert.RefWin0Ideal.τ).loc Cert.RefWin0Ideal.main_arg2) = m ((c.tc : Thread Cert.RefWin0Ideal.nD Cert.RefWin0Ideal.τ).loc Cert.RefWin0Ideal.main_arg2))
      ∧ r.2.sem = fun _ => 0)

def quiescent_RefWin0Ideal_pre_finite_scores [hRefWin0Ideal : Cert.RefWin0Ideal.Facts] [hPre_finite_scores : Cert.Pre_finite_scores.Facts] : Prop :=
  ∀ (m : (ℓ : Loc Cert.RefWin0Ideal.nD Cert.RefWin0Ideal.τ Cert.RefWin0Ideal.sig) → Buf (Elt Ideal) ℓ) (g : Dev Cert.RefWin0Ideal.nD → PrngReg), Pre_RefWin0Ideal_finite_scores m →
    θ_run (Cert.RefWin0Ideal.defs (F := Ideal)) (onTc (τ := Cert.RefWin0Ideal.τ) (Cert.RefWin0Ideal.main (F := Ideal))) ⟨m, fun _ => 0, g⟩ (fun r => (∀ c : Dev Cert.RefWin0Ideal.nD,
      r.2.mem ((c.tc : Thread Cert.RefWin0Ideal.nD Cert.RefWin0Ideal.τ).loc Cert.RefWin0Ideal.main_arg0) = m ((c.tc : Thread Cert.RefWin0Ideal.nD Cert.RefWin0Ideal.τ).loc Cert.RefWin0Ideal.main_arg0)
      ∧ r.2.mem ((c.tc : Thread Cert.RefWin0Ideal.nD Cert.RefWin0Ideal.τ).loc Cert.RefWin0Ideal.main_arg1) = m ((c.tc : Thread Cert.RefWin0Ideal.nD Cert.RefWin0Ideal.τ).loc Cert.RefWin0Ideal.main_arg1)
      ∧ r.2.mem ((c.tc : Thread Cert.RefWin0Ideal.nD Cert.RefWin0Ideal.τ).loc Cert.RefWin0Ideal.main_arg2) = m ((c.tc : Thread Cert.RefWin0Ideal.nD Cert.RefWin0Ideal.τ).loc Cert.RefWin0Ideal.main_arg2))
      ∧ r.2.sem = fun _ => 0)

def quiescent_FfnStep [hFfnStep : Cert.FfnStep.Facts] : Prop :=
  ∀ (m : (ℓ : Loc Cert.FfnStep.nD Cert.FfnStep.τ Cert.FfnStep.sig) → Buf (Elt Bits) ℓ) (g : Dev Cert.FfnStep.nD → PrngReg), Pre_FfnStep m →
    θ_run (Cert.FfnStep.defs (F := Bits)) (onTc (τ := Cert.FfnStep.τ) (Cert.FfnStep.main (F := Bits))) ⟨m, fun _ => 0, g⟩ (fun r => (∀ c : Dev Cert.FfnStep.nD,
      r.2.mem ((c.tc : Thread Cert.FfnStep.nD Cert.FfnStep.τ).loc Cert.FfnStep.main_arg0) = m ((c.tc : Thread Cert.FfnStep.nD Cert.FfnStep.τ).loc Cert.FfnStep.main_arg0)
      ∧ r.2.mem ((c.tc : Thread Cert.FfnStep.nD Cert.FfnStep.τ).loc Cert.FfnStep.main_arg1) = m ((c.tc : Thread Cert.FfnStep.nD Cert.FfnStep.τ).loc Cert.FfnStep.main_arg1)
      ∧ r.2.mem ((c.tc : Thread Cert.FfnStep.nD Cert.FfnStep.τ).loc Cert.FfnStep.main_arg2) = m ((c.tc : Thread Cert.FfnStep.nD Cert.FfnStep.τ).loc Cert.FfnStep.main_arg2)
      ∧ r.2.mem ((c.tc : Thread Cert.FfnStep.nD Cert.FfnStep.τ).loc Cert.FfnStep.main_arg3) = m ((c.tc : Thread Cert.FfnStep.nD Cert.FfnStep.τ).loc Cert.FfnStep.main_arg3)
      ∧ r.2.mem ((c.tc : Thread Cert.FfnStep.nD Cert.FfnStep.τ).loc Cert.FfnStep.main_arg4) = m ((c.tc : Thread Cert.FfnStep.nD Cert.FfnStep.τ).loc Cert.FfnStep.main_arg4)
      ∧ r.2.mem ((c.tc : Thread Cert.FfnStep.nD Cert.FfnStep.τ).loc Cert.FfnStep.main_arg5) = m ((c.tc : Thread Cert.FfnStep.nD Cert.FfnStep.τ).loc Cert.FfnStep.main_arg5)
      ∧ r.2.mem ((c.tc : Thread Cert.FfnStep.nD Cert.FfnStep.τ).loc Cert.FfnStep.main_arg6) = m ((c.tc : Thread Cert.FfnStep.nD Cert.FfnStep.τ).loc Cert.FfnStep.main_arg6)
      ∧ r.2.mem ((c.tc : Thread Cert.FfnStep.nD Cert.FfnStep.τ).loc Cert.FfnStep.main_arg7) = m ((c.tc : Thread Cert.FfnStep.nD Cert.FfnStep.τ).loc Cert.FfnStep.main_arg7))
      ∧ r.2.sem = fun _ => 0)

def quiescent_FfnStepIdeal [hFfnStepIdeal : Cert.FfnStepIdeal.Facts] : Prop :=
  ∀ (m : (ℓ : Loc Cert.FfnStepIdeal.nD Cert.FfnStepIdeal.τ Cert.FfnStepIdeal.sig) → Buf (Elt Ideal) ℓ) (g : Dev Cert.FfnStepIdeal.nD → PrngReg), Pre_FfnStepIdeal m →
    θ_run (Cert.FfnStepIdeal.defs (F := Ideal)) (onTc (τ := Cert.FfnStepIdeal.τ) (Cert.FfnStepIdeal.main (F := Ideal))) ⟨m, fun _ => 0, g⟩ (fun r => (∀ c : Dev Cert.FfnStepIdeal.nD,
      r.2.mem ((c.tc : Thread Cert.FfnStepIdeal.nD Cert.FfnStepIdeal.τ).loc Cert.FfnStepIdeal.main_arg0) = m ((c.tc : Thread Cert.FfnStepIdeal.nD Cert.FfnStepIdeal.τ).loc Cert.FfnStepIdeal.main_arg0)
      ∧ r.2.mem ((c.tc : Thread Cert.FfnStepIdeal.nD Cert.FfnStepIdeal.τ).loc Cert.FfnStepIdeal.main_arg1) = m ((c.tc : Thread Cert.FfnStepIdeal.nD Cert.FfnStepIdeal.τ).loc Cert.FfnStepIdeal.main_arg1)
      ∧ r.2.mem ((c.tc : Thread Cert.FfnStepIdeal.nD Cert.FfnStepIdeal.τ).loc Cert.FfnStepIdeal.main_arg2) = m ((c.tc : Thread Cert.FfnStepIdeal.nD Cert.FfnStepIdeal.τ).loc Cert.FfnStepIdeal.main_arg2)
      ∧ r.2.mem ((c.tc : Thread Cert.FfnStepIdeal.nD Cert.FfnStepIdeal.τ).loc Cert.FfnStepIdeal.main_arg3) = m ((c.tc : Thread Cert.FfnStepIdeal.nD Cert.FfnStepIdeal.τ).loc Cert.FfnStepIdeal.main_arg3)
      ∧ r.2.mem ((c.tc : Thread Cert.FfnStepIdeal.nD Cert.FfnStepIdeal.τ).loc Cert.FfnStepIdeal.main_arg4) = m ((c.tc : Thread Cert.FfnStepIdeal.nD Cert.FfnStepIdeal.τ).loc Cert.FfnStepIdeal.main_arg4)
      ∧ r.2.mem ((c.tc : Thread Cert.FfnStepIdeal.nD Cert.FfnStepIdeal.τ).loc Cert.FfnStepIdeal.main_arg5) = m ((c.tc : Thread Cert.FfnStepIdeal.nD Cert.FfnStepIdeal.τ).loc Cert.FfnStepIdeal.main_arg5)
      ∧ r.2.mem ((c.tc : Thread Cert.FfnStepIdeal.nD Cert.FfnStepIdeal.τ).loc Cert.FfnStepIdeal.main_arg6) = m ((c.tc : Thread Cert.FfnStepIdeal.nD Cert.FfnStepIdeal.τ).loc Cert.FfnStepIdeal.main_arg6)
      ∧ r.2.mem ((c.tc : Thread Cert.FfnStepIdeal.nD Cert.FfnStepIdeal.τ).loc Cert.FfnStepIdeal.main_arg7) = m ((c.tc : Thread Cert.FfnStepIdeal.nD Cert.FfnStepIdeal.τ).loc Cert.FfnStepIdeal.main_arg7))
      ∧ r.2.sem = fun _ => 0)

def quiescent_RefFfnStepIdeal [hRefFfnStepIdeal : Cert.RefFfnStepIdeal.Facts] : Prop :=
  ∀ (m : (ℓ : Loc Cert.RefFfnStepIdeal.nD Cert.RefFfnStepIdeal.τ Cert.RefFfnStepIdeal.sig) → Buf (Elt Ideal) ℓ) (g : Dev Cert.RefFfnStepIdeal.nD → PrngReg), Pre_RefFfnStepIdeal m →
    θ_run (Cert.RefFfnStepIdeal.defs (F := Ideal)) (onTc (τ := Cert.RefFfnStepIdeal.τ) (Cert.RefFfnStepIdeal.main (F := Ideal))) ⟨m, fun _ => 0, g⟩ (fun r => (∀ c : Dev Cert.RefFfnStepIdeal.nD,
      r.2.mem ((c.tc : Thread Cert.RefFfnStepIdeal.nD Cert.RefFfnStepIdeal.τ).loc Cert.RefFfnStepIdeal.main_arg0) = m ((c.tc : Thread Cert.RefFfnStepIdeal.nD Cert.RefFfnStepIdeal.τ).loc Cert.RefFfnStepIdeal.main_arg0)
      ∧ r.2.mem ((c.tc : Thread Cert.RefFfnStepIdeal.nD Cert.RefFfnStepIdeal.τ).loc Cert.RefFfnStepIdeal.main_arg1) = m ((c.tc : Thread Cert.RefFfnStepIdeal.nD Cert.RefFfnStepIdeal.τ).loc Cert.RefFfnStepIdeal.main_arg1)
      ∧ r.2.mem ((c.tc : Thread Cert.RefFfnStepIdeal.nD Cert.RefFfnStepIdeal.τ).loc Cert.RefFfnStepIdeal.main_arg2) = m ((c.tc : Thread Cert.RefFfnStepIdeal.nD Cert.RefFfnStepIdeal.τ).loc Cert.RefFfnStepIdeal.main_arg2)
      ∧ r.2.mem ((c.tc : Thread Cert.RefFfnStepIdeal.nD Cert.RefFfnStepIdeal.τ).loc Cert.RefFfnStepIdeal.main_arg3) = m ((c.tc : Thread Cert.RefFfnStepIdeal.nD Cert.RefFfnStepIdeal.τ).loc Cert.RefFfnStepIdeal.main_arg3)
      ∧ r.2.mem ((c.tc : Thread Cert.RefFfnStepIdeal.nD Cert.RefFfnStepIdeal.τ).loc Cert.RefFfnStepIdeal.main_arg4) = m ((c.tc : Thread Cert.RefFfnStepIdeal.nD Cert.RefFfnStepIdeal.τ).loc Cert.RefFfnStepIdeal.main_arg4)
      ∧ r.2.mem ((c.tc : Thread Cert.RefFfnStepIdeal.nD Cert.RefFfnStepIdeal.τ).loc Cert.RefFfnStepIdeal.main_arg5) = m ((c.tc : Thread Cert.RefFfnStepIdeal.nD Cert.RefFfnStepIdeal.τ).loc Cert.RefFfnStepIdeal.main_arg5)
      ∧ r.2.mem ((c.tc : Thread Cert.RefFfnStepIdeal.nD Cert.RefFfnStepIdeal.τ).loc Cert.RefFfnStepIdeal.main_arg6) = m ((c.tc : Thread Cert.RefFfnStepIdeal.nD Cert.RefFfnStepIdeal.τ).loc Cert.RefFfnStepIdeal.main_arg6)
      ∧ r.2.mem ((c.tc : Thread Cert.RefFfnStepIdeal.nD Cert.RefFfnStepIdeal.τ).loc Cert.RefFfnStepIdeal.main_arg7) = m ((c.tc : Thread Cert.RefFfnStepIdeal.nD Cert.RefFfnStepIdeal.τ).loc Cert.RefFfnStepIdeal.main_arg7))
      ∧ r.2.sem = fun _ => 0)

def quiescent_ProjStep [hProjStep : Cert.ProjStep.Facts] : Prop :=
  ∀ (m : (ℓ : Loc Cert.ProjStep.nD Cert.ProjStep.τ Cert.ProjStep.sig) → Buf (Elt Bits) ℓ) (g : Dev Cert.ProjStep.nD → PrngReg), Pre_ProjStep m →
    θ_run (Cert.ProjStep.defs (F := Bits)) (onTc (τ := Cert.ProjStep.τ) (Cert.ProjStep.main (F := Bits))) ⟨m, fun _ => 0, g⟩ (fun r => (∀ c : Dev Cert.ProjStep.nD,
      r.2.mem ((c.tc : Thread Cert.ProjStep.nD Cert.ProjStep.τ).loc Cert.ProjStep.main_arg0) = m ((c.tc : Thread Cert.ProjStep.nD Cert.ProjStep.τ).loc Cert.ProjStep.main_arg0)
      ∧ r.2.mem ((c.tc : Thread Cert.ProjStep.nD Cert.ProjStep.τ).loc Cert.ProjStep.main_arg1) = m ((c.tc : Thread Cert.ProjStep.nD Cert.ProjStep.τ).loc Cert.ProjStep.main_arg1)
      ∧ r.2.mem ((c.tc : Thread Cert.ProjStep.nD Cert.ProjStep.τ).loc Cert.ProjStep.main_arg2) = m ((c.tc : Thread Cert.ProjStep.nD Cert.ProjStep.τ).loc Cert.ProjStep.main_arg2))
      ∧ r.2.sem = fun _ => 0)

def quiescent_ProjStepIdeal [hProjStepIdeal : Cert.ProjStepIdeal.Facts] : Prop :=
  ∀ (m : (ℓ : Loc Cert.ProjStepIdeal.nD Cert.ProjStepIdeal.τ Cert.ProjStepIdeal.sig) → Buf (Elt Ideal) ℓ) (g : Dev Cert.ProjStepIdeal.nD → PrngReg), Pre_ProjStepIdeal m →
    θ_run (Cert.ProjStepIdeal.defs (F := Ideal)) (onTc (τ := Cert.ProjStepIdeal.τ) (Cert.ProjStepIdeal.main (F := Ideal))) ⟨m, fun _ => 0, g⟩ (fun r => (∀ c : Dev Cert.ProjStepIdeal.nD,
      r.2.mem ((c.tc : Thread Cert.ProjStepIdeal.nD Cert.ProjStepIdeal.τ).loc Cert.ProjStepIdeal.main_arg0) = m ((c.tc : Thread Cert.ProjStepIdeal.nD Cert.ProjStepIdeal.τ).loc Cert.ProjStepIdeal.main_arg0)
      ∧ r.2.mem ((c.tc : Thread Cert.ProjStepIdeal.nD Cert.ProjStepIdeal.τ).loc Cert.ProjStepIdeal.main_arg1) = m ((c.tc : Thread Cert.ProjStepIdeal.nD Cert.ProjStepIdeal.τ).loc Cert.ProjStepIdeal.main_arg1)
      ∧ r.2.mem ((c.tc : Thread Cert.ProjStepIdeal.nD Cert.ProjStepIdeal.τ).loc Cert.ProjStepIdeal.main_arg2) = m ((c.tc : Thread Cert.ProjStepIdeal.nD Cert.ProjStepIdeal.τ).loc Cert.ProjStepIdeal.main_arg2))
      ∧ r.2.sem = fun _ => 0)

def quiescent_RefProjStepIdeal [hRefProjStepIdeal : Cert.RefProjStepIdeal.Facts] : Prop :=
  ∀ (m : (ℓ : Loc Cert.RefProjStepIdeal.nD Cert.RefProjStepIdeal.τ Cert.RefProjStepIdeal.sig) → Buf (Elt Ideal) ℓ) (g : Dev Cert.RefProjStepIdeal.nD → PrngReg), Pre_RefProjStepIdeal m →
    θ_run (Cert.RefProjStepIdeal.defs (F := Ideal)) (onTc (τ := Cert.RefProjStepIdeal.τ) (Cert.RefProjStepIdeal.main (F := Ideal))) ⟨m, fun _ => 0, g⟩ (fun r => (∀ c : Dev Cert.RefProjStepIdeal.nD,
      r.2.mem ((c.tc : Thread Cert.RefProjStepIdeal.nD Cert.RefProjStepIdeal.τ).loc Cert.RefProjStepIdeal.main_arg0) = m ((c.tc : Thread Cert.RefProjStepIdeal.nD Cert.RefProjStepIdeal.τ).loc Cert.RefProjStepIdeal.main_arg0)
      ∧ r.2.mem ((c.tc : Thread Cert.RefProjStepIdeal.nD Cert.RefProjStepIdeal.τ).loc Cert.RefProjStepIdeal.main_arg1) = m ((c.tc : Thread Cert.RefProjStepIdeal.nD Cert.RefProjStepIdeal.τ).loc Cert.RefProjStepIdeal.main_arg1)
      ∧ r.2.mem ((c.tc : Thread Cert.RefProjStepIdeal.nD Cert.RefProjStepIdeal.τ).loc Cert.RefProjStepIdeal.main_arg2) = m ((c.tc : Thread Cert.RefProjStepIdeal.nD Cert.RefProjStepIdeal.τ).loc Cert.RefProjStepIdeal.main_arg2))
      ∧ r.2.sem = fun _ => 0)

def quiescent_AbQkv [hAbQkv : Cert.AbQkv.Facts] : Prop :=
  ∀ (m : (ℓ : Loc Cert.AbQkv.nD Cert.AbQkv.τ Cert.AbQkv.sig) → Buf (Elt Bits) ℓ) (g : Dev Cert.AbQkv.nD → PrngReg), Pre_AbQkv m →
    θ_run (Cert.AbQkv.defs (F := Bits)) (onTc (τ := Cert.AbQkv.τ) (Cert.AbQkv.main (F := Bits))) ⟨m, fun _ => 0, g⟩ (fun r => (∀ c : Dev Cert.AbQkv.nD,
      r.2.mem ((c.tc : Thread Cert.AbQkv.nD Cert.AbQkv.τ).loc Cert.AbQkv.main_arg0) = m ((c.tc : Thread Cert.AbQkv.nD Cert.AbQkv.τ).loc Cert.AbQkv.main_arg0)
      ∧ r.2.mem ((c.tc : Thread Cert.AbQkv.nD Cert.AbQkv.τ).loc Cert.AbQkv.main_arg1) = m ((c.tc : Thread Cert.AbQkv.nD Cert.AbQkv.τ).loc Cert.AbQkv.main_arg1)
      ∧ r.2.mem ((c.tc : Thread Cert.AbQkv.nD Cert.AbQkv.τ).loc Cert.AbQkv.main_arg2) = m ((c.tc : Thread Cert.AbQkv.nD Cert.AbQkv.τ).loc Cert.AbQkv.main_arg2))
      ∧ r.2.sem = fun _ => 0)

def quiescent_AbQkvIdeal [hAbQkvIdeal : Cert.AbQkvIdeal.Facts] : Prop :=
  ∀ (m : (ℓ : Loc Cert.AbQkvIdeal.nD Cert.AbQkvIdeal.τ Cert.AbQkvIdeal.sig) → Buf (Elt Ideal) ℓ) (g : Dev Cert.AbQkvIdeal.nD → PrngReg), Pre_AbQkvIdeal m →
    θ_run (Cert.AbQkvIdeal.defs (F := Ideal)) (onTc (τ := Cert.AbQkvIdeal.τ) (Cert.AbQkvIdeal.main (F := Ideal))) ⟨m, fun _ => 0, g⟩ (fun r => (∀ c : Dev Cert.AbQkvIdeal.nD,
      r.2.mem ((c.tc : Thread Cert.AbQkvIdeal.nD Cert.AbQkvIdeal.τ).loc Cert.AbQkvIdeal.main_arg0) = m ((c.tc : Thread Cert.AbQkvIdeal.nD Cert.AbQkvIdeal.τ).loc Cert.AbQkvIdeal.main_arg0)
      ∧ r.2.mem ((c.tc : Thread Cert.AbQkvIdeal.nD Cert.AbQkvIdeal.τ).loc Cert.AbQkvIdeal.main_arg1) = m ((c.tc : Thread Cert.AbQkvIdeal.nD Cert.AbQkvIdeal.τ).loc Cert.AbQkvIdeal.main_arg1)
      ∧ r.2.mem ((c.tc : Thread Cert.AbQkvIdeal.nD Cert.AbQkvIdeal.τ).loc Cert.AbQkvIdeal.main_arg2) = m ((c.tc : Thread Cert.AbQkvIdeal.nD Cert.AbQkvIdeal.τ).loc Cert.AbQkvIdeal.main_arg2))
      ∧ r.2.sem = fun _ => 0)

def quiescent_AbQkvIdeal_pre_finite_heads [hAbQkvIdeal : Cert.AbQkvIdeal.Facts] [hPre_finite_heads : Cert.Pre_finite_heads.Facts] : Prop :=
  ∀ (m : (ℓ : Loc Cert.AbQkvIdeal.nD Cert.AbQkvIdeal.τ Cert.AbQkvIdeal.sig) → Buf (Elt Ideal) ℓ) (g : Dev Cert.AbQkvIdeal.nD → PrngReg), Pre_AbQkvIdeal_finite_heads m →
    θ_run (Cert.AbQkvIdeal.defs (F := Ideal)) (onTc (τ := Cert.AbQkvIdeal.τ) (Cert.AbQkvIdeal.main (F := Ideal))) ⟨m, fun _ => 0, g⟩ (fun r => (∀ c : Dev Cert.AbQkvIdeal.nD,
      r.2.mem ((c.tc : Thread Cert.AbQkvIdeal.nD Cert.AbQkvIdeal.τ).loc Cert.AbQkvIdeal.main_arg0) = m ((c.tc : Thread Cert.AbQkvIdeal.nD Cert.AbQkvIdeal.τ).loc Cert.AbQkvIdeal.main_arg0)
      ∧ r.2.mem ((c.tc : Thread Cert.AbQkvIdeal.nD Cert.AbQkvIdeal.τ).loc Cert.AbQkvIdeal.main_arg1) = m ((c.tc : Thread Cert.AbQkvIdeal.nD Cert.AbQkvIdeal.τ).loc Cert.AbQkvIdeal.main_arg1)
      ∧ r.2.mem ((c.tc : Thread Cert.AbQkvIdeal.nD Cert.AbQkvIdeal.τ).loc Cert.AbQkvIdeal.main_arg2) = m ((c.tc : Thread Cert.AbQkvIdeal.nD Cert.AbQkvIdeal.τ).loc Cert.AbQkvIdeal.main_arg2))
      ∧ r.2.sem = fun _ => 0)

def quiescent_RefAbQkvIdeal [hRefAbQkvIdeal : Cert.RefAbQkvIdeal.Facts] : Prop :=
  ∀ (m : (ℓ : Loc Cert.RefAbQkvIdeal.nD Cert.RefAbQkvIdeal.τ Cert.RefAbQkvIdeal.sig) → Buf (Elt Ideal) ℓ) (g : Dev Cert.RefAbQkvIdeal.nD → PrngReg), Pre_RefAbQkvIdeal m →
    θ_run (Cert.RefAbQkvIdeal.defs (F := Ideal)) (onTc (τ := Cert.RefAbQkvIdeal.τ) (Cert.RefAbQkvIdeal.main (F := Ideal))) ⟨m, fun _ => 0, g⟩ (fun r => (∀ c : Dev Cert.RefAbQkvIdeal.nD,
      r.2.mem ((c.tc : Thread Cert.RefAbQkvIdeal.nD Cert.RefAbQkvIdeal.τ).loc Cert.RefAbQkvIdeal.main_arg0) = m ((c.tc : Thread Cert.RefAbQkvIdeal.nD Cert.RefAbQkvIdeal.τ).loc Cert.RefAbQkvIdeal.main_arg0)
      ∧ r.2.mem ((c.tc : Thread Cert.RefAbQkvIdeal.nD Cert.RefAbQkvIdeal.τ).loc Cert.RefAbQkvIdeal.main_arg1) = m ((c.tc : Thread Cert.RefAbQkvIdeal.nD Cert.RefAbQkvIdeal.τ).loc Cert.RefAbQkvIdeal.main_arg1)
      ∧ r.2.mem ((c.tc : Thread Cert.RefAbQkvIdeal.nD Cert.RefAbQkvIdeal.τ).loc Cert.RefAbQkvIdeal.main_arg2) = m ((c.tc : Thread Cert.RefAbQkvIdeal.nD Cert.RefAbQkvIdeal.τ).loc Cert.RefAbQkvIdeal.main_arg2))
      ∧ r.2.sem = fun _ => 0)

def quiescent_RefAbQkvIdeal_pre_finite_heads [hRefAbQkvIdeal : Cert.RefAbQkvIdeal.Facts] [hPre_finite_heads : Cert.Pre_finite_heads.Facts] : Prop :=
  ∀ (m : (ℓ : Loc Cert.RefAbQkvIdeal.nD Cert.RefAbQkvIdeal.τ Cert.RefAbQkvIdeal.sig) → Buf (Elt Ideal) ℓ) (g : Dev Cert.RefAbQkvIdeal.nD → PrngReg), Pre_RefAbQkvIdeal_finite_heads m →
    θ_run (Cert.RefAbQkvIdeal.defs (F := Ideal)) (onTc (τ := Cert.RefAbQkvIdeal.τ) (Cert.RefAbQkvIdeal.main (F := Ideal))) ⟨m, fun _ => 0, g⟩ (fun r => (∀ c : Dev Cert.RefAbQkvIdeal.nD,
      r.2.mem ((c.tc : Thread Cert.RefAbQkvIdeal.nD Cert.RefAbQkvIdeal.τ).loc Cert.RefAbQkvIdeal.main_arg0) = m ((c.tc : Thread Cert.RefAbQkvIdeal.nD Cert.RefAbQkvIdeal.τ).loc Cert.RefAbQkvIdeal.main_arg0)
      ∧ r.2.mem ((c.tc : Thread Cert.RefAbQkvIdeal.nD Cert.RefAbQkvIdeal.τ).loc Cert.RefAbQkvIdeal.main_arg1) = m ((c.tc : Thread Cert.RefAbQkvIdeal.nD Cert.RefAbQkvIdeal.τ).loc Cert.RefAbQkvIdeal.main_arg1)
      ∧ r.2.mem ((c.tc : Thread Cert.RefAbQkvIdeal.nD Cert.RefAbQkvIdeal.τ).loc Cert.RefAbQkvIdeal.main_arg2) = m ((c.tc : Thread Cert.RefAbQkvIdeal.nD Cert.RefAbQkvIdeal.τ).loc Cert.RefAbQkvIdeal.main_arg2))
      ∧ r.2.sem = fun _ => 0)

def quiescent_ConvStep [hConvStep : Cert.ConvStep.Facts] : Prop :=
  ∀ (m : (ℓ : Loc Cert.ConvStep.nD Cert.ConvStep.τ Cert.ConvStep.sig) → Buf (Elt Bits) ℓ) (g : Dev Cert.ConvStep.nD → PrngReg), Pre_ConvStep m →
    θ_run (Cert.ConvStep.defs (F := Bits)) (onTc (τ := Cert.ConvStep.τ) (Cert.ConvStep.main (F := Bits))) ⟨m, fun _ => 0, g⟩ (fun r => (∀ c : Dev Cert.ConvStep.nD,
      r.2.mem ((c.tc : Thread Cert.ConvStep.nD Cert.ConvStep.τ).loc Cert.ConvStep.main_arg0) = m ((c.tc : Thread Cert.ConvStep.nD Cert.ConvStep.τ).loc Cert.ConvStep.main_arg0)
      ∧ r.2.mem ((c.tc : Thread Cert.ConvStep.nD Cert.ConvStep.τ).loc Cert.ConvStep.main_arg1) = m ((c.tc : Thread Cert.ConvStep.nD Cert.ConvStep.τ).loc Cert.ConvStep.main_arg1)
      ∧ r.2.mem ((c.tc : Thread Cert.ConvStep.nD Cert.ConvStep.τ).loc Cert.ConvStep.main_arg2) = m ((c.tc : Thread Cert.ConvStep.nD Cert.ConvStep.τ).loc Cert.ConvStep.main_arg2)
      ∧ r.2.mem ((c.tc : Thread Cert.ConvStep.nD Cert.ConvStep.τ).loc Cert.ConvStep.main_arg3) = m ((c.tc : Thread Cert.ConvStep.nD Cert.ConvStep.τ).loc Cert.ConvStep.main_arg3)
      ∧ r.2.mem ((c.tc : Thread Cert.ConvStep.nD Cert.ConvStep.τ).loc Cert.ConvStep.main_arg4) = m ((c.tc : Thread Cert.ConvStep.nD Cert.ConvStep.τ).loc Cert.ConvStep.main_arg4)
      ∧ r.2.mem ((c.tc : Thread Cert.ConvStep.nD Cert.ConvStep.τ).loc Cert.ConvStep.main_arg5) = m ((c.tc : Thread Cert.ConvStep.nD Cert.ConvStep.τ).loc Cert.ConvStep.main_arg5))
      ∧ r.2.sem = fun _ => 0)

def quiescent_ConvStepIdeal [hConvStepIdeal : Cert.ConvStepIdeal.Facts] : Prop :=
  ∀ (m : (ℓ : Loc Cert.ConvStepIdeal.nD Cert.ConvStepIdeal.τ Cert.ConvStepIdeal.sig) → Buf (Elt Ideal) ℓ) (g : Dev Cert.ConvStepIdeal.nD → PrngReg), Pre_ConvStepIdeal m →
    θ_run (Cert.ConvStepIdeal.defs (F := Ideal)) (onTc (τ := Cert.ConvStepIdeal.τ) (Cert.ConvStepIdeal.main (F := Ideal))) ⟨m, fun _ => 0, g⟩ (fun r => (∀ c : Dev Cert.ConvStepIdeal.nD,
      r.2.mem ((c.tc : Thread Cert.ConvStepIdeal.nD Cert.ConvStepIdeal.τ).loc Cert.ConvStepIdeal.main_arg0) = m ((c.tc : Thread Cert.ConvStepIdeal.nD Cert.ConvStepIdeal.τ).loc Cert.ConvStepIdeal.main_arg0)
      ∧ r.2.mem ((c.tc : Thread Cert.ConvStepIdeal.nD Cert.ConvStepIdeal.τ).loc Cert.ConvStepIdeal.main_arg1) = m ((c.tc : Thread Cert.ConvStepIdeal.nD Cert.ConvStepIdeal.τ).loc Cert.ConvStepIdeal.main_arg1)
      ∧ r.2.mem ((c.tc : Thread Cert.ConvStepIdeal.nD Cert.ConvStepIdeal.τ).loc Cert.ConvStepIdeal.main_arg2) = m ((c.tc : Thread Cert.ConvStepIdeal.nD Cert.ConvStepIdeal.τ).loc Cert.ConvStepIdeal.main_arg2)
      ∧ r.2.mem ((c.tc : Thread Cert.ConvStepIdeal.nD Cert.ConvStepIdeal.τ).loc Cert.ConvStepIdeal.main_arg3) = m ((c.tc : Thread Cert.ConvStepIdeal.nD Cert.ConvStepIdeal.τ).loc Cert.ConvStepIdeal.main_arg3)
      ∧ r.2.mem ((c.tc : Thread Cert.ConvStepIdeal.nD Cert.ConvStepIdeal.τ).loc Cert.ConvStepIdeal.main_arg4) = m ((c.tc : Thread Cert.ConvStepIdeal.nD Cert.ConvStepIdeal.τ).loc Cert.ConvStepIdeal.main_arg4)
      ∧ r.2.mem ((c.tc : Thread Cert.ConvStepIdeal.nD Cert.ConvStepIdeal.τ).loc Cert.ConvStepIdeal.main_arg5) = m ((c.tc : Thread Cert.ConvStepIdeal.nD Cert.ConvStepIdeal.τ).loc Cert.ConvStepIdeal.main_arg5))
      ∧ r.2.sem = fun _ => 0)

def quiescent_RefConvStepIdeal [hRefConvStepIdeal : Cert.RefConvStepIdeal.Facts] : Prop :=
  ∀ (m : (ℓ : Loc Cert.RefConvStepIdeal.nD Cert.RefConvStepIdeal.τ Cert.RefConvStepIdeal.sig) → Buf (Elt Ideal) ℓ) (g : Dev Cert.RefConvStepIdeal.nD → PrngReg), Pre_RefConvStepIdeal m →
    θ_run (Cert.RefConvStepIdeal.defs (F := Ideal)) (onTc (τ := Cert.RefConvStepIdeal.τ) (Cert.RefConvStepIdeal.main (F := Ideal))) ⟨m, fun _ => 0, g⟩ (fun r => (∀ c : Dev Cert.RefConvStepIdeal.nD,
      r.2.mem ((c.tc : Thread Cert.RefConvStepIdeal.nD Cert.RefConvStepIdeal.τ).loc Cert.RefConvStepIdeal.main_arg0) = m ((c.tc : Thread Cert.RefConvStepIdeal.nD Cert.RefConvStepIdeal.τ).loc Cert.RefConvStepIdeal.main_arg0)
      ∧ r.2.mem ((c.tc : Thread Cert.RefConvStepIdeal.nD Cert.RefConvStepIdeal.τ).loc Cert.RefConvStepIdeal.main_arg1) = m ((c.tc : Thread Cert.RefConvStepIdeal.nD Cert.RefConvStepIdeal.τ).loc Cert.RefConvStepIdeal.main_arg1)
      ∧ r.2.mem ((c.tc : Thread Cert.RefConvStepIdeal.nD Cert.RefConvStepIdeal.τ).loc Cert.RefConvStepIdeal.main_arg2) = m ((c.tc : Thread Cert.RefConvStepIdeal.nD Cert.RefConvStepIdeal.τ).loc Cert.RefConvStepIdeal.main_arg2)
      ∧ r.2.mem ((c.tc : Thread Cert.RefConvStepIdeal.nD Cert.RefConvStepIdeal.τ).loc Cert.RefConvStepIdeal.main_arg3) = m ((c.tc : Thread Cert.RefConvStepIdeal.nD Cert.RefConvStepIdeal.τ).loc Cert.RefConvStepIdeal.main_arg3)
      ∧ r.2.mem ((c.tc : Thread Cert.RefConvStepIdeal.nD Cert.RefConvStepIdeal.τ).loc Cert.RefConvStepIdeal.main_arg4) = m ((c.tc : Thread Cert.RefConvStepIdeal.nD Cert.RefConvStepIdeal.τ).loc Cert.RefConvStepIdeal.main_arg4)
      ∧ r.2.mem ((c.tc : Thread Cert.RefConvStepIdeal.nD Cert.RefConvStepIdeal.τ).loc Cert.RefConvStepIdeal.main_arg5) = m ((c.tc : Thread Cert.RefConvStepIdeal.nD Cert.RefConvStepIdeal.τ).loc Cert.RefConvStepIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_RefConvIdeal [hRefConvIdeal : Cert.RefConvIdeal.Facts] : Prop :=
  ∀ (m : (ℓ : Loc Cert.RefConvIdeal.nD Cert.RefConvIdeal.τ Cert.RefConvIdeal.sig) → Buf (Elt Ideal) ℓ) (g : Dev Cert.RefConvIdeal.nD → PrngReg), Pre_RefConvIdeal m →
    θ_run (Cert.RefConvIdeal.defs (F := Ideal)) (onTc (τ := Cert.RefConvIdeal.τ) (Cert.RefConvIdeal.main (F := Ideal))) ⟨m, fun _ => 0, g⟩ (fun r => (∀ c : Dev Cert.RefConvIdeal.nD,
      r.2.mem ((c.tc : Thread Cert.RefConvIdeal.nD Cert.RefConvIdeal.τ).loc Cert.RefConvIdeal.main_arg0) = m ((c.tc : Thread Cert.RefConvIdeal.nD Cert.RefConvIdeal.τ).loc Cert.RefConvIdeal.main_arg0)
      ∧ r.2.mem ((c.tc : Thread Cert.RefConvIdeal.nD Cert.RefConvIdeal.τ).loc Cert.RefConvIdeal.main_arg1) = m ((c.tc : Thread Cert.RefConvIdeal.nD Cert.RefConvIdeal.τ).loc Cert.RefConvIdeal.main_arg1)
      ∧ r.2.mem ((c.tc : Thread Cert.RefConvIdeal.nD Cert.RefConvIdeal.τ).loc Cert.RefConvIdeal.main_arg2) = m ((c.tc : Thread Cert.RefConvIdeal.nD Cert.RefConvIdeal.τ).loc Cert.RefConvIdeal.main_arg2)
      ∧ r.2.mem ((c.tc : Thread Cert.RefConvIdeal.nD Cert.RefConvIdeal.τ).loc Cert.RefConvIdeal.main_arg3) = m ((c.tc : Thread Cert.RefConvIdeal.nD Cert.RefConvIdeal.τ).loc Cert.RefConvIdeal.main_arg3)
      ∧ r.2.mem ((c.tc : Thread Cert.RefConvIdeal.nD Cert.RefConvIdeal.τ).loc Cert.RefConvIdeal.main_arg4) = m ((c.tc : Thread Cert.RefConvIdeal.nD Cert.RefConvIdeal.τ).loc Cert.RefConvIdeal.main_arg4)
      ∧ r.2.mem ((c.tc : Thread Cert.RefConvIdeal.nD Cert.RefConvIdeal.τ).loc Cert.RefConvIdeal.main_arg5) = m ((c.tc : Thread Cert.RefConvIdeal.nD Cert.RefConvIdeal.τ).loc Cert.RefConvIdeal.main_arg5))
      ∧ r.2.sem = fun _ => 0)

def preserves_Ffn_FfnIdeal : Prop :=
  True

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)
      ∧ m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4)
      ∧ m' ((c.tc : Thread Cert.RefFfnIdeal.nD Cert.RefFfnIdeal.τ).loc Cert.RefFfnIdeal.main_arg5) = m ((c.tc : Thread Cert.FfnIdeal.nD Cert.FfnIdeal.τ).loc Cert.FfnIdeal.main_arg5)
      ∧ m' ((c.tc : Thread Cert.RefFfnIdeal.nD Cert.RefFfnIdeal.τ).loc Cert.RefFfnIdeal.main_arg6) = m ((c.tc : Thread Cert.FfnIdeal.nD Cert.FfnIdeal.τ).loc Cert.FfnIdeal.main_arg6)
      ∧ m' ((c.tc : Thread Cert.RefFfnIdeal.nD Cert.RefFfnIdeal.τ).loc Cert.RefFfnIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v23) = v0 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4)
          ∧ r.2.mem ((c.tc : Thread Cert.RefFfnIdeal.nD Cert.RefFfnIdeal.τ).loc Cert.RefFfnIdeal.main_arg5) = m' ((c.tc : Thread Cert.RefFfnIdeal.nD Cert.RefFfnIdeal.τ).loc Cert.RefFfnIdeal.main_arg5)
          ∧ r.2.mem ((c.tc : Thread Cert.RefFfnIdeal.nD Cert.RefFfnIdeal.τ).loc Cert.RefFfnIdeal.main_arg6) = m' ((c.tc : Thread Cert.RefFfnIdeal.nD Cert.RefFfnIdeal.τ).loc Cert.RefFfnIdeal.main_arg6)
          ∧ r.2.mem ((c.tc : Thread Cert.RefFfnIdeal.nD Cert.RefFfnIdeal.τ).loc Cert.RefFfnIdeal.main_arg7) = m' ((c.tc : Thread Cert.RefFfnIdeal.nD Cert.RefFfnIdeal.τ).loc Cert.RefFfnIdeal.main_arg7))

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)
      ∧ m' ((c.tc : Thread Cert.RefProjIdeal.nD Cert.RefProjIdeal.τ).loc Cert.RefProjIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v13) = v0 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1)
          ∧ r.2.mem ((c.tc : Thread Cert.RefProjIdeal.nD Cert.RefProjIdeal.τ).loc Cert.RefProjIdeal.main_arg2) = m' ((c.tc : Thread Cert.RefProjIdeal.nD Cert.RefProjIdeal.τ).loc Cert.RefProjIdeal.main_arg2))

def preserves_FfnCd_FfnCdIdeal : Prop :=
  True

def algebraic_FfnCdIdeal_RefFfnCdIdeal [hFfnCdIdeal : Cert.FfnCdIdeal.Facts] [hRefFfnCdIdeal : Cert.RefFfnCdIdeal.Facts] : Prop :=
  ∀ (m : (ℓ : Loc Cert.FfnCdIdeal.nD Cert.FfnCdIdeal.τ Cert.FfnCdIdeal.sig) → Buf (Elt Ideal) ℓ) (g : Dev Cert.FfnCdIdeal.nD → PrngReg)
    (m' : (ℓ : Loc Cert.RefFfnCdIdeal.nD Cert.RefFfnCdIdeal.τ Cert.RefFfnCdIdeal.sig) → Buf (Elt Ideal) ℓ) (g' : Dev Cert.RefFfnCdIdeal.nD → PrngReg), Pre_FfnCdIdeal m →
    (∀ c : Dev Cert.FfnCdIdeal.nD,
      m' ((c.tc : Thread Cert.RefFfnCdIdeal.nD Cert.RefFfnCdIdeal.τ).loc Cert.RefFfnCdIdeal.main_arg0) = m ((c.tc : Thread Cert.FfnCdIdeal.nD Cert.FfnCdIdeal.τ).loc Cert.FfnCdIdeal.main_arg0)
      ∧ m' ((c.tc : Thread Cert.RefFfnCdIdeal.nD Cert.RefFfnCdIdeal.τ).loc Cert.RefFfnCdIdeal.main_arg1) = m ((c.tc : Thread Cert.FfnCdIdeal.nD Cert.FfnCdIdeal.τ).loc Cert.FfnCdIdeal.main_arg1)
      ∧ m' ((c.tc : Thread Cert.RefFfnCdIdeal.nD Cert.RefFfnCdIdeal.τ).loc Cert.RefFfnCdIdeal.main_arg2) = m ((c.tc : Thread Cert.FfnCdIdeal.nD Cert.FfnCdIdeal.τ).loc Cert.FfnCdIdeal.main_arg2)
      ∧ m' ((c.tc : Thread Cert.RefFfnCdIdeal.nD Cert.RefFfnCdIdeal.τ).loc Cert.RefFfnCdIdeal.main_arg3) = m ((c.tc : Thread Cert.FfnCdIdeal.nD Cert.FfnCdIdeal.τ).loc Cert.FfnCdIdeal.main_arg3)
      ∧ m' ((c.tc : Thread Cert.RefFfnCdIdeal.nD Cert.RefFfnCdIdeal.τ).loc Cert.RefFfnCdIdeal.main_arg4) = m ((c.tc : Thread Cert.FfnCdIdeal.nD Cert.FfnCdIdeal.τ).loc Cert.FfnCdIdeal.main_arg4)
      ∧ m' ((c.tc : Thread Cert.RefFfnCdIdeal.nD Cert.RefFfnCdIdeal.τ).loc Cert.RefFfnCdIdeal.main_arg5) = m ((c.tc : Thread Cert.FfnCdIdeal.nD Cert.FfnCdIdeal.τ).loc Cert.FfnCdIdeal.main_arg5)
      ∧ m' ((c.tc : Thread Cert.RefFfnCdIdeal.nD Cert.RefFfnCdIdeal.τ).loc Cert.RefFfnCdIdeal.main_arg6) = m ((c.tc : Thread Cert.FfnCdIdeal.nD Cert.FfnCdIdeal.τ).loc Cert.FfnCdIdeal.main_arg6)
      ∧ m' ((c.tc : Thread Cert.RefFfnCdIdeal.nD Cert.RefFfnCdIdeal.τ).loc Cert.RefFfnCdIdeal.main_arg7) = m ((c.tc : Thread Cert.FfnCdIdeal.nD Cert.FfnCdIdeal.τ).loc Cert.FfnCdIdeal.main_arg7)) →
    ∃ (v0 : (c : Dev Cert.FfnCdIdeal.nD) → Buf (Elt Ideal) ((c.tc : Thread Cert.FfnCdIdeal.nD Cert.FfnCdIdeal.τ).loc Cert.FfnCdIdeal.main_v7)),
      θ_run (Cert.FfnCdIdeal.defs (F := Ideal)) (onTc (τ := Cert.FfnCdIdeal.τ) (Cert.FfnCdIdeal.main (F := Ideal))) ⟨m, fun _ => 0, g⟩ (fun r => ∀ c : Dev Cert.FfnCdIdeal.nD,
          r.2.mem ((c.tc : Thread Cert.FfnCdIdeal.nD Cert.FfnCdIdeal.τ).loc Cert.FfnCdIdeal.main_v7) = v0 c
          ∧ r.2.mem ((c.tc : Thread Cert.FfnCdIdeal.nD Cert.FfnCdIdeal.τ).loc Cert.FfnCdIdeal.main_arg0) = m ((c.tc : Thread Cert.FfnCdIdeal.nD Cert.FfnCdIdeal.τ).loc Cert.FfnCdIdeal.main_arg0)
          ∧ r.2.mem ((c.tc : Thread Cert.FfnCdIdeal.nD Cert.FfnCdIdeal.τ).loc Cert.FfnCdIdeal.main_arg1) = m ((c.tc : Thread Cert.FfnCdIdeal.nD Cert.FfnCdIdeal.τ).loc Cert.FfnCdIdeal.main_arg1)
          ∧ r.2.mem ((c.tc : Thread Cert.FfnCdIdeal.nD Cert.FfnCdIdeal.τ).loc Cert.FfnCdIdeal.main_arg2) = m ((c.tc : Thread Cert.FfnCdIdeal.nD Cert.FfnCdIdeal.τ).loc Cert.FfnCdIdeal.main_arg2)
          ∧ r.2.mem ((c.tc : Thread Cert.FfnCdIdeal.nD Cert.FfnCdIdeal.τ).loc Cert.FfnCdIdeal.main_arg3) = m ((c.tc : Thread Cert.FfnCdIdeal.nD Cert.FfnCdIdeal.τ).loc Cert.FfnCdIdeal.main_arg3)
          ∧ r.2.mem ((c.tc : Thread Cert.FfnCdIdeal.nD Cert.FfnCdIdeal.τ).loc Cert.FfnCdIdeal.main_arg4) = m ((c.tc : Thread Cert.FfnCdIdeal.nD Cert.FfnCdIdeal.τ).loc Cert.FfnCdIdeal.main_arg4)
          ∧ r.2.mem ((c.tc : Thread Cert.FfnCdIdeal.nD Cert.FfnCdIdeal.τ).loc Cert.FfnCdIdeal.main_arg5) = m ((c.tc : Thread Cert.FfnCdIdeal.nD Cert.FfnCdIdeal.τ).loc Cert.FfnCdIdeal.main_arg5)
          ∧ r.2.mem ((c.tc : Thread Cert.FfnCdIdeal.nD Cert.FfnCdIdeal.τ).loc Cert.FfnCdIdeal.main_arg6) = m ((c.tc : Thread Cert.FfnCdIdeal.nD Cert.FfnCdIdeal.τ).loc Cert.FfnCdIdeal.main_arg6)
          ∧ r.2.mem ((c.tc : Thread Cert.FfnCdIdeal.nD Cert.FfnCdIdeal.τ).loc Cert.FfnCdIdeal.main_arg7) = m ((c.tc : Thread Cert.FfnCdIdeal.nD Cert.FfnCdIdeal.τ).loc Cert.FfnCdIdeal.main_arg7))
      ∧ θ_run (Cert.RefFfnCdIdeal.defs (F := Ideal)) (onTc (τ := Cert.RefFfnCdIdeal.τ) (Cert.RefFfnCdIdeal.main (F := Ideal))) ⟨m', fun _ => 0, g'⟩ (fun r => ∀ c : Dev Cert.RefFfnCdIdeal.nD,
          r.2.mem ((c.tc : Thread Cert.RefFfnCdIdeal.nD Cert.RefFfnCdIdeal.τ).loc Cert.RefFfnCdIdeal.main_v23) = v0 c
          ∧ r.2.mem ((c.tc : Thread Cert.RefFfnCdIdeal.nD Cert.RefFfnCdIdeal.τ).loc Cert.RefFfnCdIdeal.main_arg0) = m' ((c.tc : Thread Cert.RefFfnCdIdeal.nD Cert.RefFfnCdIdeal.τ).loc Cert.RefFfnCdIdeal.main_arg0)
          ∧ r.2.mem ((c.tc : Thread Cert.RefFfnCdIdeal.nD Cert.RefFfnCdIdeal.τ).loc Cert.RefFfnCdIdeal.main_arg1) = m' ((c.tc : Thread Cert.RefFfnCdIdeal.nD Cert.RefFfnCdIdeal.τ).loc Cert.RefFfnCdIdeal.main_arg1)
          ∧ r.2.mem ((c.tc : Thread Cert.RefFfnCdIdeal.nD Cert.RefFfnCdIdeal.τ).loc Cert.RefFfnCdIdeal.main_arg2) = m' ((c.tc : Thread Cert.RefFfnCdIdeal.nD Cert.RefFfnCdIdeal.τ).loc Cert.RefFfnCdIdeal.main_arg2)
          ∧ r.2.mem ((c.tc : Thread Cert.RefFfnCdIdeal.nD Cert.RefFfnCdIdeal.τ).loc Cert.RefFfnCdIdeal.main_arg3) = m' ((c.tc : Thread Cert.RefFfnCdIdeal.nD Cert.RefFfnCdIdeal.τ).loc Cert.RefFfnCdIdeal.main_arg3)
          ∧ r.2.mem ((c.tc : Thread Cert.RefFfnCdIdeal.nD Cert.RefFfnCdIdeal.τ).loc Cert.RefFfnCdIdeal.main_arg4) = m' ((c.tc : Thread Cert.RefFfnCdIdeal.nD Cert.RefFfnCdIdeal.τ).loc Cert.RefFfnCdIdeal.main_arg4)
          ∧ r.2.mem ((c.tc : Thread Cert.RefFfnCdIdeal.nD Cert.RefFfnCdIdeal.τ).loc Cert.RefFfnCdIdeal.main_arg5) = m' ((c.tc : Thread Cert.RefFfnCdIdeal.nD Cert.RefFfnCdIdeal.τ).loc Cert.RefFfnCdIdeal.main_arg5)
          ∧ r.2.mem ((c.tc : Thread Cert.RefFfnCdIdeal.nD Cert.RefFfnCdIdeal.τ).loc Cert.RefFfnCdIdeal.main_arg6) = m' ((c.tc : Thread Cert.RefFfnCdIdeal.nD Cert.RefFfnCdIdeal.τ).loc Cert.RefFfnCdIdeal.main_arg6)
          ∧ r.2.mem ((c.tc : Thread Cert.RefFfnCdIdeal.nD Cert.RefFfnCdIdeal.τ).loc Cert.RefFfnCdIdeal.main_arg7) = m' ((c.tc : Thread Cert.RefFfnCdIdeal.nD Cert.RefFfnCdIdeal.τ).loc Cert.RefFfnCdIdeal.main_arg7))

def preserves_ProjCd_ProjCdIdeal : Prop :=
  True

def algebraic_ProjCdIdeal_RefProjCdIdeal [hProjCdIdeal : Cert.ProjCdIdeal.Facts] [hRefProjCdIdeal : Cert.RefProjCdIdeal.Facts] : Prop :=
  ∀ (m : (ℓ : Loc Cert.ProjCdIdeal.nD Cert.ProjCdIdeal.τ Cert.ProjCdIdeal.sig) → Buf (Elt Ideal) ℓ) (g : Dev Cert.ProjCdIdeal.nD → PrngReg)
    (m' : (ℓ : Loc Cert.RefProjCdIdeal.nD Cert.RefProjCdIdeal.τ Cert.RefProjCdIdeal.sig) → Buf (Elt Ideal) ℓ) (g' : Dev Cert.RefProjCdIdeal.nD → PrngReg), Pre_ProjCdIdeal m →
    (∀ c : Dev Cert.ProjCdIdeal.nD,
      m' ((c.tc : Thread Cert.RefProjCdIdeal.nD Cert.RefProjCdIdeal.τ).loc Cert.RefProjCdIdeal.main_arg0) = m ((c.tc : Thread Cert.ProjCdIdeal.nD Cert.ProjCdIdeal.τ).loc Cert.ProjCdIdeal.main_arg0)
      ∧ m' ((c.tc : Thread Cert.RefProjCdIdeal.nD Cert.RefProjCdIdeal.τ).loc Cert.RefProjCdIdeal.main_arg1) = m ((c.tc : Thread Cert.ProjCdIdeal.nD Cert.ProjCdIdeal.τ).loc Cert.ProjCdIdeal.main_arg1)
      ∧ m' ((c.tc : Thread Cert.RefProjCdIdeal.nD Cert.RefProjCdIdeal.τ).loc Cert.RefProjCdIdeal.main_arg2) = m ((c.tc : Thread Cert.ProjCdIdeal.nD Cert.ProjCdIdeal.τ).loc Cert.ProjCdIdeal.main_arg2)) →
    ∃ (v0 : (c : Dev Cert.ProjCdIdeal.nD) → Buf (Elt Ideal) ((c.tc : Thread Cert.ProjCdIdeal.nD Cert.ProjCdIdeal.τ).loc Cert.ProjCdIdeal.main_v2)),
      θ_run (Cert.ProjCdIdeal.defs (F := Ideal)) (onTc (τ := Cert.ProjCdIdeal.τ) (Cert.ProjCdIdeal.main (F := Ideal))) ⟨m, fun _ => 0, g⟩ (fun r => ∀ c : Dev Cert.ProjCdIdeal.nD,
          r.2.mem ((c.tc : Thread Cert.ProjCdIdeal.nD Cert.ProjCdIdeal.τ).loc Cert.ProjCdIdeal.main_v2) = v0 c
          ∧ r.2.mem ((c.tc : Thread Cert.ProjCdIdeal.nD Cert.ProjCdIdeal.τ).loc Cert.ProjCdIdeal.main_arg0) = m ((c.tc : Thread Cert.ProjCdIdeal.nD Cert.ProjCdIdeal.τ).loc Cert.ProjCdIdeal.main_arg0)
          ∧ r.2.mem ((c.tc : Thread Cert.ProjCdIdeal.nD Cert.ProjCdIdeal.τ).loc Cert.ProjCdIdeal.main_arg1) = m ((c.tc : Thread Cert.ProjCdIdeal.nD Cert.ProjCdIdeal.τ).loc Cert.ProjCdIdeal.main_arg1)
          ∧ r.2.mem ((c.tc : Thread Cert.ProjCdIdeal.nD Cert.ProjCdIdeal.τ).loc Cert.ProjCdIdeal.main_arg2) = m ((c.tc : Thread Cert.ProjCdIdeal.nD Cert.ProjCdIdeal.τ).loc Cert.ProjCdIdeal.main_arg2))
      ∧ θ_run (Cert.RefProjCdIdeal.defs (F := Ideal)) (onTc (τ := Cert.RefProjCdIdeal.τ) (Cert.RefProjCdIdeal.main (F := Ideal))) ⟨m', fun _ => 0, g'⟩ (fun r => ∀ c : Dev Cert.RefProjCdIdeal.nD,
          r.2.mem ((c.tc : Thread Cert.RefProjCdIdeal.nD Cert.RefProjCdIdeal.τ).loc Cert.RefProjCdIdeal.main_v13) = v0 c
          ∧ r.2.mem ((c.tc : Thread Cert.RefProjCdIdeal.nD Cert.RefProjCdIdeal.τ).loc Cert.RefProjCdIdeal.main_arg0) = m' ((c.tc : Thread Cert.RefProjCdIdeal.nD Cert.RefProjCdIdeal.τ).loc Cert.RefProjCdIdeal.main_arg0)
          ∧ r.2.mem ((c.tc : Thread Cert.RefProjCdIdeal.nD Cert.RefProjCdIdeal.τ).loc Cert.RefProjCdIdeal.main_arg1) = m' ((c.tc : Thread Cert.RefProjCdIdeal.nD Cert.RefProjCdIdeal.τ).loc Cert.RefProjCdIdeal.main_arg1)
          ∧ r.2.mem ((c.tc : Thread Cert.RefProjCdIdeal.nD Cert.RefProjCdIdeal.τ).loc Cert.RefProjCdIdeal.main_arg2) = m' ((c.tc : Thread Cert.RefProjCdIdeal.nD Cert.RefProjCdIdeal.τ).loc Cert.RefProjCdIdeal.main_arg2))

def preserves_Win0_Win0Ideal : Prop :=
  IdealRules.named_const.Statement Cert.Win0Ideal.κ "neg" .f32 0xF149F2CA#32 ⊥

def algebraic_Win0Ideal_RefWin0Ideal_pre_finite_scores [hWin0Ideal : Cert.Win0Ideal.Facts] [hRefWin0Ideal : Cert.RefWin0Ideal.Facts] [hPre_finite_scores : Cert.Pre_finite_scores.Facts] : Prop :=
  ∀ (m : (ℓ : Loc Cert.Win0Ideal.nD Cert.Win0Ideal.τ Cert.Win0Ideal.sig) → Buf (Elt Ideal) ℓ) (g : Dev Cert.Win0Ideal.nD → PrngReg)
    (m' : (ℓ : Loc Cert.RefWin0Ideal.nD Cert.RefWin0Ideal.τ Cert.RefWin0Ideal.sig) → Buf (Elt Ideal) ℓ) (g' : Dev Cert.RefWin0Ideal.nD → PrngReg), Pre_Win0Ideal_finite_scores m →
    (∀ c : Dev Cert.Win0Ideal.nD,
      m' ((c.tc : Thread Cert.RefWin0Ideal.nD Cert.RefWin0Ideal.τ).loc Cert.RefWin0Ideal.main_arg0) = m ((c.tc : Thread Cert.Win0Ideal.nD Cert.Win0Ideal.τ).loc Cert.Win0Ideal.main_arg0)
      ∧ m' ((c.tc : Thread Cert.RefWin0Ideal.nD Cert.RefWin0Ideal.τ).loc Cert.RefWin0Ideal.main_arg1) = m ((c.tc : Thread Cert.Win0Ideal.nD Cert.Win0Ideal.τ).loc Cert.Win0Ideal.main_arg1)
      ∧ m' ((c.tc : Thread Cert.RefWin0Ideal.nD Cert.RefWin0Ideal.τ).loc Cert.RefWin0Ideal.main_arg2) = m ((c.tc : Thread Cert.Win0Ideal.nD Cert.Win0Ideal.τ).loc Cert.Win0Ideal.main_arg2)) →
    ∃ (v0 : (c : Dev Cert.Win0Ideal.nD) → Buf (Elt Ideal) ((c.tc : Thread Cert.Win0Ideal.nD Cert.Win0Ideal.τ).loc Cert.Win0Ideal.main_v5_0)) (v1 : (c : Dev Cert.Win0Ideal.nD) → Buf (Elt Ideal) ((c.tc : Thread Cert.Win0Ideal.nD Cert.Win0Ideal.τ).loc Cert.Win0Ideal.main_v5_1)),
      θ_run (Cert.Win0Ideal.defs (F := Ideal)) (onTc (τ := Cert.Win0Ideal.τ) (Cert.Win0Ideal.main (F := Ideal))) ⟨m, fun _ => 0, g⟩ (fun r => ∀ c : Dev Cert.Win0Ideal.nD,
          r.2.mem ((c.tc : Thread Cert.Win0Ideal.nD Cert.Win0Ideal.τ).loc Cert.Win0Ideal.main_v5_0) = v0 c
          ∧ r.2.mem ((c.tc : Thread Cert.Win0Ideal.nD Cert.Win0Ideal.τ).loc Cert.Win0Ideal.main_v5_1) = v1 c
          ∧ r.2.mem ((c.tc : Thread Cert.Win0Ideal.nD Cert.Win0Ideal.τ).loc Cert.Win0Ideal.main_arg0) = m ((c.tc : Thread Cert.Win0Ideal.nD Cert.Win0Ideal.τ).loc Cert.Win0Ideal.main_arg0)
          ∧ r.2.mem ((c.tc : Thread Cert.Win0Ideal.nD Cert.Win0Ideal.τ).loc Cert.Win0Ideal.main_arg1) = m ((c.tc : Thread Cert.Win0Ideal.nD Cert.Win0Ideal.τ).loc Cert.Win0Ideal.main_arg1)
          ∧ r.2.mem ((c.tc : Thread Cert.Win0Ideal.nD Cert.Win0Ideal.τ).loc Cert.Win0Ideal.main_arg2) = m ((c.tc : Thread Cert.Win0Ideal.nD Cert.Win0Ideal.τ).loc Cert.Win0Ideal.main_arg2))
      ∧ θ_run (Cert.RefWin0Ideal.defs (F := Ideal)) (onTc (τ := Cert.RefWin0Ideal.τ) (Cert.RefWin0Ideal.main (F := Ideal))) ⟨m', fun _ => 0, g'⟩ (fun r => ∀ c : Dev Cert.RefWin0Ideal.nD,
          r.2.mem ((c.tc : Thread Cert.RefWin0Ideal.nD Cert.RefWin0Ideal.τ).loc Cert.RefWin0Ideal.main_v97) = v0 c
          ∧ r.2.mem ((c.tc : Thread Cert.RefWin0Ideal.nD Cert.RefWin0Ideal.τ).loc Cert.RefWin0Ideal.main_v100) = v1 c
          ∧ r.2.mem ((c.tc : Thread Cert.RefWin0Ideal.nD Cert.RefWin0Ideal.τ).loc Cert.RefWin0Ideal.main_arg0) = m' ((c.tc : Thread Cert.RefWin0Ideal.nD Cert.RefWin0Ideal.τ).loc Cert.RefWin0Ideal.main_arg0)
          ∧ r.2.mem ((c.tc : Thread Cert.RefWin0Ideal.nD Cert.RefWin0Ideal.τ).loc Cert.RefWin0Ideal.main_arg1) = m' ((c.tc : Thread Cert.RefWin0Ideal.nD Cert.RefWin0Ideal.τ).loc Cert.RefWin0Ideal.main_arg1)
          ∧ r.2.mem ((c.tc : Thread Cert.RefWin0Ideal.nD Cert.RefWin0Ideal.τ).loc Cert.RefWin0Ideal.main_arg2) = m' ((c.tc : Thread Cert.RefWin0Ideal.nD Cert.RefWin0Ideal.τ).loc Cert.RefWin0Ideal.main_arg2))

def preserves_FfnStep_FfnStepIdeal : Prop :=
  True

def algebraic_FfnStepIdeal_RefFfnStepIdeal [hFfnStepIdeal : Cert.FfnStepIdeal.Facts] [hRefFfnStepIdeal : Cert.RefFfnStepIdeal.Facts] : Prop :=
  ∀ (m : (ℓ : Loc Cert.FfnStepIdeal.nD Cert.FfnStepIdeal.τ Cert.FfnStepIdeal.sig) → Buf (Elt Ideal) ℓ) (g : Dev Cert.FfnStepIdeal.nD → PrngReg)
    (m' : (ℓ : Loc Cert.RefFfnStepIdeal.nD Cert.RefFfnStepIdeal.τ Cert.RefFfnStepIdeal.sig) → Buf (Elt Ideal) ℓ) (g' : Dev Cert.RefFfnStepIdeal.nD → PrngReg), Pre_FfnStepIdeal m →
    (∀ c : Dev Cert.FfnStepIdeal.nD,
      m' ((c.tc : Thread Cert.RefFfnStepIdeal.nD Cert.RefFfnStepIdeal.τ).loc Cert.RefFfnStepIdeal.main_arg0) = m ((c.tc : Thread Cert.FfnStepIdeal.nD Cert.FfnStepIdeal.τ).loc Cert.FfnStepIdeal.main_arg0)
      ∧ m' ((c.tc : Thread Cert.RefFfnStepIdeal.nD Cert.RefFfnStepIdeal.τ).loc Cert.RefFfnStepIdeal.main_arg1) = m ((c.tc : Thread Cert.FfnStepIdeal.nD Cert.FfnStepIdeal.τ).loc Cert.FfnStepIdeal.main_arg1)
      ∧ m' ((c.tc : Thread Cert.RefFfnStepIdeal.nD Cert.RefFfnStepIdeal.τ).loc Cert.RefFfnStepIdeal.main_arg2) = m ((c.tc : Thread Cert.FfnStepIdeal.nD Cert.FfnStepIdeal.τ).loc Cert.FfnStepIdeal.main_arg2)
      ∧ m' ((c.tc : Thread Cert.RefFfnStepIdeal.nD Cert.RefFfnStepIdeal.τ).loc Cert.RefFfnStepIdeal.main_arg3) = m ((c.tc : Thread Cert.FfnStepIdeal.nD Cert.FfnStepIdeal.τ).loc Cert.FfnStepIdeal.main_arg3)
      ∧ m' ((c.tc : Thread Cert.RefFfnStepIdeal.nD Cert.RefFfnStepIdeal.τ).loc Cert.RefFfnStepIdeal.main_arg4) = m ((c.tc : Thread Cert.FfnStepIdeal.nD Cert.FfnStepIdeal.τ).loc Cert.FfnStepIdeal.main_arg4)
      ∧ m' ((c.tc : Thread Cert.RefFfnStepIdeal.nD Cert.RefFfnStepIdeal.τ).loc Cert.RefFfnStepIdeal.main_arg5) = m ((c.tc : Thread Cert.FfnStepIdeal.nD Cert.FfnStepIdeal.τ).loc Cert.FfnStepIdeal.main_arg5)
      ∧ m' ((c.tc : Thread Cert.RefFfnStepIdeal.nD Cert.RefFfnStepIdeal.τ).loc Cert.RefFfnStepIdeal.main_arg6) = m ((c.tc : Thread Cert.FfnStepIdeal.nD Cert.FfnStepIdeal.τ).loc Cert.FfnStepIdeal.main_arg6)
      ∧ m' ((c.tc : Thread Cert.RefFfnStepIdeal.nD Cert.RefFfnStepIdeal.τ).loc Cert.RefFfnStepIdeal.main_arg7) = m ((c.tc : Thread Cert.FfnStepIdeal.nD Cert.FfnStepIdeal.τ).loc Cert.FfnStepIdeal.main_arg7)) →
    ∃ (v0 : (c : Dev Cert.FfnStepIdeal.nD) → Buf (Elt Ideal) ((c.tc : Thread Cert.FfnStepIdeal.nD Cert.FfnStepIdeal.τ).loc Cert.FfnStepIdeal.main_v7)),
      θ_run (Cert.FfnStepIdeal.defs (F := Ideal)) (onTc (τ := Cert.FfnStepIdeal.τ) (Cert.FfnStepIdeal.main (F := Ideal))) ⟨m, fun _ => 0, g⟩ (fun r => ∀ c : Dev Cert.FfnStepIdeal.nD,
          r.2.mem ((c.tc : Thread Cert.FfnStepIdeal.nD Cert.FfnStepIdeal.τ).loc Cert.FfnStepIdeal.main_v7) = v0 c
          ∧ r.2.mem ((c.tc : Thread Cert.FfnStepIdeal.nD Cert.FfnStepIdeal.τ).loc Cert.FfnStepIdeal.main_arg0) = m ((c.tc : Thread Cert.FfnStepIdeal.nD Cert.FfnStepIdeal.τ).loc Cert.FfnStepIdeal.main_arg0)
          ∧ r.2.mem ((c.tc : Thread Cert.FfnStepIdeal.nD Cert.FfnStepIdeal.τ).loc Cert.FfnStepIdeal.main_arg1) = m ((c.tc : Thread Cert.FfnStepIdeal.nD Cert.FfnStepIdeal.τ).loc Cert.FfnStepIdeal.main_arg1)
          ∧ r.2.mem ((c.tc : Thread Cert.FfnStepIdeal.nD Cert.FfnStepIdeal.τ).loc Cert.FfnStepIdeal.main_arg2) = m ((c.tc : Thread Cert.FfnStepIdeal.nD Cert.FfnStepIdeal.τ).loc Cert.FfnStepIdeal.main_arg2)
          ∧ r.2.mem ((c.tc : Thread Cert.FfnStepIdeal.nD Cert.FfnStepIdeal.τ).loc Cert.FfnStepIdeal.main_arg3) = m ((c.tc : Thread Cert.FfnStepIdeal.nD Cert.FfnStepIdeal.τ).loc Cert.FfnStepIdeal.main_arg3)
          ∧ r.2.mem ((c.tc : Thread Cert.FfnStepIdeal.nD Cert.FfnStepIdeal.τ).loc Cert.FfnStepIdeal.main_arg4) = m ((c.tc : Thread Cert.FfnStepIdeal.nD Cert.FfnStepIdeal.τ).loc Cert.FfnStepIdeal.main_arg4)
          ∧ r.2.mem ((c.tc : Thread Cert.FfnStepIdeal.nD Cert.FfnStepIdeal.τ).loc Cert.FfnStepIdeal.main_arg5) = m ((c.tc : Thread Cert.FfnStepIdeal.nD Cert.FfnStepIdeal.τ).loc Cert.FfnStepIdeal.main_arg5)
          ∧ r.2.mem ((c.tc : Thread Cert.FfnStepIdeal.nD Cert.FfnStepIdeal.τ).loc Cert.FfnStepIdeal.main_arg6) = m ((c.tc : Thread Cert.FfnStepIdeal.nD Cert.FfnStepIdeal.τ).loc Cert.FfnStepIdeal.main_arg6)
          ∧ r.2.mem ((c.tc : Thread Cert.FfnStepIdeal.nD Cert.FfnStepIdeal.τ).loc Cert.FfnStepIdeal.main_arg7) = m ((c.tc : Thread Cert.FfnStepIdeal.nD Cert.FfnStepIdeal.τ).loc Cert.FfnStepIdeal.main_arg7))
      ∧ θ_run (Cert.RefFfnStepIdeal.defs (F := Ideal)) (onTc (τ := Cert.RefFfnStepIdeal.τ) (Cert.RefFfnStepIdeal.main (F := Ideal))) ⟨m', fun _ => 0, g'⟩ (fun r => ∀ c : Dev Cert.RefFfnStepIdeal.nD,
          r.2.mem ((c.tc : Thread Cert.RefFfnStepIdeal.nD Cert.RefFfnStepIdeal.τ).loc Cert.RefFfnStepIdeal.main_v23) = v0 c
          ∧ r.2.mem ((c.tc : Thread Cert.RefFfnStepIdeal.nD Cert.RefFfnStepIdeal.τ).loc Cert.RefFfnStepIdeal.main_arg0) = m' ((c.tc : Thread Cert.RefFfnStepIdeal.nD Cert.RefFfnStepIdeal.τ).loc Cert.RefFfnStepIdeal.main_arg0)
          ∧ r.2.mem ((c.tc : Thread Cert.RefFfnStepIdeal.nD Cert.RefFfnStepIdeal.τ).loc Cert.RefFfnStepIdeal.main_arg1) = m' ((c.tc : Thread Cert.RefFfnStepIdeal.nD Cert.RefFfnStepIdeal.τ).loc Cert.RefFfnStepIdeal.main_arg1)
          ∧ r.2.mem ((c.tc : Thread Cert.RefFfnStepIdeal.nD Cert.RefFfnStepIdeal.τ).loc Cert.RefFfnStepIdeal.main_arg2) = m' ((c.tc : Thread Cert.RefFfnStepIdeal.nD Cert.RefFfnStepIdeal.τ).loc Cert.RefFfnStepIdeal.main_arg2)
          ∧ r.2.mem ((c.tc : Thread Cert.RefFfnStepIdeal.nD Cert.RefFfnStepIdeal.τ).loc Cert.RefFfnStepIdeal.main_arg3) = m' ((c.tc : Thread Cert.RefFfnStepIdeal.nD Cert.RefFfnStepIdeal.τ).loc Cert.RefFfnStepIdeal.main_arg3)
          ∧ r.2.mem ((c.tc : Thread Cert.RefFfnStepIdeal.nD Cert.RefFfnStepIdeal.τ).loc Cert.RefFfnStepIdeal.main_arg4) = m' ((c.tc : Thread Cert.RefFfnStepIdeal.nD Cert.RefFfnStepIdeal.τ).loc Cert.RefFfnStepIdeal.main_arg4)
          ∧ r.2.mem ((c.tc : Thread Cert.RefFfnStepIdeal.nD Cert.RefFfnStepIdeal.τ).loc Cert.RefFfnStepIdeal.main_arg5) = m' ((c.tc : Thread Cert.RefFfnStepIdeal.nD Cert.RefFfnStepIdeal.τ).loc Cert.RefFfnStepIdeal.main_arg5)
          ∧ r.2.mem ((c.tc : Thread Cert.RefFfnStepIdeal.nD Cert.RefFfnStepIdeal.τ).loc Cert.RefFfnStepIdeal.main_arg6) = m' ((c.tc : Thread Cert.RefFfnStepIdeal.nD Cert.RefFfnStepIdeal.τ).loc Cert.RefFfnStepIdeal.main_arg6)
          ∧ r.2.mem ((c.tc : Thread Cert.RefFfnStepIdeal.nD Cert.RefFfnStepIdeal.τ).loc Cert.RefFfnStepIdeal.main_arg7) = m' ((c.tc : Thread Cert.RefFfnStepIdeal.nD Cert.RefFfnStepIdeal.τ).loc Cert.RefFfnStepIdeal.main_arg7))

def preserves_ProjStep_ProjStepIdeal : Prop :=
  True

def algebraic_ProjStepIdeal_RefProjStepIdeal [hProjStepIdeal : Cert.ProjStepIdeal.Facts] [hRefProjStepIdeal : Cert.RefProjStepIdeal.Facts] : Prop :=
  ∀ (m : (ℓ : Loc Cert.ProjStepIdeal.nD Cert.ProjStepIdeal.τ Cert.ProjStepIdeal.sig) → Buf (Elt Ideal) ℓ) (g : Dev Cert.ProjStepIdeal.nD → PrngReg)
    (m' : (ℓ : Loc Cert.RefProjStepIdeal.nD Cert.RefProjStepIdeal.τ Cert.RefProjStepIdeal.sig) → Buf (Elt Ideal) ℓ) (g' : Dev Cert.RefProjStepIdeal.nD → PrngReg), Pre_ProjStepIdeal m →
    (∀ c : Dev Cert.ProjStepIdeal.nD,
      m' ((c.tc : Thread Cert.RefProjStepIdeal.nD Cert.RefProjStepIdeal.τ).loc Cert.RefProjStepIdeal.main_arg0) = m ((c.tc : Thread Cert.ProjStepIdeal.nD Cert.ProjStepIdeal.τ).loc Cert.ProjStepIdeal.main_arg0)
      ∧ m' ((c.tc : Thread Cert.RefProjStepIdeal.nD Cert.RefProjStepIdeal.τ).loc Cert.RefProjStepIdeal.main_arg1) = m ((c.tc : Thread Cert.ProjStepIdeal.nD Cert.ProjStepIdeal.τ).loc Cert.ProjStepIdeal.main_arg1)
      ∧ m' ((c.tc : Thread Cert.RefProjStepIdeal.nD Cert.RefProjStepIdeal.τ).loc Cert.RefProjStepIdeal.main_arg2) = m ((c.tc : Thread Cert.ProjStepIdeal.nD Cert.ProjStepIdeal.τ).loc Cert.ProjStepIdeal.main_arg2)) →
    ∃ (v0 : (c : Dev Cert.ProjStepIdeal.nD) → Buf (Elt Ideal) ((c.tc : Thread Cert.ProjStepIdeal.nD Cert.ProjStepIdeal.τ).loc Cert.ProjStepIdeal.main_v2)),
      θ_run (Cert.ProjStepIdeal.defs (F := Ideal)) (onTc (τ := Cert.ProjStepIdeal.τ) (Cert.ProjStepIdeal.main (F := Ideal))) ⟨m, fun _ => 0, g⟩ (fun r => ∀ c : Dev Cert.ProjStepIdeal.nD,
          r.2.mem ((c.tc : Thread Cert.ProjStepIdeal.nD Cert.ProjStepIdeal.τ).loc Cert.ProjStepIdeal.main_v2) = v0 c
          ∧ r.2.mem ((c.tc : Thread Cert.ProjStepIdeal.nD Cert.ProjStepIdeal.τ).loc Cert.ProjStepIdeal.main_arg0) = m ((c.tc : Thread Cert.ProjStepIdeal.nD Cert.ProjStepIdeal.τ).loc Cert.ProjStepIdeal.main_arg0)
          ∧ r.2.mem ((c.tc : Thread Cert.ProjStepIdeal.nD Cert.ProjStepIdeal.τ).loc Cert.ProjStepIdeal.main_arg1) = m ((c.tc : Thread Cert.ProjStepIdeal.nD Cert.ProjStepIdeal.τ).loc Cert.ProjStepIdeal.main_arg1)
          ∧ r.2.mem ((c.tc : Thread Cert.ProjStepIdeal.nD Cert.ProjStepIdeal.τ).loc Cert.ProjStepIdeal.main_arg2) = m ((c.tc : Thread Cert.ProjStepIdeal.nD Cert.ProjStepIdeal.τ).loc Cert.ProjStepIdeal.main_arg2))
      ∧ θ_run (Cert.RefProjStepIdeal.defs (F := Ideal)) (onTc (τ := Cert.RefProjStepIdeal.τ) (Cert.RefProjStepIdeal.main (F := Ideal))) ⟨m', fun _ => 0, g'⟩ (fun r => ∀ c : Dev Cert.RefProjStepIdeal.nD,
          r.2.mem ((c.tc : Thread Cert.RefProjStepIdeal.nD Cert.RefProjStepIdeal.τ).loc Cert.RefProjStepIdeal.main_v13) = v0 c
          ∧ r.2.mem ((c.tc : Thread Cert.RefProjStepIdeal.nD Cert.RefProjStepIdeal.τ).loc Cert.RefProjStepIdeal.main_arg0) = m' ((c.tc : Thread Cert.RefProjStepIdeal.nD Cert.RefProjStepIdeal.τ).loc Cert.RefProjStepIdeal.main_arg0)
          ∧ r.2.mem ((c.tc : Thread Cert.RefProjStepIdeal.nD Cert.RefProjStepIdeal.τ).loc Cert.RefProjStepIdeal.main_arg1) = m' ((c.tc : Thread Cert.RefProjStepIdeal.nD Cert.RefProjStepIdeal.τ).loc Cert.RefProjStepIdeal.main_arg1)
          ∧ r.2.mem ((c.tc : Thread Cert.RefProjStepIdeal.nD Cert.RefProjStepIdeal.τ).loc Cert.RefProjStepIdeal.main_arg2) = m' ((c.tc : Thread Cert.RefProjStepIdeal.nD Cert.RefProjStepIdeal.τ).loc Cert.RefProjStepIdeal.main_arg2))

def preserves_AbQkv_AbQkvIdeal : Prop :=
  True

def algebraic_AbQkvIdeal_RefAbQkvIdeal_pre_finite_heads [hAbQkvIdeal : Cert.AbQkvIdeal.Facts] [hRefAbQkvIdeal : Cert.RefAbQkvIdeal.Facts] [hPre_finite_heads : Cert.Pre_finite_heads.Facts] : Prop :=
  ∀ (m : (ℓ : Loc Cert.AbQkvIdeal.nD Cert.AbQkvIdeal.τ Cert.AbQkvIdeal.sig) → Buf (Elt Ideal) ℓ) (g : Dev Cert.AbQkvIdeal.nD → PrngReg)
    (m' : (ℓ : Loc Cert.RefAbQkvIdeal.nD Cert.RefAbQkvIdeal.τ Cert.RefAbQkvIdeal.sig) → Buf (Elt Ideal) ℓ) (g' : Dev Cert.RefAbQkvIdeal.nD → PrngReg), Pre_AbQkvIdeal_finite_heads m →
    (∀ c : Dev Cert.AbQkvIdeal.nD,
      m' ((c.tc : Thread Cert.RefAbQkvIdeal.nD Cert.RefAbQkvIdeal.τ).loc Cert.RefAbQkvIdeal.main_arg0) = m ((c.tc : Thread Cert.AbQkvIdeal.nD Cert.AbQkvIdeal.τ).loc Cert.AbQkvIdeal.main_arg0)
      ∧ m' ((c.tc : Thread Cert.RefAbQkvIdeal.nD Cert.RefAbQkvIdeal.τ).loc Cert.RefAbQkvIdeal.main_arg1) = m ((c.tc : Thread Cert.AbQkvIdeal.nD Cert.AbQkvIdeal.τ).loc Cert.AbQkvIdeal.main_arg1)
      ∧ m' ((c.tc : Thread Cert.RefAbQkvIdeal.nD Cert.RefAbQkvIdeal.τ).loc Cert.RefAbQkvIdeal.main_arg2) = m ((c.tc : Thread Cert.AbQkvIdeal.nD Cert.AbQkvIdeal.τ).loc Cert.AbQkvIdeal.main_arg2)) →
    ∃ (v0 : (c : Dev Cert.AbQkvIdeal.nD) → Buf (Elt Ideal) ((c.tc : Thread Cert.AbQkvIdeal.nD Cert.AbQkvIdeal.τ).loc Cert.AbQkvIdeal.main_v8_0)) (v1 : (c : Dev Cert.AbQkvIdeal.nD) → Buf (Elt Ideal) ((c.tc : Thread Cert.AbQkvIdeal.nD Cert.AbQkvIdeal.τ).loc Cert.AbQkvIdeal.main_v8_1)),
      θ_run (Cert.AbQkvIdeal.defs (F := Ideal)) (onTc (τ := Cert.AbQkvIdeal.τ) (Cert.AbQkvIdeal.main (F := Ideal))) ⟨m, fun _ => 0, g⟩ (fun r => ∀ c : Dev Cert.AbQkvIdeal.nD,
          r.2.mem ((c.tc : Thread Cert.AbQkvIdeal.nD Cert.AbQkvIdeal.τ).loc Cert.AbQkvIdeal.main_v8_0) = v0 c
          ∧ r.2.mem ((c.tc : Thread Cert.AbQkvIdeal.nD Cert.AbQkvIdeal.τ).loc Cert.AbQkvIdeal.main_v8_1) = v1 c
          ∧ r.2.mem ((c.tc : Thread Cert.AbQkvIdeal.nD Cert.AbQkvIdeal.τ).loc Cert.AbQkvIdeal.main_arg0) = m ((c.tc : Thread Cert.AbQkvIdeal.nD Cert.AbQkvIdeal.τ).loc Cert.AbQkvIdeal.main_arg0)
          ∧ r.2.mem ((c.tc : Thread Cert.AbQkvIdeal.nD Cert.AbQkvIdeal.τ).loc Cert.AbQkvIdeal.main_arg1) = m ((c.tc : Thread Cert.AbQkvIdeal.nD Cert.AbQkvIdeal.τ).loc Cert.AbQkvIdeal.main_arg1)
          ∧ r.2.mem ((c.tc : Thread Cert.AbQkvIdeal.nD Cert.AbQkvIdeal.τ).loc Cert.AbQkvIdeal.main_arg2) = m ((c.tc : Thread Cert.AbQkvIdeal.nD Cert.AbQkvIdeal.τ).loc Cert.AbQkvIdeal.main_arg2))
      ∧ θ_run (Cert.RefAbQkvIdeal.defs (F := Ideal)) (onTc (τ := Cert.RefAbQkvIdeal.τ) (Cert.RefAbQkvIdeal.main (F := Ideal))) ⟨m', fun _ => 0, g'⟩ (fun r => ∀ c : Dev Cert.RefAbQkvIdeal.nD,
          r.2.mem ((c.tc : Thread Cert.RefAbQkvIdeal.nD Cert.RefAbQkvIdeal.τ).loc Cert.RefAbQkvIdeal.main_v50) = v0 c
          ∧ r.2.mem ((c.tc : Thread Cert.RefAbQkvIdeal.nD Cert.RefAbQkvIdeal.τ).loc Cert.RefAbQkvIdeal.main_v55) = v1 c
          ∧ r.2.mem ((c.tc : Thread Cert.RefAbQkvIdeal.nD Cert.RefAbQkvIdeal.τ).loc Cert.RefAbQkvIdeal.main_arg0) = m' ((c.tc : Thread Cert.RefAbQkvIdeal.nD Cert.RefAbQkvIdeal.τ).loc Cert.RefAbQkvIdeal.main_arg0)
          ∧ r.2.mem ((c.tc : Thread Cert.RefAbQkvIdeal.nD Cert.RefAbQkvIdeal.τ).loc Cert.RefAbQkvIdeal.main_arg1) = m' ((c.tc : Thread Cert.RefAbQkvIdeal.nD Cert.RefAbQkvIdeal.τ).loc Cert.RefAbQkvIdeal.main_arg1)
          ∧ r.2.mem ((c.tc : Thread Cert.RefAbQkvIdeal.nD Cert.RefAbQkvIdeal.τ).loc Cert.RefAbQkvIdeal.main_arg2) = m' ((c.tc : Thread Cert.RefAbQkvIdeal.nD Cert.RefAbQkvIdeal.τ).loc Cert.RefAbQkvIdeal.main_arg2))

def preserves_ConvStep_ConvStepIdeal : Prop :=
  True

def algebraic_ConvStepIdeal_RefConvStepIdeal [hConvStepIdeal : Cert.ConvStepIdeal.Facts] [hRefConvStepIdeal : Cert.RefConvStepIdeal.Facts] : Prop :=
  ∀ (m : (ℓ : Loc Cert.ConvStepIdeal.nD Cert.ConvStepIdeal.τ Cert.ConvStepIdeal.sig) → Buf (Elt Ideal) ℓ) (g : Dev Cert.ConvStepIdeal.nD → PrngReg)
    (m' : (ℓ : Loc Cert.RefConvStepIdeal.nD Cert.RefConvStepIdeal.τ Cert.RefConvStepIdeal.sig) → Buf (Elt Ideal) ℓ) (g' : Dev Cert.RefConvStepIdeal.nD → PrngReg), Pre_ConvStepIdeal m →
    (∀ c : Dev Cert.ConvStepIdeal.nD,
      m' ((c.tc : Thread Cert.RefConvStepIdeal.nD Cert.RefConvStepIdeal.τ).loc Cert.RefConvStepIdeal.main_arg0) = m ((c.tc : Thread Cert.ConvStepIdeal.nD Cert.ConvStepIdeal.τ).loc Cert.ConvStepIdeal.main_arg0)
      ∧ m' ((c.tc : Thread Cert.RefConvStepIdeal.nD Cert.RefConvStepIdeal.τ).loc Cert.RefConvStepIdeal.main_arg1) = m ((c.tc : Thread Cert.ConvStepIdeal.nD Cert.ConvStepIdeal.τ).loc Cert.ConvStepIdeal.main_arg1)
      ∧ m' ((c.tc : Thread Cert.RefConvStepIdeal.nD Cert.RefConvStepIdeal.τ).loc Cert.RefConvStepIdeal.main_arg2) = m ((c.tc : Thread Cert.ConvStepIdeal.nD Cert.ConvStepIdeal.τ).loc Cert.ConvStepIdeal.main_arg2)
      ∧ m' ((c.tc : Thread Cert.RefConvStepIdeal.nD Cert.RefConvStepIdeal.τ).loc Cert.RefConvStepIdeal.main_arg3) = m ((c.tc : Thread Cert.ConvStepIdeal.nD Cert.ConvStepIdeal.τ).loc Cert.ConvStepIdeal.main_arg3)
      ∧ m' ((c.tc : Thread Cert.RefConvStepIdeal.nD Cert.RefConvStepIdeal.τ).loc Cert.RefConvStepIdeal.main_arg4) = m ((c.tc : Thread Cert.ConvStepIdeal.nD Cert.ConvStepIdeal.τ).loc Cert.ConvStepIdeal.main_arg4)
      ∧ m' ((c.tc : Thread Cert.RefConvStepIdeal.nD Cert.RefConvStepIdeal.τ).loc Cert.RefConvStepIdeal.main_arg5) = m ((c.tc : Thread Cert.ConvStepIdeal.nD Cert.ConvStepIdeal.τ).loc Cert.ConvStepIdeal.main_arg5)) →
    ∃ (v0 : (c : Dev Cert.ConvStepIdeal.nD) → Buf (Elt Ideal) ((c.tc : Thread Cert.ConvStepIdeal.nD Cert.ConvStepIdeal.τ).loc Cert.ConvStepIdeal.main_v5_0)) (v1 : (c : Dev Cert.ConvStepIdeal.nD) → Buf (Elt Ideal) ((c.tc : Thread Cert.ConvStepIdeal.nD Cert.ConvStepIdeal.τ).loc Cert.ConvStepIdeal.main_v5_1)),
      θ_run (Cert.ConvStepIdeal.defs (F := Ideal)) (onTc (τ := Cert.ConvStepIdeal.τ) (Cert.ConvStepIdeal.main (F := Ideal))) ⟨m, fun _ => 0, g⟩ (fun r => ∀ c : Dev Cert.ConvStepIdeal.nD,
          r.2.mem ((c.tc : Thread Cert.ConvStepIdeal.nD Cert.ConvStepIdeal.τ).loc Cert.ConvStepIdeal.main_v5_0) = v0 c
          ∧ r.2.mem ((c.tc : Thread Cert.ConvStepIdeal.nD Cert.ConvStepIdeal.τ).loc Cert.ConvStepIdeal.main_v5_1) = v1 c
          ∧ r.2.mem ((c.tc : Thread Cert.ConvStepIdeal.nD Cert.ConvStepIdeal.τ).loc Cert.ConvStepIdeal.main_arg0) = m ((c.tc : Thread Cert.ConvStepIdeal.nD Cert.ConvStepIdeal.τ).loc Cert.ConvStepIdeal.main_arg0)
          ∧ r.2.mem ((c.tc : Thread Cert.ConvStepIdeal.nD Cert.ConvStepIdeal.τ).loc Cert.ConvStepIdeal.main_arg1) = m ((c.tc : Thread Cert.ConvStepIdeal.nD Cert.ConvStepIdeal.τ).loc Cert.ConvStepIdeal.main_arg1)
          ∧ r.2.mem ((c.tc : Thread Cert.ConvStepIdeal.nD Cert.ConvStepIdeal.τ).loc Cert.ConvStepIdeal.main_arg2) = m ((c.tc : Thread Cert.ConvStepIdeal.nD Cert.ConvStepIdeal.τ).loc Cert.ConvStepIdeal.main_arg2)
          ∧ r.2.mem ((c.tc : Thread Cert.ConvStepIdeal.nD Cert.ConvStepIdeal.τ).loc Cert.ConvStepIdeal.main_arg3) = m ((c.tc : Thread Cert.ConvStepIdeal.nD Cert.ConvStepIdeal.τ).loc Cert.ConvStepIdeal.main_arg3)
          ∧ r.2.mem ((c.tc : Thread Cert.ConvStepIdeal.nD Cert.ConvStepIdeal.τ).loc Cert.ConvStepIdeal.main_arg4) = m ((c.tc : Thread Cert.ConvStepIdeal.nD Cert.ConvStepIdeal.τ).loc Cert.ConvStepIdeal.main_arg4)
          ∧ r.2.mem ((c.tc : Thread Cert.ConvStepIdeal.nD Cert.ConvStepIdeal.τ).loc Cert.ConvStepIdeal.main_arg5) = m ((c.tc : Thread Cert.ConvStepIdeal.nD Cert.ConvStepIdeal.τ).loc Cert.ConvStepIdeal.main_arg5))
      ∧ θ_run (Cert.RefConvStepIdeal.defs (F := Ideal)) (onTc (τ := Cert.RefConvStepIdeal.τ) (Cert.RefConvStepIdeal.main (F := Ideal))) ⟨m', fun _ => 0, g'⟩ (fun r => ∀ c : Dev Cert.RefConvStepIdeal.nD,
          r.2.mem ((c.tc : Thread Cert.RefConvStepIdeal.nD Cert.RefConvStepIdeal.τ).loc Cert.RefConvStepIdeal.main_v256) = v0 c
          ∧ r.2.mem ((c.tc : Thread Cert.RefConvStepIdeal.nD Cert.RefConvStepIdeal.τ).loc Cert.RefConvStepIdeal.main_v257) = v1 c
          ∧ r.2.mem ((c.tc : Thread Cert.RefConvStepIdeal.nD Cert.RefConvStepIdeal.τ).loc Cert.RefConvStepIdeal.main_arg0) = m' ((c.tc : Thread Cert.RefConvStepIdeal.nD Cert.RefConvStepIdeal.τ).loc Cert.RefConvStepIdeal.main_arg0)
          ∧ r.2.mem ((c.tc : Thread Cert.RefConvStepIdeal.nD Cert.RefConvStepIdeal.τ).loc Cert.RefConvStepIdeal.main_arg1) = m' ((c.tc : Thread Cert.RefConvStepIdeal.nD Cert.RefConvStepIdeal.τ).loc Cert.RefConvStepIdeal.main_arg1)
          ∧ r.2.mem ((c.tc : Thread Cert.RefConvStepIdeal.nD Cert.RefConvStepIdeal.τ).loc Cert.RefConvStepIdeal.main_arg2) = m' ((c.tc : Thread Cert.RefConvStepIdeal.nD Cert.RefConvStepIdeal.τ).loc Cert.RefConvStepIdeal.main_arg2)
          ∧ r.2.mem ((c.tc : Thread Cert.RefConvStepIdeal.nD Cert.RefConvStepIdeal.τ).loc Cert.RefConvStepIdeal.main_arg3) = m' ((c.tc : Thread Cert.RefConvStepIdeal.nD Cert.RefConvStepIdeal.τ).loc Cert.RefConvStepIdeal.main_arg3)
          ∧ r.2.mem ((c.tc : Thread Cert.RefConvStepIdeal.nD Cert.RefConvStepIdeal.τ).loc Cert.RefConvStepIdeal.main_arg4) = m' ((c.tc : Thread Cert.RefConvStepIdeal.nD Cert.RefConvStepIdeal.τ).loc Cert.RefConvStepIdeal.main_arg4)
          ∧ r.2.mem ((c.tc : Thread Cert.RefConvStepIdeal.nD Cert.RefConvStepIdeal.τ).loc Cert.RefConvStepIdeal.main_arg5) = m' ((c.tc : Thread Cert.RefConvStepIdeal.nD Cert.RefConvStepIdeal.τ).loc Cert.RefConvStepIdeal.main_arg5))

def preserves_Conv_ConvIdeal : Prop :=
  True

def algebraic_ConvIdeal_RefConvIdeal [hConvIdeal : Cert.ConvIdeal.Facts] [hRefConvIdeal : Cert.RefConvIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.RefConvIdeal.nD Cert.RefConvIdeal.τ Cert.RefConvIdeal.sig) → Buf (Elt Ideal) ℓ) (g' : Dev Cert.RefConvIdeal.nD → PrngReg), Pre_ConvIdeal m →
    (∀ c : Dev Cert.ConvIdeal.nD,
      m' ((c.tc : Thread Cert.RefConvIdeal.nD Cert.RefConvIdeal.τ).loc Cert.RefConvIdeal.main_arg0) = m ((c.tc : Thread Cert.ConvIdeal.nD Cert.ConvIdeal.τ).loc Cert.ConvIdeal.main_arg0)
      ∧ m' ((c.tc : Thread Cert.RefConvIdeal.nD Cert.RefConvIdeal.τ).loc Cert.RefConvIdeal.main_arg1) = m ((c.tc : Thread Cert.ConvIdeal.nD Cert.ConvIdeal.τ).loc Cert.ConvIdeal.main_arg1)
      ∧ m' ((c.tc : Thread Cert.RefConvIdeal.nD Cert.RefConvIdeal.τ).loc Cert.RefConvIdeal.main_arg2) = m ((c.tc : Thread Cert.ConvIdeal.nD Cert.ConvIdeal.τ).loc Cert.ConvIdeal.main_arg2)
      ∧ m' ((c.tc : Thread Cert.RefConvIdeal.nD Cert.RefConvIdeal.τ).loc Cert.RefConvIdeal.main_arg3) = m ((c.tc : Thread Cert.ConvIdeal.nD Cert.ConvIdeal.τ).loc Cert.ConvIdeal.main_arg3)
      ∧ m' ((c.tc : Thread Cert.RefConvIdeal.nD Cert.RefConvIdeal.τ).loc Cert.RefConvIdeal.main_arg4) = m ((c.tc : Thread Cert.ConvIdeal.nD Cert.ConvIdeal.τ).loc Cert.ConvIdeal.main_arg4)
      ∧ m' ((c.tc : Thread Cert.RefConvIdeal.nD Cert.RefConvIdeal.τ).loc Cert.RefConvIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v5_0)) (v1 : (c : Dev Cert.ConvIdeal.nD) → Buf (Elt Ideal) ((c.tc : Thread Cert.ConvIdeal.nD Cert.ConvIdeal.τ).loc Cert.ConvIdeal.main_v5_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v5_0) = v0 c
          ∧ r.2.mem ((c.tc : Thread Cert.ConvIdeal.nD Cert.ConvIdeal.τ).loc Cert.ConvIdeal.main_v5_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.RefConvIdeal.defs (F := Ideal)) (onTc (τ := Cert.RefConvIdeal.τ) (Cert.RefConvIdeal.main (F := Ideal))) ⟨m', fun _ => 0, g'⟩ (fun r => ∀ c : Dev Cert.RefConvIdeal.nD,
          r.2.mem ((c.tc : Thread Cert.RefConvIdeal.nD Cert.RefConvIdeal.τ).loc Cert.RefConvIdeal.main_v256) = v0 c
          ∧ r.2.mem ((c.tc : Thread Cert.RefConvIdeal.nD Cert.RefConvIdeal.τ).loc Cert.RefConvIdeal.main_v257) = v1 c
          ∧ r.2.mem ((c.tc : Thread Cert.RefConvIdeal.nD Cert.RefConvIdeal.τ).loc Cert.RefConvIdeal.main_arg0) = m' ((c.tc : Thread Cert.RefConvIdeal.nD Cert.RefConvIdeal.τ).loc Cert.RefConvIdeal.main_arg0)
          ∧ r.2.mem ((c.tc : Thread Cert.RefConvIdeal.nD Cert.RefConvIdeal.τ).loc Cert.RefConvIdeal.main_arg1) = m' ((c.tc : Thread Cert.RefConvIdeal.nD Cert.RefConvIdeal.τ).loc Cert.RefConvIdeal.main_arg1)
          ∧ r.2.mem ((c.tc : Thread Cert.RefConvIdeal.nD Cert.RefConvIdeal.τ).loc Cert.RefConvIdeal.main_arg2) = m' ((c.tc : Thread Cert.RefConvIdeal.nD Cert.RefConvIdeal.τ).loc Cert.RefConvIdeal.main_arg2)
          ∧ r.2.mem ((c.tc : Thread Cert.RefConvIdeal.nD Cert.RefConvIdeal.τ).loc Cert.RefConvIdeal.main_arg3) = m' ((c.tc : Thread Cert.RefConvIdeal.nD Cert.RefConvIdeal.τ).loc Cert.RefConvIdeal.main_arg3)
          ∧ r.2.mem ((c.tc : Thread Cert.RefConvIdeal.nD Cert.RefConvIdeal.τ).loc Cert.RefConvIdeal.main_arg4) = m' ((c.tc : Thread Cert.RefConvIdeal.nD Cert.RefConvIdeal.τ).loc Cert.RefConvIdeal.main_arg4)
          ∧ r.2.mem ((c.tc : Thread Cert.RefConvIdeal.nD Cert.RefConvIdeal.τ).loc Cert.RefConvIdeal.main_arg5) = m' ((c.tc : Thread Cert.RefConvIdeal.nD Cert.RefConvIdeal.τ).loc Cert.RefConvIdeal.main_arg5))

def Claim : Prop :=
  ∃ (hFfn : Cert.Ffn.Facts) (hFfnIdeal : Cert.FfnIdeal.Facts) (hRefFfnIdeal : Cert.RefFfnIdeal.Facts) (hProj : Cert.Proj.Facts) (hProjIdeal : Cert.ProjIdeal.Facts) (hRefProjIdeal : Cert.RefProjIdeal.Facts) (hFfnCd : Cert.FfnCd.Facts) (hFfnCdIdeal : Cert.FfnCdIdeal.Facts) (hRefFfnCdIdeal : Cert.RefFfnCdIdeal.Facts) (hProjCd : Cert.ProjCd.Facts) (hProjCdIdeal : Cert.ProjCdIdeal.Facts) (hRefProjCdIdeal : Cert.RefProjCdIdeal.Facts) (hWin0 : Cert.Win0.Facts) (hWin0Ideal : Cert.Win0Ideal.Facts) (hRefWin0Ideal : Cert.RefWin0Ideal.Facts) (hFfnStep : Cert.FfnStep.Facts) (hFfnStepIdeal : Cert.FfnStepIdeal.Facts) (hRefFfnStepIdeal : Cert.RefFfnStepIdeal.Facts) (hProjStep : Cert.ProjStep.Facts) (hProjStepIdeal : Cert.ProjStepIdeal.Facts) (hRefProjStepIdeal : Cert.RefProjStepIdeal.Facts) (hAbQkv : Cert.AbQkv.Facts) (hAbQkvIdeal : Cert.AbQkvIdeal.Facts) (hRefAbQkvIdeal : Cert.RefAbQkvIdeal.Facts) (hConvStep : Cert.ConvStep.Facts) (hConvStepIdeal : Cert.ConvStepIdeal.Facts) (hRefConvStepIdeal : Cert.RefConvStepIdeal.Facts) (hConv : Cert.Conv.Facts) (hConvIdeal : Cert.ConvIdeal.Facts) (hRefConvIdeal : Cert.RefConvIdeal.Facts) (hPre_finite_scores : Cert.Pre_finite_scores.Facts) (hPre_finite_heads : Cert.Pre_finite_heads.Facts),
    quiescent_Ffn (hFfn := hFfn)
    ∧ quiescent_FfnIdeal (hFfnIdeal := hFfnIdeal)
    ∧ quiescent_RefFfnIdeal (hRefFfnIdeal := hRefFfnIdeal)
    ∧ quiescent_Proj (hProj := hProj)
    ∧ quiescent_ProjIdeal (hProjIdeal := hProjIdeal)
    ∧ quiescent_RefProjIdeal (hRefProjIdeal := hRefProjIdeal)
    ∧ quiescent_FfnCd (hFfnCd := hFfnCd)
    ∧ quiescent_FfnCdIdeal (hFfnCdIdeal := hFfnCdIdeal)
    ∧ quiescent_RefFfnCdIdeal (hRefFfnCdIdeal := hRefFfnCdIdeal)
    ∧ quiescent_ProjCd (hProjCd := hProjCd)
    ∧ quiescent_ProjCdIdeal (hProjCdIdeal := hProjCdIdeal)
    ∧ quiescent_RefProjCdIdeal (hRefProjCdIdeal := hRefProjCdIdeal)
    ∧ quiescent_Win0 (hWin0 := hWin0)
    ∧ quiescent_Win0Ideal (hWin0Ideal := hWin0Ideal)
    ∧ quiescent_Win0Ideal_pre_finite_scores (hWin0Ideal := hWin0Ideal) (hPre_finite_scores := hPre_finite_scores)
    ∧ quiescent_RefWin0Ideal (hRefWin0Ideal := hRefWin0Ideal)
    ∧ quiescent_RefWin0Ideal_pre_finite_scores (hRefWin0Ideal := hRefWin0Ideal) (hPre_finite_scores := hPre_finite_scores)
    ∧ quiescent_FfnStep (hFfnStep := hFfnStep)
    ∧ quiescent_FfnStepIdeal (hFfnStepIdeal := hFfnStepIdeal)
    ∧ quiescent_RefFfnStepIdeal (hRefFfnStepIdeal := hRefFfnStepIdeal)
    ∧ quiescent_ProjStep (hProjStep := hProjStep)
    ∧ quiescent_ProjStepIdeal (hProjStepIdeal := hProjStepIdeal)
    ∧ quiescent_RefProjStepIdeal (hRefProjStepIdeal := hRefProjStepIdeal)
    ∧ quiescent_AbQkv (hAbQkv := hAbQkv)
    ∧ quiescent_AbQkvIdeal (hAbQkvIdeal := hAbQkvIdeal)
    ∧ quiescent_AbQkvIdeal_pre_finite_heads (hAbQkvIdeal := hAbQkvIdeal) (hPre_finite_heads := hPre_finite_heads)
    ∧ quiescent_RefAbQkvIdeal (hRefAbQkvIdeal := hRefAbQkvIdeal)
    ∧ quiescent_RefAbQkvIdeal_pre_finite_heads (hRefAbQkvIdeal := hRefAbQkvIdeal) (hPre_finite_heads := hPre_finite_heads)
    ∧ quiescent_ConvStep (hConvStep := hConvStep)
    ∧ quiescent_ConvStepIdeal (hConvStepIdeal := hConvStepIdeal)
    ∧ quiescent_RefConvStepIdeal (hRefConvStepIdeal := hRefConvStepIdeal)
    ∧ quiescent_Conv (hConv := hConv)
    ∧ quiescent_ConvIdeal (hConvIdeal := hConvIdeal)
    ∧ quiescent_RefConvIdeal (hRefConvIdeal := hRefConvIdeal)
    ∧ preserves_Ffn_FfnIdeal
    ∧ algebraic_FfnIdeal_RefFfnIdeal (hFfnIdeal := hFfnIdeal) (hRefFfnIdeal := hRefFfnIdeal)
    ∧ preserves_Proj_ProjIdeal
    ∧ algebraic_ProjIdeal_RefProjIdeal (hProjIdeal := hProjIdeal) (hRefProjIdeal := hRefProjIdeal)
    ∧ preserves_FfnCd_FfnCdIdeal
    ∧ algebraic_FfnCdIdeal_RefFfnCdIdeal (hFfnCdIdeal := hFfnCdIdeal) (hRefFfnCdIdeal := hRefFfnCdIdeal)
    ∧ preserves_ProjCd_ProjCdIdeal
    ∧ algebraic_ProjCdIdeal_RefProjCdIdeal (hProjCdIdeal := hProjCdIdeal) (hRefProjCdIdeal := hRefProjCdIdeal)
    ∧ preserves_Win0_Win0Ideal
    ∧ algebraic_Win0Ideal_RefWin0Ideal_pre_finite_scores (hWin0Ideal := hWin0Ideal) (hRefWin0Ideal := hRefWin0Ideal) (hPre_finite_scores := hPre_finite_scores)
    ∧ preserves_FfnStep_FfnStepIdeal
    ∧ algebraic_FfnStepIdeal_RefFfnStepIdeal (hFfnStepIdeal := hFfnStepIdeal) (hRefFfnStepIdeal := hRefFfnStepIdeal)
    ∧ preserves_ProjStep_ProjStepIdeal
    ∧ algebraic_ProjStepIdeal_RefProjStepIdeal (hProjStepIdeal := hProjStepIdeal) (hRefProjStepIdeal := hRefProjStepIdeal)
    ∧ preserves_AbQkv_AbQkvIdeal
    ∧ algebraic_AbQkvIdeal_RefAbQkvIdeal_pre_finite_heads (hAbQkvIdeal := hAbQkvIdeal) (hRefAbQkvIdeal := hRefAbQkvIdeal) (hPre_finite_heads := hPre_finite_heads)
    ∧ preserves_ConvStep_ConvStepIdeal
    ∧ algebraic_ConvStepIdeal_RefConvStepIdeal (hConvStepIdeal := hConvStepIdeal) (hRefConvStepIdeal := hRefConvStepIdeal)
    ∧ preserves_Conv_ConvIdeal
    ∧ algebraic_ConvIdeal_RefConvIdeal (hConvIdeal := hConvIdeal) (hRefConvIdeal := hRefConvIdeal)
-- ==== Pre_finite_heads.lean ====
abbrev S16384x3328 : Shape := ⟨2, ![16384, 3328]⟩
abbrev S64 : Shape := ⟨1, ![64]⟩
abbrev S16384x1536 : Shape := ⟨2, ![16384, 1536]⟩
abbrev S_ : Shape := ⟨0, ![]⟩

class Facts : Prop where
  slices_S16384x3328_S16384x1536_0_1024 : S16384x3328.Slices ![0, 1024] S16384x1536
  bcast_S_S16384x1536 : S_.BroadcastsInDim S16384x1536 (![] : Fin 0 → Fin S16384x1536.rank)
  reducesTo_S16384x1536_S_d0_1 : S16384x1536.ReducesTo [0, 1] S_
  h_S_ : 0 < S_.numel

variable [Facts]

def fn {F : FTy → Type} [FloatOps F] (main_arg0 : FVec F S16384x3328 .f32) (main_arg1 : FVec F S64 .f32) (main_arg2 : FVec F S64 .f32) : IVec S_ 1 :=
  let main_v0 : FVec F S16384x1536 .f32 := (extractStridedSlice S16384x1536 ![0, 1024] · slices_S16384x3328_S16384x1536_0_1024) main_arg0
  let main_v1 : FVec F S16384x1536 .f32 := Host.absf main_v0
  let main_cst : FVec F S_ .f32 := constant S_ .f32 0x7F800000#32
  let main_v2 : FVec F S16384x1536 .f32 := broadcastInDim S16384x1536 ![] bcast_S_S16384x1536 main_cst
  let main_v3 : IVec S16384x1536 1 := cmpf .olt main_v1 main_v2
  let main_c : IVec S_ 1 := constantI S_ 1 1#1
  let main_v4 : IVec S_ 1 := (fun x v => Host.reduce IntOp.andi x v reducesTo_S16384x1536_S_d0_1 h_S_) main_v3 main_c
  main_v4
-- ==== Pre_finite_scores.lean ====
abbrev S2x8192x768 : Shape := ⟨3, ![2, 8192, 768]⟩
abbrev S3x2x8192x512 : Shape := ⟨4, ![3, 2, 8192, 512]⟩
abbrev S32x20 : Shape := ⟨2, ![32, 20]⟩
abbrev S_ : Shape := ⟨0, ![]⟩
abbrev S1x2x8192x256 : Shape := ⟨4, ![1, 2, 8192, 256]⟩
abbrev S2x8192x256 : Shape := ⟨3, ![2, 8192, 256]⟩

class Facts : Prop where
  bcast_S_S2x8192x768 : S_.BroadcastsInDim S2x8192x768 (![] : Fin 0 → Fin S2x8192x768.rank)
  reducesTo_S2x8192x768_S_d0_1_2 : S2x8192x768.ReducesTo [0, 1, 2] S_
  h_S_ : 0 < S_.numel
  slices_S3x2x8192x512_S1x2x8192x256_0_0_0_0 : S3x2x8192x512.Slices ![0, 0, 0, 0] S1x2x8192x256
  shapeCasts_S1x2x8192x256_S2x8192x256 : S1x2x8192x256.ShapeCasts S2x8192x256
  bcast_S_S2x8192x256 : S_.BroadcastsInDim S2x8192x256 (![] : Fin 0 → Fin S2x8192x256.rank)
  reducesTo_S2x8192x256_S_d0_1_2 : S2x8192x256.ReducesTo [0, 1, 2] S_
  bcast_S_S32x20 : S_.BroadcastsInDim S32x20 (![] : Fin 0 → Fin S32x20.rank)
  reducesTo_S32x20_S_d0_1 : S32x20.ReducesTo [0, 1] S_

variable [Facts]

def fn {F : FTy → Type} [FloatOps F] (main_arg0 : FVec F S2x8192x768 .bf16) (main_arg1 : FVec F S3x2x8192x512 .f32) (main_arg2 : FVec F S32x20 .f32) : IVec S_ 1 :=
  let main_v0 : FVec F S2x8192x768 .bf16 := Host.absf main_arg0
  let main_cst : FVec F S_ .bf16 := constant S_ .bf16 0x7F80#16
  let main_v1 : FVec F S2x8192x768 .bf16 := broadcastInDim S2x8192x768 ![] bcast_S_S2x8192x768 main_cst
  let main_v2 : IVec S2x8192x768 1 := cmpf .olt main_v0 main_v1
  let main_c : IVec S_ 1 := constantI S_ 1 1#1
  let main_v3 : IVec S_ 1 := (fun x v => Host.reduce IntOp.andi x v reducesTo_S2x8192x768_S_d0_1_2 h_S_) main_v2 main_c
  let main_v4 : FVec F S1x2x8192x256 .f32 := (extractStridedSlice S1x2x8192x256 ![0, 0, 0, 0] · slices_S3x2x8192x512_S1x2x8192x256_0_0_0_0) main_arg1
  let main_v5 : FVec F S2x8192x256 .f32 := shapeCast S2x8192x256 main_v4 shapeCasts_S1x2x8192x256_S2x8192x256
  let main_v6 : FVec F S2x8192x256 .f32 := Host.absf main_v5
  let main_cst_0 : FVec F S_ .f32 := constant S_ .f32 0x7F800000#32
  let main_v7 : FVec F S2x8192x256 .f32 := broadcastInDim S2x8192x256 ![] bcast_S_S2x8192x256 main_cst_0
  let main_v8 : IVec S2x8192x256 1 := cmpf .olt main_v6 main_v7
  let main_c_1 : IVec S_ 1 := constantI S_ 1 1#1
  let main_v9 : IVec S_ 1 := (fun x v => Host.reduce IntOp.andi x v reducesTo_S2x8192x256_S_d0_1_2 h_S_) main_v8 main_c_1
  let main_v10 : IVec S_ 1 := andi main_v3 main_v9
  let main_v11 : FVec F S32x20 .f32 := Host.absf main_arg2
  let main_cst_2 : FVec F S_ .f32 := constant S_ .f32 0x7F800000#32
  let main_v12 : FVec F S32x20 .f32 := broadcastInDim S32x20 ![] bcast_S_S32x20 main_cst_2
  let main_v13 : IVec S32x20 1 := cmpf .olt main_v11 main_v12
  let main_c_3 : IVec S_ 1 := constantI S_ 1 1#1
  let main_v14 : IVec S_ 1 := (fun x v => Host.reduce IntOp.andi x v reducesTo_S32x20_S_d0_1 h_S_) main_v13 main_c_3
  let main_v15 : IVec S_ 1 := andi main_v10 main_v14
  main_v15
-- ==== Ffn.lean ====
abbrev S16384x1024 : Shape := ⟨2, ![16384, 1024]⟩
abbrev S16384x512 : Shape := ⟨2, ![16384, 512]⟩
abbrev S16384x256 : Shape := ⟨2, ![16384, 256]⟩
abbrev S768x1024 : Shape := ⟨2, ![768, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S256x1024 : Shape := ⟨2, ![256, 1024]⟩
abbrev S1x1024 : Shape := ⟨2, ![1, 1024]⟩
abbrev S512x512 : Shape := ⟨2, ![512, 512]⟩
abbrev S512x256 : Shape := ⟨2, ![512, 256]⟩
abbrev S1024x256 : Shape := ⟨2, ![1024, 256]⟩
abbrev S512 : Shape := ⟨1, ![512]⟩
abbrev S512x1 : Shape := ⟨2, ![512, 1]⟩

abbrev nBuf : Space → Nat
  | .hbm => 16
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x256, .bf16⟩
  | .hbm, ⟨3, _⟩ => ⟨S768x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S768x1024, .bf16⟩
  | .hbm, ⟨9, _⟩ => ⟨S512x1024, .bf16⟩
  | .hbm, ⟨10, _⟩ => ⟨S256x1024, .bf16⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x1024, .bf16⟩
  | .local _ .vmem, ⟨7, _⟩ => ⟨S256x1024, .bf16⟩
  | .local _ .vmem, ⟨8, _⟩ => ⟨S1x1024, .f32⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S256x1024, .bf16⟩
  | .local _ .vmem, ⟨14, _⟩ => ⟨S256x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnIdeal.lean ====
abbrev S16384x1024 : Shape := ⟨2, ![16384, 1024]⟩
abbrev S16384x512 : Shape := ⟨2, ![16384, 512]⟩
abbrev S16384x256 : Shape := ⟨2, ![16384, 256]⟩
abbrev S768x1024 : Shape := ⟨2, ![768, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S256x1024 : Shape := ⟨2, ![256, 1024]⟩
abbrev S1x1024 : Shape := ⟨2, ![1, 1024]⟩
abbrev S512x512 : Shape := ⟨2, ![512, 512]⟩
abbrev S512x256 : Shape := ⟨2, ![512, 256]⟩
abbrev S1024x256 : Shape := ⟨2, ![1024, 256]⟩
abbrev S512 : Shape := ⟨1, ![512]⟩
abbrev S512x1 : Shape := ⟨2, ![512, 1]⟩

abbrev nBuf : Space → Nat
  | .hbm => 16
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x256, .bf16⟩
  | .hbm, ⟨3, _⟩ => ⟨S768x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S768x1024, .bf16⟩
  | .hbm, ⟨9, _⟩ => ⟨S512x1024, .bf16⟩
  | .hbm, ⟨10, _⟩ => ⟨S256x1024, .bf16⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x1024, .bf16⟩
  | .local _ .vmem, ⟨7, _⟩ => ⟨S256x1024, .bf16⟩
  | .local _ .vmem, ⟨8, _⟩ => ⟨S1x1024, .f32⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S256x1024, .bf16⟩
  | .local _ .vmem, ⟨14, _⟩ => ⟨S256x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== RefFfnIdeal.lean ====
abbrev S16384x1024 : Shape := ⟨2, ![16384, 1024]⟩
abbrev S16384x512 : Shape := ⟨2, ![16384, 512]⟩
abbrev S16384x256 : Shape := ⟨2, ![16384, 256]⟩
abbrev S768x1024 : Shape := ⟨2, ![768, 1024]⟩
abbrev S1024 : Shape := ⟨1, ![1024]⟩
abbrev S1024x2816 : Shape := ⟨2, ![1024, 2816]⟩
abbrev S2816x1024 : Shape := ⟨2, ![2816, 1024]⟩
abbrev S16384x768 : Shape := ⟨2, ![16384, 768]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x256, .bf16⟩
  | .hbm, ⟨3, _⟩ => ⟨S768x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S16384x512, .f32⟩
  | .hbm, ⟨9, _⟩ => ⟨S16384x256, .f32⟩
  | .hbm, ⟨10, _⟩ => ⟨S16384x768, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x1024, .f32⟩
  | .hbm, ⟨42, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Proj.lean ====
abbrev S16384x1024 : Shape := ⟨2, ![16384, 1024]⟩
abbrev S1024 : Shape := ⟨1, ![1024]⟩
abbrev S1024x3328 : Shape := ⟨2, ![1024, 3328]⟩
abbrev S1x1024 : Shape := ⟨2, ![1, 1024]⟩
abbrev S16384x3328 : Shape := ⟨2, ![16384, 3328]⟩
abbrev S256x1024 : Shape := ⟨2, ![256, 1024]⟩
abbrev S256x3328 : Shape := ⟨2, ![256, 3328]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3328, .f32⟩
  | .hbm, ⟨3, _⟩ => ⟨S1024x3328, .bf16⟩
  | .hbm, ⟨4, _⟩ => ⟨S1x1024, .f32⟩
  | .hbm, ⟨5, _⟩ => ⟨S16384x3328, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3328, .bf16⟩
  | .local _ .vmem, ⟨4, _⟩ => ⟨S256x3328, .f32⟩
  | .local _ .vmem, ⟨5, _⟩ => ⟨S256x3328, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3328 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjIdeal.lean ====
abbrev S16384x1024 : Shape := ⟨2, ![16384, 1024]⟩
abbrev S1024 : Shape := ⟨1, ![1024]⟩
abbrev S1024x3328 : Shape := ⟨2, ![1024, 3328]⟩
abbrev S1x1024 : Shape := ⟨2, ![1, 1024]⟩
abbrev S16384x3328 : Shape := ⟨2, ![16384, 3328]⟩
abbrev S256x1024 : Shape := ⟨2, ![256, 1024]⟩
abbrev S256x3328 : Shape := ⟨2, ![256, 3328]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3328, .f32⟩
  | .hbm, ⟨3, _⟩ => ⟨S1024x3328, .bf16⟩
  | .hbm, ⟨4, _⟩ => ⟨S1x1024, .f32⟩
  | .hbm, ⟨5, _⟩ => ⟨S16384x3328, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3328, .bf16⟩
  | .local _ .vmem, ⟨4, _⟩ => ⟨S256x3328, .f32⟩
  | .local _ .vmem, ⟨5, _⟩ => ⟨S256x3328, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3328 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefProjIdeal.lean ====
abbrev S16384x1024 : Shape := ⟨2, ![16384, 1024]⟩
abbrev S1024 : Shape := ⟨1, ![1024]⟩
abbrev S1024x3328 : Shape := ⟨2, ![1024, 3328]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3328 : Shape := ⟨2, ![16384, 3328]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3328, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3328, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== FfnCd.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S1x1024 : Shape := ⟨2, ![1, 1024]⟩
abbrev S512x512 : Shape := ⟨2, ![512, 512]⟩
abbrev S1024x256 : Shape := ⟨2, ![1024, 256]⟩
abbrev S256x1024 : Shape := ⟨2, ![256, 1024]⟩
abbrev S512 : Shape := ⟨1, ![512]⟩
abbrev S512x1 : Shape := ⟨2, ![512, 1]⟩
abbrev S512x256 : Shape := ⟨2, ![512, 256]⟩

abbrev nBuf : Space → Nat
  | .hbm => 16
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x1024, .bf16⟩
  | .hbm, ⟨9, _⟩ => ⟨S512x1024, .bf16⟩
  | .hbm, ⟨10, _⟩ => ⟨S512x1024, .bf16⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S256x1024, .bf16⟩
  | .local _ .vmem, ⟨14, _⟩ => ⟨S256x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnCdIdeal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S1x1024 : Shape := ⟨2, ![1, 1024]⟩
abbrev S512x512 : Shape := ⟨2, ![512, 512]⟩
abbrev S1024x256 : Shape := ⟨2, ![1024, 256]⟩
abbrev S256x1024 : Shape := ⟨2, ![256, 1024]⟩
abbrev S512 : Shape := ⟨1, ![512]⟩
abbrev S512x1 : Shape := ⟨2, ![512, 1]⟩
abbrev S512x256 : Shape := ⟨2, ![512, 256]⟩

abbrev nBuf : Space → Nat
  | .hbm => 16
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x1024, .bf16⟩
  | .hbm, ⟨9, _⟩ => ⟨S512x1024, .bf16⟩
  | .hbm, ⟨10, _⟩ => ⟨S512x1024, .bf16⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S256x1024, .bf16⟩
  | .local _ .vmem, ⟨14, _⟩ => ⟨S256x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== RefFfnCdIdeal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S16384x512, .f32⟩
  | .hbm, ⟨9, _⟩ => ⟨S16384x512, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x1024, .f32⟩
  | .hbm, ⟨42, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== ProjCd.lean ====
abbrev S16384x1024 : Shape := ⟨2, ![16384, 1024]⟩
abbrev S1024 : Shape := ⟨1, ![1024]⟩
abbrev S1024x3456 : Shape := ⟨2, ![1024, 3456]⟩
abbrev S1x1024 : Shape := ⟨2, ![1, 1024]⟩
abbrev S16384x3456 : Shape := ⟨2, ![16384, 3456]⟩
abbrev S256x1024 : Shape := ⟨2, ![256, 1024]⟩
abbrev S256x3456 : Shape := ⟨2, ![256, 3456]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3456, .f32⟩
  | .hbm, ⟨3, _⟩ => ⟨S1024x3456, .bf16⟩
  | .hbm, ⟨4, _⟩ => ⟨S1x1024, .f32⟩
  | .hbm, ⟨5, _⟩ => ⟨S16384x3456, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3456, .bf16⟩
  | .local _ .vmem, ⟨4, _⟩ => ⟨S256x3456, .f32⟩
  | .local _ .vmem, ⟨5, _⟩ => ⟨S256x3456, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3456 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjCdIdeal.lean ====
abbrev S16384x1024 : Shape := ⟨2, ![16384, 1024]⟩
abbrev S1024 : Shape := ⟨1, ![1024]⟩
abbrev S1024x3456 : Shape := ⟨2, ![1024, 3456]⟩
abbrev S1x1024 : Shape := ⟨2, ![1, 1024]⟩
abbrev S16384x3456 : Shape := ⟨2, ![16384, 3456]⟩
abbrev S256x1024 : Shape := ⟨2, ![256, 1024]⟩
abbrev S256x3456 : Shape := ⟨2, ![256, 3456]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3456, .f32⟩
  | .hbm, ⟨3, _⟩ => ⟨S1024x3456, .bf16⟩
  | .hbm, ⟨4, _⟩ => ⟨S1x1024, .f32⟩
  | .hbm, ⟨5, _⟩ => ⟨S16384x3456, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3456, .bf16⟩
  | .local _ .vmem, ⟨4, _⟩ => ⟨S256x3456, .f32⟩
  | .local _ .vmem, ⟨5, _⟩ => ⟨S256x3456, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3456 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefProjCdIdeal.lean ====
abbrev S16384x1024 : Shape := ⟨2, ![16384, 1024]⟩
abbrev S1024 : Shape := ⟨1, ![1024]⟩
abbrev S1024x3456 : Shape := ⟨2, ![1024, 3456]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3456 : Shape := ⟨2, ![16384, 3456]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3456, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3456, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Win0.lean ====
abbrev S2x8192x768 : Shape := ⟨3, ![2, 8192, 768]⟩
abbrev S3x2x8192x512 : Shape := ⟨4, ![3, 2, 8192, 512]⟩
abbrev S32x20 : Shape := ⟨2, ![32, 20]⟩
abbrev S128x256 : Shape := ⟨2, ![128, 256]⟩
abbrev S32x4 : Shape := ⟨2, ![32, 4]⟩
abbrev S_ : Shape := ⟨0, ![]⟩
abbrev S128x256x1 : Shape := ⟨3, ![128, 256, 1]⟩
abbrev S1 : Shape := ⟨1, ![1]⟩
abbrev S1x1x1 : Shape := ⟨3, ![1, 1, 1]⟩
abbrev S128x256x4 : Shape := ⟨3, ![128, 256, 4]⟩
abbrev S1x128x256 : Shape := ⟨3, ![1, 128, 256]⟩
abbrev S4x128x256 : Shape := ⟨3, ![4, 128, 256]⟩
abbrev S2x8192x256 : Shape := ⟨3, ![2, 8192, 256]⟩
abbrev S1x1x128x512 : Shape := ⟨4, ![1, 1, 128, 512]⟩
abbrev S128x512 : Shape := ⟨2, ![128, 512]⟩
abbrev S128x64 : Shape := ⟨2, ![128, 64]⟩
abbrev S256x64 : Shape := ⟨2, ![256, 64]⟩
abbrev S128 : Shape := ⟨1, ![128]⟩
abbrev S128x1 : Shape := ⟨2, ![128, 1]⟩
abbrev S1x128x64 : Shape := ⟨3, ![1, 128, 64]⟩

abbrev nBuf : Space → Nat
  | .hbm => 38
  | .vmem => 11
  | .smem => 0
  | _ => 0

abbrev bufTy : (tb : Table) → Fin (tcTables nBuf tb) → BufTy
  | .hbm, ⟨0, _⟩ => ⟨S2x8192x768, .bf16⟩
  | .hbm, ⟨1, _⟩ => ⟨S3x2x8192x512, .f32⟩
  | .hbm, ⟨2, _⟩ => ⟨S32x20, .f32⟩
  | .hbm, ⟨3, _⟩ => ⟨S128x256, .i32⟩
  | .hbm, ⟨4, _⟩ => ⟨S128x256, .i1⟩
  | .hbm, ⟨5, _⟩ => ⟨S32x4, .f32⟩
  | .hbm, ⟨6, _⟩ => ⟨S_, .i32⟩
  | .hbm, ⟨7, _⟩ => ⟨S128x256, .i32⟩
  | .hbm, ⟨8, _⟩ => ⟨S128x256, .i1⟩
  | .hbm, ⟨9, _⟩ => ⟨S_, .i32⟩
  | .hbm, ⟨10, _⟩ => ⟨S128x256, .i32⟩
  | .hbm, ⟨11, _⟩ => ⟨S128x256, .i32⟩
  | .hbm, ⟨12, _⟩ => ⟨S128x256, .i32⟩
  | .hbm, ⟨13, _⟩ => ⟨S128x256x1, .i32⟩
  | .hbm, ⟨14, _⟩ => ⟨S1, .i32⟩
  | .hbm, ⟨15, _⟩ => ⟨S_, .i32⟩
  | .hbm, ⟨16, _⟩ => ⟨S128x256x1, .i32⟩
  | .hbm, ⟨17, _⟩ => ⟨S128x256x1, .i1⟩
  | .hbm, ⟨18, _⟩ => ⟨S1x1x1, .i32⟩
  | .hbm, ⟨19, _⟩ => ⟨S128x256x1, .i32⟩
  | .hbm, ⟨20, _⟩ => ⟨S128x256x1, .i1⟩
  | .hbm, ⟨21, _⟩ => ⟨S128x256x1, .i1⟩
  | .hbm, ⟨22, _⟩ => ⟨S_, .i1⟩
  | .hbm, ⟨23, _⟩ => ⟨S128x256, .i1⟩
  | .hbm, ⟨24, _⟩ => ⟨S128x256x4, .f32⟩
  | .hbm, ⟨25, _⟩ => ⟨S128x256x4, .i1⟩
  | .hbm, ⟨26, _⟩ => ⟨S_, .f32⟩
  | .hbm, ⟨27, _⟩ => ⟨S128x256x4, .f32⟩
  | .hbm, ⟨28, _⟩ => ⟨S128x256x4, .f32⟩
  | .hbm, ⟨29, _⟩ => ⟨S1x128x256, .i1⟩
  | .hbm, ⟨30, _⟩ => ⟨S4x128x256, .f32⟩
  | .hbm, ⟨31, _⟩ => ⟨S_, .f32⟩
  | .hbm, ⟨32, _⟩ => ⟨S_, .f32⟩
  | .hbm, ⟨33, _⟩ => ⟨S4x128x256, .i1⟩
  | .hbm, ⟨34, _⟩ => ⟨S4x128x256, .f32⟩
  | .hbm, ⟨35, _⟩ => ⟨S4x128x256, .f32⟩
  | .hbm, ⟨36, _⟩ => ⟨S2x8192x256, .f32⟩
  | .hbm, ⟨37, _⟩ => ⟨S2x8192x256, .f32⟩
  | .local _ .vmem, ⟨0, _⟩ => ⟨S1x128x256, .bf16⟩
  | .local _ .vmem, ⟨1, _⟩ => ⟨S1x128x256, .bf16⟩
  | .local _ .vmem, ⟨2, _⟩ => ⟨S1x1x128x512, .f32⟩
  | .local _ .vmem, ⟨3, _⟩ => ⟨S1x1x128x512, .f32⟩
  | .local _ .vmem, ⟨4, _⟩ => ⟨S1x1x128x512, .f32⟩
  | .local _ .vmem, ⟨5, _⟩ => ⟨S1x1x128x512, .f32⟩
  | .local _ .vmem, ⟨6, _⟩ => ⟨S4x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x256, .f32⟩
  | _, _ => ⟨S2x8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v4 : Ref sig .tc := ⟨.hbm, 35, rfl⟩
abbrev main_v5_0 : Ref sig .tc := ⟨.hbm, 36, rfl⟩
abbrev main_v5_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 1, 64], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli c3_i32 arg1
  let c0_i32 : BitVec 32 := 0#32
  let v1 : BitVec 32 := Scalar.addi v0 c0_i32
  let c0_i32_0 : BitVec 32 := 0#32
  ![arg0.toNat, arg2.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![c0_i32_0.toNat, arg0.toNat, v1.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S4x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Win0Ideal.lean ====
variable {F : FTy → Type} [FloatOps F] [Named F]
def κ : String → Option EReal := fun
  | "neg" => some ⊥
  | _ => none
-- ==== RefWin0Ideal.lean ====
abbrev S2x8192x768 : Shape := ⟨3, ![2, 8192, 768]⟩
abbrev S3x2x8192x512 : Shape := ⟨4, ![3, 2, 8192, 512]⟩
abbrev S32x20 : Shape := ⟨2, ![32, 20]⟩
abbrev S2x8192x12x64 : Shape := ⟨4, ![2, 8192, 12, 64]⟩
abbrev S2x8192x4x64 : Shape := ⟨4, ![2, 8192, 4, 64]⟩
abbrev S1x2x8192x512 : Shape := ⟨4, ![1, 2, 8192, 512]⟩
abbrev S2x8192x512 : Shape := ⟨3, ![2, 8192, 512]⟩
abbrev S2x8192x2x4x64 : Shape := ⟨5, ![2, 8192, 2, 4, 64]⟩
abbrev S2x8192x1x4x64 : Shape := ⟨5, ![2, 8192, 1, 4, 64]⟩
abbrev S32x4 : Shape := ⟨2, ![32, 4]⟩
abbrev S2x1x8192x4x64 : Shape := ⟨5, ![2, 1, 8192, 4, 64]⟩
abbrev S2x1x64x128x4x64 : Shape := ⟨6, ![2, 1, 64, 128, 4, 64]⟩
abbrev S_ : Shape := ⟨0, ![]⟩
abbrev S2x1x65x128x4x64 : Shape := ⟨6, ![2, 1, 65, 128, 4, 64]⟩
abbrev S2x1x64x256x4x64 : Shape := ⟨6, ![2, 1, 64, 256, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S128x256x1 : Shape := ⟨3, ![128, 256, 1]⟩
abbrev S1 : Shape := ⟨1, ![1]⟩
abbrev S1x1x1 : Shape := ⟨3, ![1, 1, 1]⟩
abbrev S128x256x4 : Shape := ⟨3, ![128, 256, 4]⟩
abbrev S4x128x256 : Shape := ⟨3, ![4, 128, 256]⟩
abbrev S2x1x64x4x128x256 : Shape := ⟨6, ![2, 1, 64, 4, 128, 256]⟩
abbrev S1x1x1x4x128x256 : Shape := ⟨6, ![1, 1, 1, 4, 128, 256]⟩
abbrev S64x1x1x256 : Shape := ⟨4, ![64, 1, 1, 256]⟩
abbrev S2x1x64x4x128 : Shape := ⟨5, ![2, 1, 64, 4, 128]⟩
abbrev S2x1x64x4x128x1 : Shape := ⟨6, ![2, 1, 64, 4, 128, 1]⟩
abbrev S2x1x64x4x64x128 : Shape := ⟨6, ![2, 1, 64, 4, 64, 128]⟩
abbrev S2x1x64x128x4 : Shape := ⟨5, ![2, 1, 64, 128, 4]⟩
abbrev S2x1x8192x4 : Shape := ⟨4, ![2, 1, 8192, 4]⟩
abbrev S2x8192x1x4 : Shape := ⟨4, ![2, 8192, 1, 4]⟩
abbrev S2x8192x4 : Shape := ⟨3, ![2, 8192, 4]⟩
abbrev S2x8192x256 : Shape := ⟨3, ![2, 8192, 256]⟩
abbrev S2x8192x4x1 : Shape := ⟨4, ![2, 8192, 4, 1]⟩

abbrev nBuf : Space → Nat
  | .hbm => 153
  | .vmem => 0
  | .smem => 0
  | _ => 0

abbrev hbmTy0_0 (i : Nat) : BufTy := match i % 128 with
  | 0 => ⟨S2x8192x768, .bf16⟩
  | 1 => ⟨S3x2x8192x512, .f32⟩
  | 2 => ⟨S32x20, .f32⟩
  | 3 => ⟨S2x8192x768, .f32⟩
  | 4 => ⟨S2x8192x12x64, .f32⟩
  | 5 => ⟨S2x8192x4x64, .f32⟩
  | 6 => ⟨S1x2x8192x512, .f32⟩
  | 7 => ⟨S2x8192x512, .f32⟩
  | 8 => ⟨S2x8192x2x4x64, .f32⟩
  | 9 => ⟨S2x8192x1x4x64, .f32⟩
  | 10 => ⟨S2x8192x4x64, .f32⟩
  | 11 => ⟨S2x8192x1x4x64, .f32⟩
  | 12 => ⟨S2x8192x4x64, .f32⟩
  | 13 => ⟨S32x4, .f32⟩
  | 14 => ⟨S2x8192x1x4x64, .f32⟩
  | 15 => ⟨S2x1x8192x4x64, .f32⟩
  | 16 => ⟨S2x1x64x128x4x64, .f32⟩
  | 17 => ⟨S2x8192x1x4x64, .f32⟩
  | 18 => ⟨S2x1x8192x4x64, .f32⟩
  | 19 => ⟨S2x1x64x128x4x64, .f32⟩
  | 20 => ⟨S_, .i32⟩
  | 21 => ⟨S_, .f32⟩
  | 22 => ⟨S2x1x65x128x4x64, .f32⟩
  | 23 => ⟨S2x1x64x128x4x64, .f32⟩
  | 24 => ⟨S2x1x64x256x4x64, .f32⟩
  | 25 => ⟨S2x8192x1x4x64, .f32⟩
  | 26 => ⟨S2x1x8192x4x64, .f32⟩
  | 27 => ⟨S2x1x64x128x4x64, .f32⟩
  | 28 => ⟨S_, .i32⟩
  | 29 => ⟨S_, .f32⟩
  | 30 => ⟨S2x1x65x128x4x64, .f32⟩
  | 31 => ⟨S2x1x64x128x4x64, .f32⟩
  | 32 => ⟨S2x1x64x256x4x64, .f32⟩
  | 33 => ⟨S128, .i32⟩
  | 34 => ⟨S128x1, .i32⟩
  | 35 => ⟨S256, .i32⟩
  | 36 => ⟨S1x256, .i32⟩
  | 37 => ⟨S_, .i32⟩
  | 38 => ⟨S1x256, .i32⟩
  | 39 => ⟨S1x256, .i32⟩
  | 40 => ⟨S128x256, .i32⟩
  | 41 => ⟨S128x256, .i32⟩
  | 42 => ⟨S128x256, .i32⟩
  | 43 => ⟨S64, .i32⟩
  | 44 => ⟨S_, .i32⟩
  | 45 => ⟨S64, .i32⟩
  | 46 => ⟨S64, .i32⟩
  | 47 => ⟨S64x1x1, .i32⟩
  | 48 => ⟨S1x1x256, .i32⟩
  | 49 => ⟨S64x1x256, .i32⟩
  | 50 => ⟨S64x1x256, .i32⟩
  | 51 => ⟨S64x1x256, .i32⟩
  | 52 => ⟨S_, .i32⟩
  | 53 => ⟨S128x256, .i32⟩
  | 54 => ⟨S128x256, .i32⟩
  | 55 => ⟨S_, .i32⟩
  | 56 => ⟨S128x256, .i32⟩
  | 57 => ⟨S128x256, .i32⟩
  | 58 => ⟨S_, .i32⟩
  | 59 => ⟨S128x256, .i32⟩
  | 60 => ⟨S128x256, .i32⟩
  | 61 => ⟨S128x256, .f32⟩
  | 62 => ⟨S_, .f32⟩
  | 63 => ⟨S128x256, .f32⟩
  | 64 => ⟨S128x256, .f32⟩
  | 65 => ⟨S128x256, .f32⟩
  | 66 => ⟨S_, .f32⟩
  | 67 => ⟨S128x256, .f32⟩
  | 68 => ⟨S128x256, .f32⟩
  | 69 => ⟨S_, .f32⟩
  | 70 => ⟨S128x256, .f32⟩
  | 71 => ⟨S128x256, .f32⟩
  | 72 => ⟨S128x256, .i32⟩
  | 73 => ⟨S_, .i32⟩
  | 74 => ⟨S128x256, .i32⟩
  | 75 => ⟨S128x256, .i32⟩
  | 76 => ⟨S_, .i32⟩
  | 77 => ⟨S128x256, .i32⟩
  | 78 => ⟨S128x256, .i32⟩
  | 79 => ⟨S_, .i32⟩
  | 80 => ⟨S128x256, .i32⟩
  | 81 => ⟨S128x256, .i1⟩
  | 82 => ⟨S128x256, .i32⟩
  | 83 => ⟨S_, .i32⟩
  | 84 => ⟨S128x256, .i32⟩
  | 85 => ⟨S128x256, .i1⟩
  | 86 => ⟨S_, .i32⟩
  | 87 => ⟨S128x256, .i32⟩
  | 88 => ⟨S128x256, .i32⟩
  | 89 => ⟨S128x256, .i32⟩
  | 90 => ⟨S128x256x1, .i32⟩
  | 91 => ⟨S1, .i32⟩
  | 92 => ⟨S_, .i32⟩
  | 93 => ⟨S128x256x1, .i32⟩
  | 94 => ⟨S128x256x1, .i1⟩
  | 95 => ⟨S1x1x1, .i32⟩
  | 96 => ⟨S128x256x1, .i32⟩
  | 97 => ⟨S128x256x1, .i1⟩
  | 98 => ⟨S128x256x1, .i1⟩
  | 99 => ⟨S_, .i1⟩
  | 100 => ⟨S128x256, .i1⟩
  | 101 => ⟨S128x256x4, .f32⟩
  | 102 => ⟨S128x256x4, .i1⟩
  | 103 => ⟨S_, .f32⟩
  | 104 => ⟨S128x256x4, .f32⟩
  | 105 => ⟨S128x256x4, .f32⟩
  | 106 => ⟨S4x128x256, .f32⟩
  | 107 => ⟨S_, .i32⟩
  | 108 => ⟨S128x256, .i32⟩
  | 109 => ⟨S128x256, .i1⟩
  | 110 => ⟨S_, .i32⟩
  | 111 => ⟨S128x256, .i32⟩
  | 112 => ⟨S128x256, .i1⟩
  | 113 => ⟨S128x256, .i1⟩
  | 114 => ⟨S_, .f32⟩
  | 115 => ⟨S_, .f32⟩
  | 116 => ⟨S4x128x256, .i1⟩
  | 117 => ⟨S4x128x256, .f32⟩
  | 118 => ⟨S4x128x256, .f32⟩
  | 119 => ⟨S2x1x64x4x128x256, .f32⟩
  | 120 => ⟨S1x1x1x4x128x256, .f32⟩
  | 121 => ⟨S2x1x64x4x128x256, .f32⟩
  | 122 => ⟨S2x1x64x4x128x256, .f32⟩
  | 123 => ⟨S_, .i32⟩
  | 124 => ⟨S64x1x256, .i32⟩
  | 125 => ⟨S64x1x256, .i1⟩
  | 126 => ⟨S64x1x1x256, .i1⟩
  | 127 => ⟨S_, .f32⟩
  | _ => ⟨S2x8192x768, .bf16⟩

abbrev hbmTy0_1 (i : Nat) : BufTy := match i % 128 with
  | 0 => ⟨S_, .f32⟩
  | 1 => ⟨S2x1x64x4x128x256, .i1⟩
  | 2 => ⟨S2x1x64x4x128x256, .f32⟩
  | 3 => ⟨S2x1x64x4x128x256, .f32⟩
  | 4 => ⟨S2x1x64x4x128x256, .f32⟩
  | 5 => ⟨S_, .f32⟩
  | 6 => ⟨S2x1x64x4x128, .f32⟩
  | 7 => ⟨S2x1x64x4x128, .f32⟩
  | 8 => ⟨S2x1x64x4x128x1, .f32⟩
  | 9 => ⟨S2x1x64x4x128x256, .f32⟩
  | 10 => ⟨S2x1x64x4x128x256, .f32⟩
  | 11 => ⟨S2x1x64x4x128x256, .f32⟩
  | 12 => ⟨S2x1x64x4x64x128, .f32⟩
  | 13 => ⟨S2x1x64x128x4x64, .f32⟩
  | 14 => ⟨S2x1x8192x4x64, .f32⟩
  | 15 => ⟨S2x8192x1x4x64, .f32⟩
  | 16 => ⟨S2x8192x4x64, .f32⟩
  | 17 => ⟨S2x1x64x128x4, .f32⟩
  | 18 => ⟨S2x1x8192x4, .f32⟩
  | 19 => ⟨S2x8192x1x4, .f32⟩
  | 20 => ⟨S2x8192x4, .f32⟩
  | 21 => ⟨S2x8192x256, .f32⟩
  | 22 => ⟨S2x8192x4x1, .f32⟩
  | 23 => ⟨S2x8192x4x64, .f32⟩
  | 24 => ⟨S2x8192x256, .f32⟩
  | _ => ⟨S2x8192x768, .bf16⟩

abbrev hbmTy (i : Nat) : BufTy := match i / 128 with
  | 0 => hbmTy0_0 i
  | 1 => hbmTy0_1 i
  | _ => ⟨S2x8192x768, .bf16⟩

abbrev bufTy : (tb : Table) → Fin (tcTables nBuf tb) → BufTy
  | .hbm, ⟨i, _⟩ => hbmTy i
  | _, _ => ⟨S2x8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c : Ref sig .tc := ⟨.hbm, 20, rfl⟩
abbrev main_call0_v0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_0 : Ref sig .tc := ⟨.hbm, 28, rfl⟩
abbrev main_call1_v0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_1 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_c_3 : Ref sig .tc := ⟨.hbm, 52, rfl⟩
abbrev main_v43 : Ref sig .tc := ⟨.hbm, 53, rfl⟩
abbrev main_v44 : Ref sig .tc := ⟨.hbm, 54, rfl⟩
abbrev main_c_4 : Ref sig .tc := ⟨.hbm, 55, rfl⟩
abbrev main_v45 : Ref sig .tc := ⟨.hbm, 56, rfl⟩
abbrev main_v46 : Ref sig .tc := ⟨.hbm, 57, rfl⟩
abbrev main_c_5 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c_8 : Ref sig .tc := ⟨.hbm, 73, rfl⟩
abbrev main_v58 : Ref sig .tc := ⟨.hbm, 74, rfl⟩
abbrev main_v59 : Ref sig .tc := ⟨.hbm, 75, rfl⟩
abbrev main_c_9 : Ref sig .tc := ⟨.hbm, 76, rfl⟩
abbrev main_v60 : Ref sig .tc := ⟨.hbm, 77, rfl⟩
abbrev main_v61 : Ref sig .tc := ⟨.hbm, 78, rfl⟩
abbrev main_c_10 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_call3_c : Ref sig .tc := ⟨.hbm, 83, rfl⟩
abbrev main_call3_v0 : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_c_1 : Ref sig .tc := ⟨.hbm, 91, rfl⟩
abbrev main_call3_c_2 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_c_3 : Ref sig .tc := ⟨.hbm, 99, rfl⟩
abbrev main_call3_v12 : Ref sig .tc := ⟨.hbm, 100, rfl⟩
abbrev main_call3_v13 : Ref sig .tc := ⟨.hbm, 101, rfl⟩
abbrev main_call3_v14 : Ref sig .tc := ⟨.hbm, 102, rfl⟩
abbrev main_call3_cst : Ref sig .tc := ⟨.hbm, 103, rfl⟩
abbrev main_call3_v15 : Ref sig .tc := ⟨.hbm, 104, rfl⟩
abbrev main_v65 : Ref sig .tc := ⟨.hbm, 105, rfl⟩
abbrev main_v66 : Ref sig .tc := ⟨.hbm, 106, rfl⟩
abbrev main_c_11 : Ref sig .tc := ⟨.hbm, 107, rfl⟩
abbrev main_v67 : Ref sig .tc := ⟨.hbm, 108, rfl⟩
abbrev main_v68 : Ref sig .tc := ⟨.hbm, 109, rfl⟩
abbrev main_c_12 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_13 : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_c_14 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_cst_15 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_v80 : Ref sig .tc := ⟨.hbm, 131, rfl⟩
abbrev main_v81 : Ref sig .tc := ⟨.hbm, 132, rfl⟩
abbrev main_cst_16 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩

abbrev nD : Nat := 1
abbrev τ : Topo := Topo.v7x

variable {F : FTy → Type} [FloatOps F]
-- ==== FfnStep.lean ====
abbrev S128x1024 : Shape := ⟨2, ![128, 1024]⟩
abbrev S128x512 : Shape := ⟨2, ![128, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S1x1024 : Shape := ⟨2, ![1, 1024]⟩
abbrev S1024x256 : Shape := ⟨2, ![1024, 256]⟩
abbrev S256x1024 : Shape := ⟨2, ![256, 1024]⟩
abbrev S128 : Shape := ⟨1, ![128]⟩
abbrev S128x1 : Shape := ⟨2, ![128, 1]⟩
abbrev S128x256 : Shape := ⟨2, ![128, 256]⟩

abbrev nBuf : Space → Nat
  | .hbm => 16
  | .vmem => 16
  | .smem => 0
  | _ => 0

abbrev bufTy : (tb : Table) → Fin (tcTables nBuf tb) → BufTy
  | .hbm, ⟨0, _⟩ => ⟨S128x1024, .f32⟩
  | .hbm, ⟨1, _⟩ => ⟨S128x512, .bf16⟩
  | .hbm, ⟨2, _⟩ => ⟨S128x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x1024, .bf16⟩
  | .hbm, ⟨9, _⟩ => ⟨S512x1024, .bf16⟩
  | .hbm, ⟨10, _⟩ => ⟨S512x1024, .bf16⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S1x1024, .f32⟩
  | .hbm, ⟨15, _⟩ => ⟨S128x1024, .f32⟩
  | .local _ .vmem, ⟨0, _⟩ => ⟨S128x1024, .f32⟩
  | .local _ .vmem, ⟨1, _⟩ => ⟨S128x512, .bf16⟩
  | .local _ .vmem, ⟨2, _⟩ => ⟨S128x512, .bf16⟩
  | .local _ .vmem, ⟨3, _⟩ => ⟨S512x1024, .bf16⟩
  | .local _ .vmem, ⟨4, _⟩ => ⟨S512x1024, .bf16⟩
  | .local _ .vmem, ⟨5, _⟩ => ⟨S1x1024, .f32⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S256x1024, .bf16⟩
  | .local _ .vmem, ⟨11, _⟩ => ⟨S256x1024, .bf16⟩
  | .local _ .vmem, ⟨12, _⟩ => ⟨S128x1024, .f32⟩
  | .local _ .vmem, ⟨13, _⟩ => ⟨S128x1024, .f32⟩
  | .local _ .vmem, ⟨14, _⟩ => ⟨S128x1024, .bf16⟩
  | .local _ .vmem, ⟨15, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== RefFfnStepIdeal.lean ====
abbrev S128x1024 : Shape := ⟨2, ![128, 1024]⟩
abbrev S128x512 : Shape := ⟨2, ![128, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x2816 : Shape := ⟨2, ![128, 2816]⟩

abbrev nBuf : Space → Nat
  | .hbm => 43
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x512, .bf16⟩
  | .hbm, ⟨2, _⟩ => ⟨S128x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S128x512, .f32⟩
  | .hbm, ⟨9, _⟩ => ⟨S128x512, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128, .f32⟩
  | .hbm, ⟨16, _⟩ => ⟨S128x1, .f32⟩
  | .hbm, ⟨17, _⟩ => ⟨S_, .f32⟩
  | .hbm, ⟨18, _⟩ => ⟨S128x1, .f32⟩
  | .hbm, ⟨19, _⟩ => ⟨S128x1, .f32⟩
  | .hbm, ⟨20, _⟩ => ⟨S_, .f32⟩
  | .hbm, ⟨21, _⟩ => ⟨S128x1, .f32⟩
  | .hbm, ⟨22, _⟩ => ⟨S128x1, .f32⟩
  | .hbm, ⟨23, _⟩ => ⟨S128x1, .f32⟩
  | .hbm, ⟨24, _⟩ => ⟨S128x1024, .f32⟩
  | .hbm, ⟨25, _⟩ => ⟨S128x1024, .f32⟩
  | .hbm, ⟨26, _⟩ => ⟨S1x1024, .f32⟩
  | .hbm, ⟨27, _⟩ => ⟨S128x1024, .f32⟩
  | .hbm, ⟨28, _⟩ => ⟨S128x1024, .f32⟩
  | .hbm, ⟨29, _⟩ => ⟨S128x2816, .f32⟩
  | .hbm, ⟨30, _⟩ => ⟨S128x2816, .f32⟩
  | .hbm, ⟨31, _⟩ => ⟨S128x2816, .f32⟩
  | .hbm, ⟨32, _⟩ => ⟨S_, .f32⟩
  | .hbm, ⟨33, _⟩ => ⟨S128x2816, .f32⟩
  | .hbm, ⟨34, _⟩ => ⟨S128x2816, .f32⟩
  | .hbm, ⟨35, _⟩ => ⟨S_, .f32⟩
  | .hbm, ⟨36, _⟩ => ⟨S128x2816, .f32⟩
  | .hbm, ⟨37, _⟩ => ⟨S128x2816, .f32⟩
  | .hbm, ⟨38, _⟩ => ⟨S128x2816, .f32⟩
  | .hbm, ⟨39, _⟩ => ⟨S128x2816, .f32⟩
  | .hbm, ⟨40, _⟩ => ⟨S128x2816, .f32⟩
  | .hbm, ⟨41, _⟩ => ⟨S128x1024, .f32⟩
  | .hbm, ⟨42, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== ProjStep.lean ====
abbrev S128x1024 : Shape := ⟨2, ![128, 1024]⟩
abbrev S1024 : Shape := ⟨1, ![1024]⟩
abbrev S1024x3456 : Shape := ⟨2, ![1024, 3456]⟩
abbrev S1x1024 : Shape := ⟨2, ![1, 1024]⟩
abbrev S128x3456 : Shape := ⟨2, ![128, 3456]⟩
abbrev S128 : Shape := ⟨1, ![128]⟩
abbrev S128x1 : Shape := ⟨2, ![128, 1]⟩

abbrev nBuf : Space → Nat
  | .hbm => 6
  | .vmem => 4
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x3456, .f32⟩
  | .hbm, ⟨3, _⟩ => ⟨S1024x3456, .bf16⟩
  | .hbm, ⟨4, _⟩ => ⟨S1x1024, .f32⟩
  | .hbm, ⟨5, _⟩ => ⟨S128x3456, .f32⟩
  | .local _ .vmem, ⟨0, _⟩ => ⟨S128x1024, .f32⟩
  | .local _ .vmem, ⟨1, _⟩ => ⟨S1x1024, .f32⟩
  | .local _ .vmem, ⟨2, _⟩ => ⟨S1024x3456, .bf16⟩
  | .local _ .vmem, ⟨3, _⟩ => ⟨S128x3456, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x3456 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== RefProjStepIdeal.lean ====
abbrev S128x1024 : Shape := ⟨2, ![128, 1024]⟩
abbrev S1024 : Shape := ⟨1, ![1024]⟩
abbrev S1024x3456 : Shape := ⟨2, ![1024, 3456]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x3456 : Shape := ⟨2, ![128, 3456]⟩

abbrev nBuf : Space → Nat
  | .hbm => 20
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x3456, .f32⟩
  | .hbm, ⟨3, _⟩ => ⟨S128x1024, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x1024, .f32⟩
  | .hbm, ⟨15, _⟩ => ⟨S128x1024, .f32⟩
  | .hbm, ⟨16, _⟩ => ⟨S1x1024, .f32⟩
  | .hbm, ⟨17, _⟩ => ⟨S128x1024, .f32⟩
  | .hbm, ⟨18, _⟩ => ⟨S128x1024, .f32⟩
  | .hbm, ⟨19, _⟩ => ⟨S128x3456, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== AbQkv.lean ====
abbrev S16384x3328 : Shape := ⟨2, ![16384, 3328]⟩
abbrev S64 : Shape := ⟨1, ![64]⟩
abbrev S256x256 : Shape := ⟨2, ![256, 256]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S16384x768 : Shape := ⟨2, ![16384, 768]⟩
abbrev S3x16384x512 : Shape := ⟨3, ![3, 16384, 512]⟩
abbrev S512x256 : Shape := ⟨2, ![512, 256]⟩
abbrev S1x512x512 : Shape := ⟨3, ![1, 512, 512]⟩
abbrev S1x512x256 : Shape := ⟨3, ![1, 512, 256]⟩

abbrev nBuf : Space → Nat
  | .hbm => 14
  | .vmem => 13
  | .smem => 0
  | _ => 0

abbrev bufTy : (tb : Table) → Fin (tcTables nBuf tb) → BufTy
  | .hbm, ⟨0, _⟩ => ⟨S16384x3328, .f32⟩
  | .hbm, ⟨1, _⟩ => ⟨S64, .f32⟩
  | .hbm, ⟨2, _⟩ => ⟨S64, .f32⟩
  | .hbm, ⟨3, _⟩ => ⟨S256x256, .bf16⟩
  | .hbm, ⟨4, _⟩ => ⟨S1x64, .f32⟩
  | .hbm, ⟨5, _⟩ => ⟨S4x64, .f32⟩
  | .hbm, ⟨6, _⟩ => ⟨S256, .f32⟩
  | .hbm, ⟨7, _⟩ => ⟨S1x256, .f32⟩
  | .hbm, ⟨8, _⟩ => ⟨S1x64, .f32⟩
  | .hbm, ⟨9, _⟩ => ⟨S4x64, .f32⟩
  | .hbm, ⟨10, _⟩ => ⟨S256, .f32⟩
  | .hbm, ⟨11, _⟩ => ⟨S1x256, .f32⟩
  | .hbm, ⟨12, _⟩ => ⟨S16384x768, .bf16⟩
  | .hbm, ⟨13, _⟩ => ⟨S3x16384x512, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S1x256, .f32⟩
  | .local _ .vmem, ⟨8, _⟩ => ⟨S256x256, .bf16⟩
  | .local _ .vmem, ⟨9, _⟩ => ⟨S512x256, .bf16⟩
  | .local _ .vmem, ⟨10, _⟩ => ⟨S512x256, .bf16⟩
  | .local _ .vmem, ⟨11, _⟩ => ⟨S1x512x512, .f32⟩
  | .local _ .vmem, ⟨12, _⟩ => ⟨S1x512x512, .f32⟩
  | _, _ => ⟨S16384x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefAbQkvIdeal.lean ====
abbrev S16384x3328 : Shape := ⟨2, ![16384, 3328]⟩
abbrev S64 : Shape := ⟨1, ![64]⟩
abbrev S16384x768 : Shape := ⟨2, ![16384, 768]⟩
abbrev S16384x12x64 : Shape := ⟨3, ![16384, 12, 64]⟩
abbrev S_ : Shape := ⟨0, ![]⟩
abbrev S16384x12 : Shape := ⟨2, ![16384, 12]⟩
abbrev S16384x12x1 : Shape := ⟨3, ![16384, 12, 1]⟩
abbrev S1x1x64 : Shape := ⟨3, ![1, 1, 64]⟩
abbrev S16384x4x64 : Shape := ⟨3, ![16384, 4, 64]⟩
abbrev S16384x1x4x64 : Shape := ⟨4, ![16384, 1, 4, 64]⟩
abbrev S16384x2x4x64 : Shape := ⟨4, ![16384, 2, 4, 64]⟩
abbrev S1x16384x2x4x64 : Shape := ⟨5, ![1, 16384, 2, 4, 64]⟩
abbrev S3x16384x2x4x64 : Shape := ⟨5, ![3, 16384, 2, 4, 64]⟩
abbrev S3x16384x512 : Shape := ⟨3, ![3, 16384, 512]⟩

abbrev nBuf : Space → Nat
  | .hbm => 66
  | .vmem => 0
  | .smem => 0
  | _ => 0

abbrev bufTy : (tb : Table) → Fin (tcTables nBuf tb) → BufTy
  | .hbm, ⟨0, _⟩ => ⟨S16384x3328, .f32⟩
  | .hbm, ⟨1, _⟩ => ⟨S64, .f32⟩
  | .hbm, ⟨2, _⟩ => ⟨S64, .f32⟩
  | .hbm, ⟨3, _⟩ => ⟨S16384x768, .f32⟩
  | .hbm, ⟨4, _⟩ => ⟨S16384x768, .f32⟩
  | .hbm, ⟨5, _⟩ => ⟨S16384x768, .f32⟩
  | .hbm, ⟨6, _⟩ => ⟨S16384x12x64, .f32⟩
  | .hbm, ⟨7, _⟩ => ⟨S16384x12x64, .f32⟩
  | .hbm, ⟨8, _⟩ => ⟨S_, .f32⟩
  | .hbm, ⟨9, _⟩ => ⟨S16384x12, .f32⟩
  | .hbm, ⟨10, _⟩ => ⟨S16384x12x1, .f32⟩
  | .hbm, ⟨11, _⟩ => ⟨S_, .f32⟩
  | .hbm, ⟨12, _⟩ => ⟨S16384x12x1, .f32⟩
  | .hbm, ⟨13, _⟩ => ⟨S16384x12x1, .f32⟩
  | .hbm, ⟨14, _⟩ => ⟨S_, .f32⟩
  | .hbm, ⟨15, _⟩ => ⟨S16384x12x1, .f32⟩
  | .hbm, ⟨16, _⟩ => ⟨S16384x12x1, .f32⟩
  | .hbm, ⟨17, _⟩ => ⟨S16384x12x1, .f32⟩
  | .hbm, ⟨18, _⟩ => ⟨S16384x12x64, .f32⟩
  | .hbm, ⟨19, _⟩ => ⟨S16384x12x64, .f32⟩
  | .hbm, ⟨20, _⟩ => ⟨S1x1x64, .f32⟩
  | .hbm, ⟨21, _⟩ => ⟨S16384x12x64, .f32⟩
  | .hbm, ⟨22, _⟩ => ⟨S16384x12x64, .f32⟩
  | .hbm, ⟨23, _⟩ => ⟨S_, .f32⟩
  | .hbm, ⟨24, _⟩ => ⟨S16384x12x64, .f32⟩
  | .hbm, ⟨25, _⟩ => ⟨S16384x12x64, .f32⟩
  | .hbm, ⟨26, _⟩ => ⟨S16384x12x64, .f32⟩
  | .hbm, ⟨27, _⟩ => ⟨S16384x12x64, .f32⟩
  | .hbm, ⟨28, _⟩ => ⟨S_, .f32⟩
  | .hbm, ⟨29, _⟩ => ⟨S16384x12, .f32⟩
  | .hbm, ⟨30, _⟩ => ⟨S16384x12x1, .f32⟩
  | .hbm, ⟨31, _⟩ => ⟨S_, .f32⟩
  | .hbm, ⟨32, _⟩ => ⟨S16384x12x1, .f32⟩
  | .hbm, ⟨33, _⟩ => ⟨S16384x12x1, .f32⟩
  | .hbm, ⟨34, _⟩ => ⟨S_, .f32⟩
  | .hbm, ⟨35, _⟩ => ⟨S16384x12x1, .f32⟩
  | .hbm, ⟨36, _⟩ => ⟨S16384x12x1, .f32⟩
  | .hbm, ⟨37, _⟩ => ⟨S16384x12x1, .f32⟩
  | .hbm, ⟨38, _⟩ => ⟨S16384x12x64, .f32⟩
  | .hbm, ⟨39, _⟩ => ⟨S16384x12x64, .f32⟩
  | .hbm, ⟨40, _⟩ => ⟨S1x1x64, .f32⟩
  | .hbm, ⟨41, _⟩ => ⟨S16384x12x64, .f32⟩
  | .hbm, ⟨42, _⟩ => ⟨S16384x12x64, .f32⟩
  | .hbm, ⟨43, _⟩ => ⟨S16384x12x64, .f32⟩
  | .hbm, ⟨44, _⟩ => ⟨S16384x4x64, .f32⟩
  | .hbm, ⟨45, _⟩ => ⟨S16384x4x64, .f32⟩
  | .hbm, ⟨46, _⟩ => ⟨S16384x1x4x64, .f32⟩
  | .hbm, ⟨47, _⟩ => ⟨S16384x1x4x64, .f32⟩
  | .hbm, ⟨48, _⟩ => ⟨S16384x2x4x64, .f32⟩
  | .hbm, ⟨49, _⟩ => ⟨S16384x4x64, .f32⟩
  | .hbm, ⟨50, _⟩ => ⟨S16384x4x64, .f32⟩
  | .hbm, ⟨51, _⟩ => ⟨S16384x1x4x64, .f32⟩
  | .hbm, ⟨52, _⟩ => ⟨S16384x1x4x64, .f32⟩
  | .hbm, ⟨53, _⟩ => ⟨S16384x2x4x64, .f32⟩
  | .hbm, ⟨54, _⟩ => ⟨S16384x4x64, .f32⟩
  | .hbm, ⟨55, _⟩ => ⟨S16384x4x64, .f32⟩
  | .hbm, ⟨56, _⟩ => ⟨S16384x1x4x64, .f32⟩
  | .hbm, ⟨57, _⟩ => ⟨S16384x1x4x64, .f32⟩
  | .hbm, ⟨58, _⟩ => ⟨S16384x2x4x64, .f32⟩
  | .hbm, ⟨59, _⟩ => ⟨S16384x768, .f32⟩
  | .hbm, ⟨60, _⟩ => ⟨S16384x768, .bf16⟩
  | .hbm, ⟨61, _⟩ => ⟨S1x16384x2x4x64, .f32⟩
  | .hbm, ⟨62, _⟩ => ⟨S1x16384x2x4x64, .f32⟩
  | .hbm, ⟨63, _⟩ => ⟨S1x16384x2x4x64, .f32⟩
  | .hbm, ⟨64, _⟩ => ⟨S3x16384x2x4x64, .f32⟩
  | .hbm, ⟨65, _⟩ => ⟨S3x16384x512, .f32⟩
  | _, _ => ⟨S16384x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩

abbrev nD : Nat := 1
abbrev τ : Topo := Topo.v7x

variable {F : FTy → Type} [FloatOps F]
-- ==== ConvStep.lean ====
abbrev S32x4x3328 : Shape := ⟨3, ![32, 4, 3328]⟩
abbrev S32x30x512 : Shape := ⟨3, ![32, 30, 512]⟩
abbrev S31x512 : Shape := ⟨2, ![31, 512]⟩
abbrev S512 : Shape := ⟨1, ![512]⟩
abbrev S_ : Shape := ⟨0, ![]⟩
abbrev S32x32x512 : Shape := ⟨3, ![32, 32, 512]⟩
abbrev S32x512 : Shape := ⟨2, ![32, 512]⟩
abbrev S1x512 : Shape := ⟨2, ![1, 512]⟩
abbrev S32x4x512 : Shape := ⟨3, ![32, 4, 512]⟩
abbrev S1x4x1024 : Shape := ⟨3, ![1, 4, 1024]⟩
abbrev S1x32x512 : Shape := ⟨3, ![1, 32, 512]⟩
abbrev S1x4x512 : Shape := ⟨3, ![1, 4, 512]⟩
abbrev S36x512 : Shape := ⟨2, ![36, 512]⟩
abbrev S4x1024 : Shape := ⟨2, ![4, 1024]⟩
abbrev S4x512 : Shape := ⟨2, ![4, 512]⟩
abbrev S4 : Shape := ⟨1, ![4]⟩
abbrev S4x1 : Shape := ⟨2, ![4, 1]⟩

abbrev nBuf : Space → Nat
  | .hbm => 17
  | .vmem => 13
  | .smem => 0
  | _ => 0

abbrev bufTy : (tb : Table) → Fin (tcTables nBuf tb) → BufTy
  | .hbm, ⟨0, _⟩ => ⟨S32x4x3328, .f32⟩
  | .hbm, ⟨1, _⟩ => ⟨S32x30x512, .f32⟩
  | .hbm, ⟨2, _⟩ => ⟨S31x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S_, .i32⟩
  | .hbm, ⟨7, _⟩ => ⟨S_, .f32⟩
  | .hbm, ⟨8, _⟩ => ⟨S32x32x512, .f32⟩
  | .hbm, ⟨9, _⟩ => ⟨S_, .i32⟩
  | .hbm, ⟨10, _⟩ => ⟨S_, .f32⟩
  | .hbm, ⟨11, _⟩ => ⟨S32x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S32x4x512, .bf16⟩
  | .hbm, ⟨16, _⟩ => ⟨S32x32x512, .f32⟩
  | .local _ .vmem, ⟨0, _⟩ => ⟨S1x4x1024, .f32⟩
  | .local _ .vmem, ⟨1, _⟩ => ⟨S1x4x1024, .f32⟩
  | .local _ .vmem, ⟨2, _⟩ => ⟨S1x32x512, .f32⟩
  | .local _ .vmem, ⟨3, _⟩ => ⟨S1x32x512, .f32⟩
  | .local _ .vmem, ⟨4, _⟩ => ⟨S32x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x4x512, .bf16⟩
  | .local _ .vmem, ⟨9, _⟩ => ⟨S1x4x512, .bf16⟩
  | .local _ .vmem, ⟨10, _⟩ => ⟨S1x32x512, .f32⟩
  | .local _ .vmem, ⟨11, _⟩ => ⟨S1x32x512, .f32⟩
  | .local _ .vmem, ⟨12, _⟩ => ⟨S36x512, .f32⟩
  | _, _ => ⟨S32x4x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvStepIdeal.lean ====
abbrev S32x4x3328 : Shape := ⟨3, ![32, 4, 3328]⟩
abbrev S32x30x512 : Shape := ⟨3, ![32, 30, 512]⟩
abbrev S31x512 : Shape := ⟨2, ![31, 512]⟩
abbrev S512 : Shape := ⟨1, ![512]⟩
abbrev S_ : Shape := ⟨0, ![]⟩
abbrev S32x32x512 : Shape := ⟨3, ![32, 32, 512]⟩
abbrev S32x512 : Shape := ⟨2, ![32, 512]⟩
abbrev S1x512 : Shape := ⟨2, ![1, 512]⟩
abbrev S32x4x512 : Shape := ⟨3, ![32, 4, 512]⟩
abbrev S1x4x1024 : Shape := ⟨3, ![1, 4, 1024]⟩
abbrev S1x32x512 : Shape := ⟨3, ![1, 32, 512]⟩
abbrev S1x4x512 : Shape := ⟨3, ![1, 4, 512]⟩
abbrev S36x512 : Shape := ⟨2, ![36, 512]⟩
abbrev S4x1024 : Shape := ⟨2, ![4, 1024]⟩
abbrev S4x512 : Shape := ⟨2, ![4, 512]⟩
abbrev S4 : Shape := ⟨1, ![4]⟩
abbrev S4x1 : Shape := ⟨2, ![4, 1]⟩

abbrev nBuf : Space → Nat
  | .hbm => 17
  | .vmem => 13
  | .smem => 0
  | _ => 0

abbrev bufTy : (tb : Table) → Fin (tcTables nBuf tb) → BufTy
  | .hbm, ⟨0, _⟩ => ⟨S32x4x3328, .f32⟩
  | .hbm, ⟨1, _⟩ => ⟨S32x30x512, .f32⟩
  | .hbm, ⟨2, _⟩ => ⟨S31x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S_, .i32⟩
  | .hbm, ⟨7, _⟩ => ⟨S_, .f32⟩
  | .hbm, ⟨8, _⟩ => ⟨S32x32x512, .f32⟩
  | .hbm, ⟨9, _⟩ => ⟨S_, .i32⟩
  | .hbm, ⟨10, _⟩ => ⟨S_, .f32⟩
  | .hbm, ⟨11, _⟩ => ⟨S32x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S32x4x512, .bf16⟩
  | .hbm, ⟨16, _⟩ => ⟨S32x32x512, .f32⟩
  | .local _ .vmem, ⟨0, _⟩ => ⟨S1x4x1024, .f32⟩
  | .local _ .vmem, ⟨1, _⟩ => ⟨S1x4x1024, .f32⟩
  | .local _ .vmem, ⟨2, _⟩ => ⟨S1x32x512, .f32⟩
  | .local _ .vmem, ⟨3, _⟩ => ⟨S1x32x512, .f32⟩
  | .local _ .vmem, ⟨4, _⟩ => ⟨S32x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x4x512, .bf16⟩
  | .local _ .vmem, ⟨9, _⟩ => ⟨S1x4x512, .bf16⟩
  | .local _ .vmem, ⟨10, _⟩ => ⟨S1x32x512, .f32⟩
  | .local _ .vmem, ⟨11, _⟩ => ⟨S1x32x512, .f32⟩
  | .local _ .vmem, ⟨12, _⟩ => ⟨S36x512, .f32⟩
  | _, _ => ⟨S32x4x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== RefConvStepIdeal.lean ====
abbrev S32x4x3328 : Shape := ⟨3, ![32, 4, 3328]⟩
abbrev S32x30x512 : Shape := ⟨3, ![32, 30, 512]⟩
abbrev S31x512 : Shape := ⟨2, ![31, 512]⟩
abbrev S512 : Shape := ⟨1, ![512]⟩
abbrev S32x4x512 : Shape := ⟨3, ![32, 4, 512]⟩
abbrev S_ : Shape := ⟨0, ![]⟩
abbrev S32x34x512 : Shape := ⟨3, ![32, 34, 512]⟩
abbrev S1x512 : Shape := ⟨2, ![1, 512]⟩
abbrev S1x1x512 : Shape := ⟨3, ![1, 1, 512]⟩
abbrev S32x4 : Shape := ⟨2, ![32, 4]⟩
abbrev S32x4x1 : Shape := ⟨3, ![32, 4, 1]⟩
abbrev S32x32x512 : Shape := ⟨3, ![32, 32, 512]⟩

abbrev nBuf : Space → Nat
  | .hbm => 280
  | .vmem => 0
  | .smem => 0
  | _ => 0

abbrev hbmTy0_0 (i : Nat) : BufTy := match i % 128 with
  | 0 => ⟨S32x4x3328, .f32⟩
  | 1 => ⟨S32x30x512, .f32⟩
  | 2 => ⟨S31x512, .f32⟩
  | 3 => ⟨S512, .f32⟩
  | 4 => ⟨S512, .f32⟩
  | 5 => ⟨S512, .f32⟩
  | 6 => ⟨S32x4x512, .f32⟩
  | 7 => ⟨S32x4x512, .f32⟩
  | 8 => ⟨S32x4x512, .f32⟩
  | 9 => ⟨S32x4x512, .f32⟩
  | 10 => ⟨S_, .f32⟩
  | 11 => ⟨S32x4x512, .f32⟩
  | 12 => ⟨S32x4x512, .f32⟩
  | 13 => ⟨S_, .f32⟩
  | 14 => ⟨S32x4x512, .f32⟩
  | 15 => ⟨S32x4x512, .f32⟩
  | 16 => ⟨S32x4x512, .f32⟩
  | 17 => ⟨S32x34x512, .f32⟩
  | 18 => ⟨S32x4x512, .f32⟩
  | 19 => ⟨S1x512, .f32⟩
  | 20 => ⟨S512, .f32⟩
  | 21 => ⟨S1x1x512, .f32⟩
  | 22 => ⟨S32x4x512, .f32⟩
  | 23 => ⟨S32x4x512, .f32⟩
  | 24 => ⟨S_, .f32⟩
  | 25 => ⟨S32x4x512, .f32⟩
  | 26 => ⟨S32x4x512, .f32⟩
  | 27 => ⟨S32x4x512, .f32⟩
  | 28 => ⟨S1x512, .f32⟩
  | 29 => ⟨S512, .f32⟩
  | 30 => ⟨S1x1x512, .f32⟩
  | 31 => ⟨S32x4x512, .f32⟩
  | 32 => ⟨S32x4x512, .f32⟩
  | 33 => ⟨S32x4x512, .f32⟩
  | 34 => ⟨S32x4x512, .f32⟩
  | 35 => ⟨S1x512, .f32⟩
  | 36 => ⟨S512, .f32⟩
  | 37 => ⟨S1x1x512, .f32⟩
  | 38 => ⟨S32x4x512, .f32⟩
  | 39 => ⟨S32x4x512, .f32⟩
  | 40 => ⟨S32x4x512, .f32⟩
  | 41 => ⟨S32x4x512, .f32⟩
  | 42 => ⟨S1x512, .f32⟩
  | 43 => ⟨S512, .f32⟩
  | 44 => ⟨S1x1x512, .f32⟩
  | 45 => ⟨S32x4x512, .f32⟩
  | 46 => ⟨S32x4x512, .f32⟩
  | 47 => ⟨S32x4x512, .f32⟩
  | 48 => ⟨S32x4x512, .f32⟩
  | 49 => ⟨S1x512, .f32⟩
  | 50 => ⟨S512, .f32⟩
  | 51 => ⟨S1x1x512, .f32⟩
  | 52 => ⟨S32x4x512, .f32⟩
  | 53 => ⟨S32x4x512, .f32⟩
  | 54 => ⟨S32x4x512, .f32⟩
  | 55 => ⟨S32x4x512, .f32⟩
  | 56 => ⟨S1x512, .f32⟩
  | 57 => ⟨S512, .f32⟩
  | 58 => ⟨S1x1x512, .f32⟩
  | 59 => ⟨S32x4x512, .f32⟩
  | 60 => ⟨S32x4x512, .f32⟩
  | 61 => ⟨S32x4x512, .f32⟩
  | 62 => ⟨S32x4x512, .f32⟩
  | 63 => ⟨S1x512, .f32⟩
  | 64 => ⟨S512, .f32⟩
  | 65 => ⟨S1x1x512, .f32⟩
  | 66 => ⟨S32x4x512, .f32⟩
  | 67 => ⟨S32x4x512, .f32⟩
  | 68 => ⟨S32x4x512, .f32⟩
  | 69 => ⟨S32x4x512, .f32⟩
  | 70 => ⟨S1x512, .f32⟩
  | 71 => ⟨S512, .f32⟩
  | 72 => ⟨S1x1x512, .f32⟩
  | 73 => ⟨S32x4x512, .f32⟩
  | 74 => ⟨S32x4x512, .f32⟩
  | 75 => ⟨S32x4x512, .f32⟩
  | 76 => ⟨S32x4x512, .f32⟩
  | 77 => ⟨S1x512, .f32⟩
  | 78 => ⟨S512, .f32⟩
  | 79 => ⟨S1x1x512, .f32⟩
  | 80 => ⟨S32x4x512, .f32⟩
  | 81 => ⟨S32x4x512, .f32⟩
  | 82 => ⟨S32x4x512, .f32⟩
  | 83 => ⟨S32x4x512, .f32⟩
  | 84 => ⟨S1x512, .f32⟩
  | 85 => ⟨S512, .f32⟩
  | 86 => ⟨S1x1x512, .f32⟩
  | 87 => ⟨S32x4x512, .f32⟩
  | 88 => ⟨S32x4x512, .f32⟩
  | 89 => ⟨S32x4x512, .f32⟩
  | 90 => ⟨S32x4x512, .f32⟩
  | 91 => ⟨S1x512, .f32⟩
  | 92 => ⟨S512, .f32⟩
  | 93 => ⟨S1x1x512, .f32⟩
  | 94 => ⟨S32x4x512, .f32⟩
  | 95 => ⟨S32x4x512, .f32⟩
  | 96 => ⟨S32x4x512, .f32⟩
  | 97 => ⟨S32x4x512, .f32⟩
  | 98 => ⟨S1x512, .f32⟩
  | 99 => ⟨S512, .f32⟩
  | 100 => ⟨S1x1x512, .f32⟩
  | 101 => ⟨S32x4x512, .f32⟩
  | 102 => ⟨S32x4x512, .f32⟩
  | 103 => ⟨S32x4x512, .f32⟩
  | 104 => ⟨S32x4x512, .f32⟩
  | 105 => ⟨S1x512, .f32⟩
  | 106 => ⟨S512, .f32⟩
  | 107 => ⟨S1x1x512, .f32⟩
  | 108 => ⟨S32x4x512, .f32⟩
  | 109 => ⟨S32x4x512, .f32⟩
  | 110 => ⟨S32x4x512, .f32⟩
  | 111 => ⟨S32x4x512, .f32⟩
  | 112 => ⟨S1x512, .f32⟩
  | 113 => ⟨S512, .f32⟩
  | 114 => ⟨S1x1x512, .f32⟩
  | 115 => ⟨S32x4x512, .f32⟩
  | 116 => ⟨S32x4x512, .f32⟩
  | 117 => ⟨S32x4x512, .f32⟩
  | 118 => ⟨S32x4x512, .f32⟩
  | 119 => ⟨S1x512, .f32⟩
  | 120 => ⟨S512, .f32⟩
  | 121 => ⟨S1x1x512, .f32⟩
  | 122 => ⟨S32x4x512, .f32⟩
  | 123 => ⟨S32x4x512, .f32⟩
  | 124 => ⟨S32x4x512, .f32⟩
  | 125 => ⟨S32x4x512, .f32⟩
  | 126 => ⟨S1x512, .f32⟩
  | 127 => ⟨S512, .f32⟩
  | _ => ⟨S32x4x3328, .f32⟩

abbrev hbmTy0_1 (i : Nat) : BufTy := match i % 128 with
  | 0 => ⟨S1x1x512, .f32⟩
  | 1 => ⟨S32x4x512, .f32⟩
  | 2 => ⟨S32x4x512, .f32⟩
  | 3 => ⟨S32x4x512, .f32⟩
  | 4 => ⟨S32x4x512, .f32⟩
  | 5 => ⟨S1x512, .f32⟩
  | 6 => ⟨S512, .f32⟩
  | 7 => ⟨S1x1x512, .f32⟩
  | 8 => ⟨S32x4x512, .f32⟩
  | 9 => ⟨S32x4x512, .f32⟩
  | 10 => ⟨S32x4x512, .f32⟩
  | 11 => ⟨S32x4x512, .f32⟩
  | 12 => ⟨S1x512, .f32⟩
  | 13 => ⟨S512, .f32⟩
  | 14 => ⟨S1x1x512, .f32⟩
  | 15 => ⟨S32x4x512, .f32⟩
  | 16 => ⟨S32x4x512, .f32⟩
  | 17 => ⟨S32x4x512, .f32⟩
  | 18 => ⟨S32x4x512, .f32⟩
  | 19 => ⟨S1x512, .f32⟩
  | 20 => ⟨S512, .f32⟩
  | 21 => ⟨S1x1x512, .f32⟩
  | 22 => ⟨S32x4x512, .f32⟩
  | 23 => ⟨S32x4x512, .f32⟩
  | 24 => ⟨S32x4x512, .f32⟩
  | 25 => ⟨S32x4x512, .f32⟩
  | 26 => ⟨S1x512, .f32⟩
  | 27 => ⟨S512, .f32⟩
  | 28 => ⟨S1x1x512, .f32⟩
  | 29 => ⟨S32x4x512, .f32⟩
  | 30 => ⟨S32x4x512, .f32⟩
  | 31 => ⟨S32x4x512, .f32⟩
  | 32 => ⟨S32x4x512, .f32⟩
  | 33 => ⟨S1x512, .f32⟩
  | 34 => ⟨S512, .f32⟩
  | 35 => ⟨S1x1x512, .f32⟩
  | 36 => ⟨S32x4x512, .f32⟩
  | 37 => ⟨S32x4x512, .f32⟩
  | 38 => ⟨S32x4x512, .f32⟩
  | 39 => ⟨S32x4x512, .f32⟩
  | 40 => ⟨S1x512, .f32⟩
  | 41 => ⟨S512, .f32⟩
  | 42 => ⟨S1x1x512, .f32⟩
  | 43 => ⟨S32x4x512, .f32⟩
  | 44 => ⟨S32x4x512, .f32⟩
  | 45 => ⟨S32x4x512, .f32⟩
  | 46 => ⟨S32x4x512, .f32⟩
  | 47 => ⟨S1x512, .f32⟩
  | 48 => ⟨S512, .f32⟩
  | 49 => ⟨S1x1x512, .f32⟩
  | 50 => ⟨S32x4x512, .f32⟩
  | 51 => ⟨S32x4x512, .f32⟩
  | 52 => ⟨S32x4x512, .f32⟩
  | 53 => ⟨S32x4x512, .f32⟩
  | 54 => ⟨S1x512, .f32⟩
  | 55 => ⟨S512, .f32⟩
  | 56 => ⟨S1x1x512, .f32⟩
  | 57 => ⟨S32x4x512, .f32⟩
  | 58 => ⟨S32x4x512, .f32⟩
  | 59 => ⟨S32x4x512, .f32⟩
  | 60 => ⟨S32x4x512, .f32⟩
  | 61 => ⟨S1x512, .f32⟩
  | 62 => ⟨S512, .f32⟩
  | 63 => ⟨S1x1x512, .f32⟩
  | 64 => ⟨S32x4x512, .f32⟩
  | 65 => ⟨S32x4x512, .f32⟩
  | 66 => ⟨S32x4x512, .f32⟩
  | 67 => ⟨S32x4x512, .f32⟩
  | 68 => ⟨S1x512, .f32⟩
  | 69 => ⟨S512, .f32⟩
  | 70 => ⟨S1x1x512, .f32⟩
  | 71 => ⟨S32x4x512, .f32⟩
  | 72 => ⟨S32x4x512, .f32⟩
  | 73 => ⟨S32x4x512, .f32⟩
  | 74 => ⟨S32x4x512, .f32⟩
  | 75 => ⟨S1x512, .f32⟩
  | 76 => ⟨S512, .f32⟩
  | 77 => ⟨S1x1x512, .f32⟩
  | 78 => ⟨S32x4x512, .f32⟩
  | 79 => ⟨S32x4x512, .f32⟩
  | 80 => ⟨S32x4x512, .f32⟩
  | 81 => ⟨S32x4x512, .f32⟩
  | 82 => ⟨S1x512, .f32⟩
  | 83 => ⟨S512, .f32⟩
  | 84 => ⟨S1x1x512, .f32⟩
  | 85 => ⟨S32x4x512, .f32⟩
  | 86 => ⟨S32x4x512, .f32⟩
  | 87 => ⟨S32x4x512, .f32⟩
  | 88 => ⟨S32x4x512, .f32⟩
  | 89 => ⟨S1x512, .f32⟩
  | 90 => ⟨S512, .f32⟩
  | 91 => ⟨S1x1x512, .f32⟩
  | 92 => ⟨S32x4x512, .f32⟩
  | 93 => ⟨S32x4x512, .f32⟩
  | 94 => ⟨S32x4x512, .f32⟩
  | 95 => ⟨S32x4x512, .f32⟩
  | 96 => ⟨S1x512, .f32⟩
  | 97 => ⟨S512, .f32⟩
  | 98 => ⟨S1x1x512, .f32⟩
  | 99 => ⟨S32x4x512, .f32⟩
  | 100 => ⟨S32x4x512, .f32⟩
  | 101 => ⟨S32x4x512, .f32⟩
  | 102 => ⟨S32x4x512, .f32⟩
  | 103 => ⟨S1x512, .f32⟩
  | 104 => ⟨S512, .f32⟩
  | 105 => ⟨S1x1x512, .f32⟩
  | 106 => ⟨S32x4x512, .f32⟩
  | 107 => ⟨S32x4x512, .f32⟩
  | 108 => ⟨S32x4x512, .f32⟩
  | 109 => ⟨S1x1x512, .f32⟩
  | 110 => ⟨S32x4x512, .f32⟩
  | 111 => ⟨S32x4x512, .f32⟩
  | 112 => ⟨S_, .f32⟩
  | 113 => ⟨S32x4, .f32⟩
  | 114 => ⟨S32x4x1, .f32⟩
  | 115 => ⟨S_, .f32⟩
  | 116 => ⟨S32x4x1, .f32⟩
  | 117 => ⟨S32x4x1, .f32⟩
  | 118 => ⟨S32x4x512, .f32⟩
  | 119 => ⟨S32x4x512, .f32⟩
  | 120 => ⟨S32x4x512, .f32⟩
  | 121 => ⟨S_, .f32⟩
  | 122 => ⟨S32x4, .f32⟩
  | 123 => ⟨S32x4x1, .f32⟩
  | 124 => ⟨S_, .f32⟩
  | 125 => ⟨S32x4x1, .f32⟩
  | 126 => ⟨S32x4x1, .f32⟩
  | 127 => ⟨S32x4x512, .f32⟩
  | _ => ⟨S32x4x3328, .f32⟩

abbrev hbmTy0_2 (i : Nat) : BufTy := match i % 128 with
  | 0 => ⟨S32x4x512, .f32⟩
  | 1 => ⟨S_, .f32⟩
  | 2 => ⟨S32x4x1, .f32⟩
  | 3 => ⟨S32x4x1, .f32⟩
  | 4 => ⟨S32x4x1, .f32⟩
  | 5 => ⟨S32x4x512, .f32⟩
  | 6 => ⟨S32x4x512, .f32⟩
  | 7 => ⟨S1x1x512, .f32⟩
  | 8 => ⟨S32x4x512, .f32⟩
  | 9 => ⟨S32x4x512, .f32⟩
  | 10 => ⟨S1x1x512, .f32⟩
  | 11 => ⟨S32x4x512, .f32⟩
  | 12 => ⟨S32x4x512, .f32⟩
  | 13 => ⟨S32x4x512, .f32⟩
  | 14 => ⟨S32x4x512, .f32⟩
  | 15 => ⟨S_, .f32⟩
  | 16 => ⟨S32x4x512, .f32⟩
  | 17 => ⟨S32x4x512, .f32⟩
  | 18 => ⟨S_, .f32⟩
  | 19 => ⟨S32x4x512, .f32⟩
  | 20 => ⟨S32x4x512, .f32⟩
  | 21 => ⟨S32x4x512, .f32⟩
  | 22 => ⟨S32x4x512, .bf16⟩
  | 23 => ⟨S32x32x512, .f32⟩
  | _ => ⟨S32x4x3328, .f32⟩

abbrev hbmTy (i : Nat) : BufTy := match i / 128 with
  | 0 => hbmTy0_0 i
  | 1 => hbmTy0_1 i
  | 2 => hbmTy0_2 i
  | _ => ⟨S32x4x3328, .f32⟩

abbrev bufTy : (tb : Table) → Fin (tcTables nBuf tb) → BufTy
  | .hbm, ⟨i, _⟩ => hbmTy i
  | _, _ => ⟨S32x4x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_cst_2 : Ref sig .tc := ⟨.hbm, 240, rfl⟩
abbrev main_v231 : Ref sig .tc := ⟨.hbm, 241, rfl⟩
abbrev main_v232 : Ref sig .tc := ⟨.hbm, 242, rfl⟩
abbrev main_cst_3 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_cst_4 : Ref sig .tc := ⟨.hbm, 249, rfl⟩
abbrev main_v238 : Ref sig .tc := ⟨.hbm, 250, rfl⟩
abbrev main_v239 : Ref sig .tc := ⟨.hbm, 251, rfl⟩
abbrev main_cst_5 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_cst_6 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_call0_v0 : Ref sig .tc := ⟨.hbm, 269, rfl⟩
abbrev main_call0_v1 : Ref sig .tc := ⟨.hbm, 270, rfl⟩
abbrev main_call0_cst : Ref sig .tc := ⟨.hbm, 271, rfl⟩
abbrev main_call0_v2 : Ref sig .tc := ⟨.hbm, 272, rfl⟩
abbrev main_call0_v3 : Ref sig .tc := ⟨.hbm, 273, rfl⟩
abbrev main_call0_cst_0 : Ref sig .tc := ⟨.hbm, 274, rfl⟩
abbrev main_call0_v4 : Ref sig .tc := ⟨.hbm, 275, rfl⟩
abbrev main_call0_v5 : Ref sig .tc := ⟨.hbm, 276, rfl⟩
abbrev main_v255 : Ref sig .tc := ⟨.hbm, 277, rfl⟩
abbrev main_v256 : Ref sig .tc := ⟨.hbm, 278, rfl⟩
abbrev main_v257 : Ref sig .tc := ⟨.hbm, 279, rfl⟩

abbrev nD : Nat := 1
abbrev τ : Topo := Topo.v7x

variable {F : FTy → Type} [FloatOps F]
-- ==== Conv.lean ====
abbrev S2x8192x3328 : Shape := ⟨3, ![2, 8192, 3328]⟩
abbrev S2x30x512 : Shape := ⟨3, ![2, 30, 512]⟩
abbrev S31x512 : Shape := ⟨2, ![31, 512]⟩
abbrev S512 : Shape := ⟨1, ![512]⟩
abbrev S_ : Shape := ⟨0, ![]⟩
abbrev S2x32x512 : Shape := ⟨3, ![2, 32, 512]⟩
abbrev S32x512 : Shape := ⟨2, ![32, 512]⟩
abbrev S1x512 : Shape := ⟨2, ![1, 512]⟩
abbrev S2x8192x512 : Shape := ⟨3, ![2, 8192, 512]⟩
abbrev S1x512x1024 : Shape := ⟨3, ![1, 512, 1024]⟩
abbrev S1x32x512 : Shape := ⟨3, ![1, 32, 512]⟩
abbrev S1x512x512 : Shape := ⟨3, ![1, 512, 512]⟩
abbrev S544x512 : Shape := ⟨2, ![544, 512]⟩
abbrev S512x1024 : Shape := ⟨2, ![512, 1024]⟩
abbrev S512x512 : Shape := ⟨2, ![512, 512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S2x8192x3328, .f32⟩
  | .hbm, ⟨1, _⟩ => ⟨S2x30x512, .f32⟩
  | .hbm, ⟨2, _⟩ => ⟨S31x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S_, .i32⟩
  | .hbm, ⟨7, _⟩ => ⟨S_, .f32⟩
  | .hbm, ⟨8, _⟩ => ⟨S2x32x512, .f32⟩
  | .hbm, ⟨9, _⟩ => ⟨S_, .i32⟩
  | .hbm, ⟨10, _⟩ => ⟨S_, .f32⟩
  | .hbm, ⟨11, _⟩ => ⟨S32x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S2x8192x512, .bf16⟩
  | .hbm, ⟨16, _⟩ => ⟨S2x32x512, .f32⟩
  | .local _ .vmem, ⟨0, _⟩ => ⟨S1x512x1024, .f32⟩
  | .local _ .vmem, ⟨1, _⟩ => ⟨S1x512x1024, .f32⟩
  | .local _ .vmem, ⟨2, _⟩ => ⟨S1x32x512, .f32⟩
  | .local _ .vmem, ⟨3, _⟩ => ⟨S1x32x512, .f32⟩
  | .local _ .vmem, ⟨4, _⟩ => ⟨S32x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512x512, .bf16⟩
  | .local _ .vmem, ⟨9, _⟩ => ⟨S1x512x512, .bf16⟩
  | .local _ .vmem, ⟨10, _⟩ => ⟨S1x32x512, .f32⟩
  | .local _ .vmem, ⟨11, _⟩ => ⟨S1x32x512, .f32⟩
  | .local _ .vmem, ⟨12, _⟩ => ⟨S544x512, .f32⟩
  | _, _ => ⟨S2x8192x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== RefConvIdeal.lean ====
abbrev S2x8192x3328 : Shape := ⟨3, ![2, 8192, 3328]⟩
abbrev S2x30x512 : Shape := ⟨3, ![2, 30, 512]⟩
abbrev S31x512 : Shape := ⟨2, ![31, 512]⟩
abbrev S512 : Shape := ⟨1, ![512]⟩
abbrev S2x8192x512 : Shape := ⟨3, ![2, 8192, 512]⟩
abbrev S_ : Shape := ⟨0, ![]⟩
abbrev S2x8222x512 : Shape := ⟨3, ![2, 8222, 512]⟩
abbrev S1x512 : Shape := ⟨2, ![1, 512]⟩
abbrev S1x1x512 : Shape := ⟨3, ![1, 1, 512]⟩
abbrev S2x8192 : Shape := ⟨2, ![2, 8192]⟩
abbrev S2x8192x1 : Shape := ⟨3, ![2, 8192, 1]⟩
abbrev S2x32x512 : Shape := ⟨3, ![2, 32, 512]⟩

abbrev nBuf : Space → Nat
  | .hbm => 280
  | .vmem => 0
  | .smem => 0
  | _ => 0

abbrev hbmTy0_0 (i : Nat) : BufTy := match i % 128 with
  | 0 => ⟨S2x8192x3328, .f32⟩
  | 1 => ⟨S2x30x512, .f32⟩
  | 2 => ⟨S31x512, .f32⟩
  | 3 => ⟨S512, .f32⟩
  | 4 => ⟨S512, .f32⟩
  | 5 => ⟨S512, .f32⟩
  | 6 => ⟨S2x8192x512, .f32⟩
  | 7 => ⟨S2x8192x512, .f32⟩
  | 8 => ⟨S2x8192x512, .f32⟩
  | 9 => ⟨S2x8192x512, .f32⟩
  | 10 => ⟨S_, .f32⟩
  | 11 => ⟨S2x8192x512, .f32⟩
  | 12 => ⟨S2x8192x512, .f32⟩
  | 13 => ⟨S_, .f32⟩
  | 14 => ⟨S2x8192x512, .f32⟩
  | 15 => ⟨S2x8192x512, .f32⟩
  | 16 => ⟨S2x8192x512, .f32⟩
  | 17 => ⟨S2x8222x512, .f32⟩
  | 18 => ⟨S2x8192x512, .f32⟩
  | 19 => ⟨S1x512, .f32⟩
  | 20 => ⟨S512, .f32⟩
  | 21 => ⟨S1x1x512, .f32⟩
  | 22 => ⟨S2x8192x512, .f32⟩
  | 23 => ⟨S2x8192x512, .f32⟩
  | 24 => ⟨S_, .f32⟩
  | 25 => ⟨S2x8192x512, .f32⟩
  | 26 => ⟨S2x8192x512, .f32⟩
  | 27 => ⟨S2x8192x512, .f32⟩
  | 28 => ⟨S1x512, .f32⟩
  | 29 => ⟨S512, .f32⟩
  | 30 => ⟨S1x1x512, .f32⟩
  | 31 => ⟨S2x8192x512, .f32⟩
  | 32 => ⟨S2x8192x512, .f32⟩
  | 33 => ⟨S2x8192x512, .f32⟩
  | 34 => ⟨S2x8192x512, .f32⟩
  | 35 => ⟨S1x512, .f32⟩
  | 36 => ⟨S512, .f32⟩
  | 37 => ⟨S1x1x512, .f32⟩
  | 38 => ⟨S2x8192x512, .f32⟩
  | 39 => ⟨S2x8192x512, .f32⟩
  | 40 => ⟨S2x8192x512, .f32⟩
  | 41 => ⟨S2x8192x512, .f32⟩
  | 42 => ⟨S1x512, .f32⟩
  | 43 => ⟨S512, .f32⟩
  | 44 => ⟨S1x1x512, .f32⟩
  | 45 => ⟨S2x8192x512, .f32⟩
  | 46 => ⟨S2x8192x512, .f32⟩
  | 47 => ⟨S2x8192x512, .f32⟩
  | 48 => ⟨S2x8192x512, .f32⟩
  | 49 => ⟨S1x512, .f32⟩
  | 50 => ⟨S512, .f32⟩
  | 51 => ⟨S1x1x512, .f32⟩
  | 52 => ⟨S2x8192x512, .f32⟩
  | 53 => ⟨S2x8192x512, .f32⟩
  | 54 => ⟨S2x8192x512, .f32⟩
  | 55 => ⟨S2x8192x512, .f32⟩
  | 56 => ⟨S1x512, .f32⟩
  | 57 => ⟨S512, .f32⟩
  | 58 => ⟨S1x1x512, .f32⟩
  | 59 => ⟨S2x8192x512, .f32⟩
  | 60 => ⟨S2x8192x512, .f32⟩
  | 61 => ⟨S2x8192x512, .f32⟩
  | 62 => ⟨S2x8192x512, .f32⟩
  | 63 => ⟨S1x512, .f32⟩
  | 64 => ⟨S512, .f32⟩
  | 65 => ⟨S1x1x512, .f32⟩
  | 66 => ⟨S2x8192x512, .f32⟩
  | 67 => ⟨S2x8192x512, .f32⟩
  | 68 => ⟨S2x8192x512, .f32⟩
  | 69 => ⟨S2x8192x512, .f32⟩
  | 70 => ⟨S1x512, .f32⟩
  | 71 => ⟨S512, .f32⟩
  | 72 => ⟨S1x1x512, .f32⟩
  | 73 => ⟨S2x8192x512, .f32⟩
  | 74 => ⟨S2x8192x512, .f32⟩
  | 75 => ⟨S2x8192x512, .f32⟩
  | 76 => ⟨S2x8192x512, .f32⟩
  | 77 => ⟨S1x512, .f32⟩
  | 78 => ⟨S512, .f32⟩
  | 79 => ⟨S1x1x512, .f32⟩
  | 80 => ⟨S2x8192x512, .f32⟩
  | 81 => ⟨S2x8192x512, .f32⟩
  | 82 => ⟨S2x8192x512, .f32⟩
  | 83 => ⟨S2x8192x512, .f32⟩
  | 84 => ⟨S1x512, .f32⟩
  | 85 => ⟨S512, .f32⟩
  | 86 => ⟨S1x1x512, .f32⟩
  | 87 => ⟨S2x8192x512, .f32⟩
  | 88 => ⟨S2x8192x512, .f32⟩
  | 89 => ⟨S2x8192x512, .f32⟩
  | 90 => ⟨S2x8192x512, .f32⟩
  | 91 => ⟨S1x512, .f32⟩
  | 92 => ⟨S512, .f32⟩
  | 93 => ⟨S1x1x512, .f32⟩
  | 94 => ⟨S2x8192x512, .f32⟩
  | 95 => ⟨S2x8192x512, .f32⟩
  | 96 => ⟨S2x8192x512, .f32⟩
  | 97 => ⟨S2x8192x512, .f32⟩
  | 98 => ⟨S1x512, .f32⟩
  | 99 => ⟨S512, .f32⟩
  | 100 => ⟨S1x1x512, .f32⟩
  | 101 => ⟨S2x8192x512, .f32⟩
  | 102 => ⟨S2x8192x512, .f32⟩
  | 103 => ⟨S2x8192x512, .f32⟩
  | 104 => ⟨S2x8192x512, .f32⟩
  | 105 => ⟨S1x512, .f32⟩
  | 106 => ⟨S512, .f32⟩
  | 107 => ⟨S1x1x512, .f32⟩
  | 108 => ⟨S2x8192x512, .f32⟩
  | 109 => ⟨S2x8192x512, .f32⟩
  | 110 => ⟨S2x8192x512, .f32⟩
  | 111 => ⟨S2x8192x512, .f32⟩
  | 112 => ⟨S1x512, .f32⟩
  | 113 => ⟨S512, .f32⟩
  | 114 => ⟨S1x1x512, .f32⟩
  | 115 => ⟨S2x8192x512, .f32⟩
  | 116 => ⟨S2x8192x512, .f32⟩
  | 117 => ⟨S2x8192x512, .f32⟩
  | 118 => ⟨S2x8192x512, .f32⟩
  | 119 => ⟨S1x512, .f32⟩
  | 120 => ⟨S512, .f32⟩
  | 121 => ⟨S1x1x512, .f32⟩
  | 122 => ⟨S2x8192x512, .f32⟩
  | 123 => ⟨S2x8192x512, .f32⟩
  | 124 => ⟨S2x8192x512, .f32⟩
  | 125 => ⟨S2x8192x512, .f32⟩
  | 126 => ⟨S1x512, .f32⟩
  | 127 => ⟨S512, .f32⟩
  | _ => ⟨S2x8192x3328, .f32⟩

abbrev hbmTy0_1 (i : Nat) : BufTy := match i % 128 with
  | 0 => ⟨S1x1x512, .f32⟩
  | 1 => ⟨S2x8192x512, .f32⟩
  | 2 => ⟨S2x8192x512, .f32⟩
  | 3 => ⟨S2x8192x512, .f32⟩
  | 4 => ⟨S2x8192x512, .f32⟩
  | 5 => ⟨S1x512, .f32⟩
  | 6 => ⟨S512, .f32⟩
  | 7 => ⟨S1x1x512, .f32⟩
  | 8 => ⟨S2x8192x512, .f32⟩
  | 9 => ⟨S2x8192x512, .f32⟩
  | 10 => ⟨S2x8192x512, .f32⟩
  | 11 => ⟨S2x8192x512, .f32⟩
  | 12 => ⟨S1x512, .f32⟩
  | 13 => ⟨S512, .f32⟩
  | 14 => ⟨S1x1x512, .f32⟩
  | 15 => ⟨S2x8192x512, .f32⟩
  | 16 => ⟨S2x8192x512, .f32⟩
  | 17 => ⟨S2x8192x512, .f32⟩
  | 18 => ⟨S2x8192x512, .f32⟩
  | 19 => ⟨S1x512, .f32⟩
  | 20 => ⟨S512, .f32⟩
  | 21 => ⟨S1x1x512, .f32⟩
  | 22 => ⟨S2x8192x512, .f32⟩
  | 23 => ⟨S2x8192x512, .f32⟩
  | 24 => ⟨S2x8192x512, .f32⟩
  | 25 => ⟨S2x8192x512, .f32⟩
  | 26 => ⟨S1x512, .f32⟩
  | 27 => ⟨S512, .f32⟩
  | 28 => ⟨S1x1x512, .f32⟩
  | 29 => ⟨S2x8192x512, .f32⟩
  | 30 => ⟨S2x8192x512, .f32⟩
  | 31 => ⟨S2x8192x512, .f32⟩
  | 32 => ⟨S2x8192x512, .f32⟩
  | 33 => ⟨S1x512, .f32⟩
  | 34 => ⟨S512, .f32⟩
  | 35 => ⟨S1x1x512, .f32⟩
  | 36 => ⟨S2x8192x512, .f32⟩
  | 37 => ⟨S2x8192x512, .f32⟩
  | 38 => ⟨S2x8192x512, .f32⟩
  | 39 => ⟨S2x8192x512, .f32⟩
  | 40 => ⟨S1x512, .f32⟩
  | 41 => ⟨S512, .f32⟩
  | 42 => ⟨S1x1x512, .f32⟩
  | 43 => ⟨S2x8192x512, .f32⟩
  | 44 => ⟨S2x8192x512, .f32⟩
  | 45 => ⟨S2x8192x512, .f32⟩
  | 46 => ⟨S2x8192x512, .f32⟩
  | 47 => ⟨S1x512, .f32⟩
  | 48 => ⟨S512, .f32⟩
  | 49 => ⟨S1x1x512, .f32⟩
  | 50 => ⟨S2x8192x512, .f32⟩
  | 51 => ⟨S2x8192x512, .f32⟩
  | 52 => ⟨S2x8192x512, .f32⟩
  | 53 => ⟨S2x8192x512, .f32⟩
  | 54 => ⟨S1x512, .f32⟩
  | 55 => ⟨S512, .f32⟩
  | 56 => ⟨S1x1x512, .f32⟩
  | 57 => ⟨S2x8192x512, .f32⟩
  | 58 => ⟨S2x8192x512, .f32⟩
  | 59 => ⟨S2x8192x512, .f32⟩
  | 60 => ⟨S2x8192x512, .f32⟩
  | 61 => ⟨S1x512, .f32⟩
  | 62 => ⟨S512, .f32⟩
  | 63 => ⟨S1x1x512, .f32⟩
  | 64 => ⟨S2x8192x512, .f32⟩
  | 65 => ⟨S2x8192x512, .f32⟩
  | 66 => ⟨S2x8192x512, .f32⟩
  | 67 => ⟨S2x8192x512, .f32⟩
  | 68 => ⟨S1x512, .f32⟩
  | 69 => ⟨S512, .f32⟩
  | 70 => ⟨S1x1x512, .f32⟩
  | 71 => ⟨S2x8192x512, .f32⟩
  | 72 => ⟨S2x8192x512, .f32⟩
  | 73 => ⟨S2x8192x512, .f32⟩
  | 74 => ⟨S2x8192x512, .f32⟩
  | 75 => ⟨S1x512, .f32⟩
  | 76 => ⟨S512, .f32⟩
  | 77 => ⟨S1x1x512, .f32⟩
  | 78 => ⟨S2x8192x512, .f32⟩
  | 79 => ⟨S2x8192x512, .f32⟩
  | 80 => ⟨S2x8192x512, .f32⟩
  | 81 => ⟨S2x8192x512, .f32⟩
  | 82 => ⟨S1x512, .f32⟩
  | 83 => ⟨S512, .f32⟩
  | 84 => ⟨S1x1x512, .f32⟩
  | 85 => ⟨S2x8192x512, .f32⟩
  | 86 => ⟨S2x8192x512, .f32⟩
  | 87 => ⟨S2x8192x512, .f32⟩
  | 88 => ⟨S2x8192x512, .f32⟩
  | 89 => ⟨S1x512, .f32⟩
  | 90 => ⟨S512, .f32⟩
  | 91 => ⟨S1x1x512, .f32⟩
  | 92 => ⟨S2x8192x512, .f32⟩
  | 93 => ⟨S2x8192x512, .f32⟩
  | 94 => ⟨S2x8192x512, .f32⟩
  | 95 => ⟨S2x8192x512, .f32⟩
  | 96 => ⟨S1x512, .f32⟩
  | 97 => ⟨S512, .f32⟩
  | 98 => ⟨S1x1x512, .f32⟩
  | 99 => ⟨S2x8192x512, .f32⟩
  | 100 => ⟨S2x8192x512, .f32⟩
  | 101 => ⟨S2x8192x512, .f32⟩
  | 102 => ⟨S2x8192x512, .f32⟩
  | 103 => ⟨S1x512, .f32⟩
  | 104 => ⟨S512, .f32⟩
  | 105 => ⟨S1x1x512, .f32⟩
  | 106 => ⟨S2x8192x512, .f32⟩
  | 107 => ⟨S2x8192x512, .f32⟩
  | 108 => ⟨S2x8192x512, .f32⟩
  | 109 => ⟨S1x1x512, .f32⟩
  | 110 => ⟨S2x8192x512, .f32⟩
  | 111 => ⟨S2x8192x512, .f32⟩
  | 112 => ⟨S_, .f32⟩
  | 113 => ⟨S2x8192, .f32⟩
  | 114 => ⟨S2x8192x1, .f32⟩
  | 115 => ⟨S_, .f32⟩
  | 116 => ⟨S2x8192x1, .f32⟩
  | 117 => ⟨S2x8192x1, .f32⟩
  | 118 => ⟨S2x8192x512, .f32⟩
  | 119 => ⟨S2x8192x512, .f32⟩
  | 120 => ⟨S2x8192x512, .f32⟩
  | 121 => ⟨S_, .f32⟩
  | 122 => ⟨S2x8192, .f32⟩
  | 123 => ⟨S2x8192x1, .f32⟩
  | 124 => ⟨S_, .f32⟩
  | 125 => ⟨S2x8192x1, .f32⟩
  | 126 => ⟨S2x8192x1, .f32⟩
  | 127 => ⟨S2x8192x512, .f32⟩
  | _ => ⟨S2x8192x3328, .f32⟩

abbrev hbmTy0_2 (i : Nat) : BufTy := match i % 128 with
  | 0 => ⟨S2x8192x512, .f32⟩
  | 1 => ⟨S_, .f32⟩
  | 2 => ⟨S2x8192x1, .f32⟩
  | 3 => ⟨S2x8192x1, .f32⟩
  | 4 => ⟨S2x8192x1, .f32⟩
  | 5 => ⟨S2x8192x512, .f32⟩
  | 6 => ⟨S2x8192x512, .f32⟩
  | 7 => ⟨S1x1x512, .f32⟩
  | 8 => ⟨S2x8192x512, .f32⟩
  | 9 => ⟨S2x8192x512, .f32⟩
  | 10 => ⟨S1x1x512, .f32⟩
  | 11 => ⟨S2x8192x512, .f32⟩
  | 12 => ⟨S2x8192x512, .f32⟩
  | 13 => ⟨S2x8192x512, .f32⟩
  | 14 => ⟨S2x8192x512, .f32⟩
  | 15 => ⟨S_, .f32⟩
  | 16 => ⟨S2x8192x512, .f32⟩
  | 17 => ⟨S2x8192x512, .f32⟩
  | 18 => ⟨S_, .f32⟩
  | 19 => ⟨S2x8192x512, .f32⟩
  | 20 => ⟨S2x8192x512, .f32⟩
  | 21 => ⟨S2x8192x512, .f32⟩
  | 22 => ⟨S2x8192x512, .bf16⟩
  | 23 => ⟨S2x32x512, .f32⟩
  | _ => ⟨S2x8192x3328, .f32⟩

abbrev hbmTy (i : Nat) : BufTy := match i / 128 with
  | 0 => hbmTy0_0 i
  | 1 => hbmTy0_1 i
  | 2 => hbmTy0_2 i
  | _ => ⟨S2x8192x3328, .f32⟩

abbrev bufTy : (tb : Table) → Fin (tcTables nBuf tb) → BufTy
  | .hbm, ⟨i, _⟩ => hbmTy i
  | _, _ => ⟨S2x8192x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_cst_2 : Ref sig .tc := ⟨.hbm, 240, rfl⟩
abbrev main_v231 : Ref sig .tc := ⟨.hbm, 241, rfl⟩
abbrev main_v232 : Ref sig .tc := ⟨.hbm, 242, rfl⟩
abbrev main_cst_3 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_cst_4 : Ref sig .tc := ⟨.hbm, 249, rfl⟩
abbrev main_v238 : Ref sig .tc := ⟨.hbm, 250, rfl⟩
abbrev main_v239 : Ref sig .tc := ⟨.hbm, 251, rfl⟩
abbrev main_cst_5 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_cst_6 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_call0_v0 : Ref sig .tc := ⟨.hbm, 269, rfl⟩
abbrev main_call0_v1 : Ref sig .tc := ⟨.hbm, 270, rfl⟩
abbrev main_call0_cst : Ref sig .tc := ⟨.hbm, 271, rfl⟩
abbrev main_call0_v2 : Ref sig .tc := ⟨.hbm, 272, rfl⟩
abbrev main_call0_v3 : Ref sig .tc := ⟨.hbm, 273, rfl⟩
abbrev main_call0_cst_0 : Ref sig .tc := ⟨.hbm, 274, rfl⟩
abbrev main_call0_v4 : Ref sig .tc := ⟨.hbm, 275, rfl⟩
abbrev main_call0_v5 : Ref sig .tc := ⟨.hbm, 276, rfl⟩
abbrev main_v255 : Ref sig .tc := ⟨.hbm, 277, rfl⟩
abbrev main_v256 : Ref sig .tc := ⟨.hbm, 278, rfl⟩
abbrev main_v257 : Ref sig .tc := ⟨.hbm, 279, rfl⟩

abbrev nD : Nat := 1
abbrev τ : Topo := Topo.v7x

variable {F : FTy → Type} [FloatOps F]
-- ==== Proof.FfnValue.lean ====
/- The output projection and the gated feed-forward: the array the kernel leaves is the reference's. -/
module

public import proofs.«01_k».proof.Proof.Gen.FfnIdeal.Value
public import proofs.«01_k».proof.Proof.Gen.RefFfnIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnClosed

section
open Cert.RefFfnIdeal Cert.RefFfnIdeal.Gen

/-- The residual stream after the mixer's output projection. -/
def X1 (X : FVec Ideal S16384x1024 .f32) (M1 : FVec Ideal S16384x512 .bf16) (M2 : FVec Ideal S16384x256 .bf16)
    (Wo : FVec Ideal S768x1024 .f32) : FVec Ideal S16384x1024 .f32 :=
  addf X (Host.dotGeneral dot_S16384x768_S768x1024_S16384x1024_1_0_0_1_n_n none
    (concatenate S16384x768 1 [⟨S16384x512, (extf .f32 M1 bitsLt_bf16_f32)⟩, ⟨S16384x256, (extf .f32 M2 bitsLt_bf16_f32)⟩]
      concatenates_S16384x512_S16384x256_S16384x768_d1) Wo)

/-- Each row over its root mean square, times the gain. -/
def NORM (x : FVec Ideal S16384x1024 .f32) (g : FVec Ideal S1024 .f32) : FVec Ideal S16384x1024 .f32 :=
  mulf (mulf x (broadcastInDim S16384x1024 ![0, 1] bcast_S16384x1_S16384x1024_0_1
      (Host.rsqrt (addf (Host.divf (broadcastInDim S16384x1 ![0] bcast_S16384_S16384x1_0
        (Host.reduceAdd (mulf x x) (constant S_ .f32 0x00000000#32) reducesTo_S16384x1024_S16384_d1 h_S_))
          (broadcastInDim S16384x1 ![] bcast_S_S16384x1 (constant S_ .f32 0x44800000#32)))
        (broadcastInDim S16384x1 ![] bcast_S_S16384x1 (constant S_ .f32 0x358637BD#32))))))
      (broadcastInDim S16384x1024 ![0, 1] bcast_S1x1024_S16384x1024_0_1
        (broadcastInDim S1x1024 ![1] bcast_S1024_S1x1024_1 g))

/-- The gated hidden layer. -/
def HIDDEN (h : FVec Ideal S16384x1024 .f32) (Wg Wu : FVec Ideal S1024x2816 .f32) : FVec Ideal S16384x2816 .f32 :=
  mulf (mulf (Host.dotGeneral dot_S16384x1024_S1024x2816_S16384x2816_1_0_0_1_n_n none h Wg)
    (Host.divf (broadcastInDim S16384x2816 ![] bcast_S_S16384x2816 (constant S_ .f32 0x3F800000#32))
      (addf (broadcastInDim S16384x2816 ![] bcast_S_S16384x2816 (constant S_ .f32 0x3F800000#32))
        (Host.exp (Host.negf (Host.dotGeneral dot_S16384x1024_S1024x2816_S16384x2816_1_0_0_1_n_n none h Wg))))))
    (Host.dotGeneral dot_S16384x1024_S1024x2816_S16384x2816_1_0_0_1_n_n none h Wu)

/-- The reference's result as one term. -/
abbrev REF (X : FVec Ideal S16384x1024 .f32) (M1 : FVec Ideal S16384x512 .bf16) (M2 : FVec Ideal S16384x256 .bf16)
    (Wo : FVec Ideal S768x1024 .f32) (g : FVec Ideal S1024 .f32) (Wg Wu : FVec Ideal S1024x2816 .f32)
    (Wd : FVec Ideal S2816x1024 .f32) : FVec Ideal S16384x1024 .f32 :=
  addf (X1 X M1 M2 Wo) (Host.dotGeneral dot_S16384x2816_S2816x1024_S16384x1024_1_0_0_1_n_n none
    (HIDDEN (NORM (X1 X M1 M2 Wo) g) Wg Wu) Wd)

/-- The reference's run leaves that term. -/
theorem res_eq (m : (ℓ : Loc nD τ sig) → Buf (Elt Ideal) ℓ) (c : Dev nD) :
    Cert.RefFfnIdeal.Value.res_main_v23 (F := Ideal) m c = REF (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) := rfl
end

open Cert.FfnIdeal Cert.FfnIdeal.Gen

variable (m : (ℓ : Loc nD τ sig) → Buf (Elt Ideal) ℓ)

/-- Which block every window holds at a grid point. -/
theorem idx : ∀ t : Fin cfg0.N, win0_0.index t = ![t.val / 11, 0] ∧ win0_1.index t = ![t.val / 11, 0]
    ∧ win0_2.index t = ![t.val / 11, 0] ∧ win0_3.index t = ![0, 0] ∧ win0_4.index t = ![0, 0]
    ∧ win0_5.index t = ![0, 0] ∧ win0_6.index t = ![0, t.val % 11] ∧ win0_7.index t = ![0, t.val % 11]
    ∧ win0_8.index t = ![t.val % 11, 0] ∧ win0_9.index t = ![t.val / 11, 0] :=
  (by decide +kernel : ∀ t : Fin grid0.N, _)

/-- The reference's residual stream over the launch contents. -/
abbrev x1 (c : Dev nD) := X1 (m ((c : Thread nD τ).loc main_arg0)) (m ((c : Thread nD τ).loc main_arg1))
  (m ((c : Thread nD τ).loc main_arg2)) (m ((c : Thread nD τ).loc main_arg3))

/-- The reference's normalised rows over the launch contents. -/
abbrev hn (c : Dev nD) := NORM (x1 m c) (m ((c : Thread nD τ).loc main_arg4))

/-- The first step's residual block is the reference's residual stream. -/
theorem pay4_at (c : Dev nD) (t : Fin cfg0.N) (y : S512x1024.Idx) :
    k0_pay4 (iblk m c 0 t) (iblk m c 1 t) (iblk m c 3 t) (iblk m c 2 t) (iblk m c 4 t) y
      = x1 m c (((cfg0.win 9).blk t).view.emb y) := by
  pointwise [k0_pay4, X1]
  rw [add_assoc]
  blk_point [iblk, V, idx t]

theorem pay5_at (c : Dev nD) (t : Fin cfg0.N) (y : S512x1024.Idx) :
    k0_pay5 (iblk m c 0 t) (iblk m c 1 t) (iblk m c 3 t) (iblk m c 2 t) (iblk m c 4 t) y
      = x1 m c (((cfg0.win 9).blk t).view.emb y) := by
  rw [← pay4_at]
  pointwise [k0_pay5]

/-- The first step's normalised block is the reference's. -/
theorem pay6_at (c : Dev nD) (t : Fin cfg0.N) (y : S512x1024.Idx) :
    k0_pay6 (iblk m c 0 t) (iblk m c 1 t) (iblk m c 3 t) (iblk m c 2 t) (iblk m c 4 t) (iblk m c 5 t) y
      = hn m c (((cfg0.win 9).blk t).view.emb y) := by
  pointwise [k0_pay6, NORM]
  simp only [pay4_at]
  blk_point [iblk, V, idx t]

/-- One step's share of the down projection: its 256 hidden lanes, from the normalised rows `h`. -/
def part (h : FVec Ideal S512x1024 .bf16) (wg wu : FVec Ideal S1024x256 .bf16) (wd : FVec Ideal S256x1024 .bf16)
    (y : S512x1024.Idx) : EReal :=
  ∑ k : Fin 256, ((∑ l : Fin 1024, h (ix2 (y 0) l) * wg (ix2 l k))
    * Ideal.logistic (∑ l : Fin 1024, h (ix2 (y 0) l) * wg (ix2 l k))
    * ∑ l : Fin 1024, h (ix2 (y 0) l) * wu (ix2 l k)) * wd (ix2 k (y 1))

/-- What a step leaves in the accumulator: what it held, plus the step's share. -/
theorem pay2_at (h : FVec Ideal S512x1024 .bf16) (wg wu : FVec Ideal S1024x256 .bf16) (a : FVec Ideal S512x1024 .f32)
    (wd : FVec Ideal S256x1024 .bf16) (y : S512x1024.Idx) :
    k0_pay2 h wg wu a wd y = a y + part h wg wu wd y := by
  pointwise [k0_pay2, part]

/-- The hidden layer at an index, with the logistic function named. -/
theorem hidden_at (h : FVec Ideal Cert.RefFfnIdeal.S16384x1024 .f32)
    (Wg Wu : FVec Ideal Cert.RefFfnIdeal.S1024x2816 .f32) (r : Fin 16384) (k : Fin 2816) :
    HIDDEN h Wg Wu (ix2 r k) = (∑ l : Fin 1024, h (ix2 r l) * Wg (ix2 l k))
      * Ideal.logistic (∑ l : Fin 1024, h (ix2 r l) * Wg (ix2 l k))
      * ∑ l : Fin 1024, h (ix2 r l) * Wu (ix2 l k) := by
  pointwise [HIDDEN]
  rfl

/-- Rows of the same block of 512 sit at the same place in the array. -/
theorem emb_pred (t : Fin cfg0.N) (h : ¬ t.val % 11 = 0) (y : S512x1024.Idx) (hp : t.val - 1 < cfg0.N) :
    ((cfg0.win 9).blk ⟨t.val - 1, hp⟩).view.emb y = ((cfg0.win 9).blk t).view.emb y := by
  blk_ext [idx t, idx ⟨t.val - 1, hp⟩]

/-- All through a block's eleven steps the two carried buffers hold the reference's residual stream and its
    normalised rows. -/
theorem carried (c : Dev nD) : ∀ (n : ℕ) (h : n < cfg0.N) (y : S512x1024.Idx),
    (outsAt0 m c n h).2.1 y = x1 m c (((cfg0.win 9).blk ⟨n, h⟩).view.emb y)
      ∧ (outsAt0 m c n h).2.2.1 y = hn m c (((cfg0.win 9).blk ⟨n, h⟩).view.emb y) := by
  intro n
  induction n with
  | zero =>
    intro h y
    rw [outsAt0_A m c ⟨0, h⟩ (Nat.zero_mod 11) (by show ¬ 0 % 11 = 10; omega)]; frame_out
    exact ⟨pay5_at m c ⟨0, h⟩ y, pay6_at m c ⟨0, h⟩ y⟩
  | succ n ih =>
    intro h y
    by_cases h0 : (n + 1) % 11 = 0
    · rw [outsAt0_A m c ⟨n + 1, h⟩ h0 (by show ¬ (n + 1) % 11 = 10; omega)]; frame_out
      exact ⟨pay5_at m c ⟨n + 1, h⟩ y, pay6_at m c ⟨n + 1, h⟩ y⟩
    · have e := emb_pred ⟨n + 1, h⟩ h0 y (by omega)
      have i := ih (by omega) y
      by_cases h1 : (n + 1) % 11 = 10
      · rw [outsAt0_C m c ⟨n + 1, h⟩ h0 h1, ← e]
        exact i
      · rw [outsAt0_B m c ⟨n + 1, h⟩ h0 h1, ← e]
        exact i

/-- The accumulator after a step that is not a block's first. -/
theorem acc_step (c : Dev nD) (t : Fin cfg0.N) (h0 : ¬t.val % 11 = 0) (y : S512x1024.Idx) :
    (outsAt0 m c t.val t.isLt).2.2.2 y
      = (outsAt0 m c (t.val - 1) (Nat.lt_of_le_of_lt (Nat.sub_le _ _) t.isLt)).2.2.2 y
        + part (fun z => hn m c (((cfg0.win 9).blk t).view.emb z)) (iblk m c 6 t) (iblk m c 7 t) (iblk m c 8 t) y := by
  have e : (outsAt0 m c (t.val - 1) (Nat.lt_of_le_of_lt (Nat.sub_le _ _) t.isLt)).2.2.1
      = fun z => hn m c (((cfg0.win 9).blk t).view.emb z) := by
    funext z
    rw [(carried m c _ _ z).2, emb_pred t h0 z]
  refine Eq.trans ?_ (congrArg (fun h => _ + part h _ _ _ y) e)
  refine Eq.trans ?_ (pay2_at _ _ _ _ _ y)
  by_cases h1 : t.val % 11 = 10
  · rw [outsAt0_C m c t h0 h1]; frame_out; simp only [read_unread_whole]
  · rw [outsAt0_B m c t h0 h1]; frame_out; simp only [read_unread_whole]

/-- The accumulator after a block's first step. -/
theorem acc_first (c : Dev nD) (t : Fin cfg0.N) (h0 : t.val % 11 = 0) (y : S512x1024.Idx) :
    (outsAt0 m c t.val t.isLt).2.2.2 y
      = 0 + part (fun z => hn m c (((cfg0.win 9).blk t).view.emb z)) (iblk m c 6 t) (iblk m c 7 t) (iblk m c 8 t) y := by
  have e : k0_pay6 (iblk m c 0 t) (iblk m c 1 t) (iblk m c 3 t) (iblk m c 2 t) (iblk m c 4 t) (iblk m c 5 t)
      = fun z => hn m c (((cfg0.win 9).blk t).view.emb z) := funext (pay6_at m c t)
  refine Eq.trans ?_ (congrArg (fun h => 0 + part h _ _ _ y) e)
  rw [outsAt0_A m c t h0 (by omega)]; frame_out
  refine (pay2_at _ _ _ _ _ y).trans ?_
  refine congrArg (· + _) ?_
  pointwise [k0_pay1, k0_pay7]

/-- What a block's last step writes back: the residual plus the accumulator. -/
theorem out_last (c : Dev nD) (t : Fin cfg0.N) (h1 : t.val % 11 = 10) (y : S512x1024.Idx) :
    (outsAt0 m c t.val t.isLt).1 y
      = x1 m c (((cfg0.win 9).blk t).view.emb y) + (outsAt0 m c t.val t.isLt).2.2.2 y := by
  have h0 : ¬ t.val % 11 = 0 := by omega
  rw [← (carried m c t.val t.isLt y).1, outsAt0_C m c t h0 h1]; frame_out
  simp only [read_unread_whole]
  pointwise [k0_pay3]
  rfl

/-- The result array after the run. -/
theorem final (c : Dev nD) : (dats m 0 c).arrAt 9 (cfgs 0).N
    = REF (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_covers 9 _ (by decide +kernel) fun t hf y => ?_
  have h1 : t.val % 11 = 10 := (flush0_9 t).mp hf
  blk_simp
  rw [after0_9, out_last m c t h1 y, Pipeline.eq_sum_fin_of_reset_step_apply_of_flush
    (fun n h => (outsAt0 m c n h).2.2.2) 11 (fun _ => 0)
    (fun t y => part (fun z => hn m c (((cfg0.win 9).blk t).view.emb z)) (iblk m c 6 t) (iblk m c 7 t) (iblk m c 8 t) y)
    (fun t h j => acc_first m c t h j) (fun t h j => acc_step m c t h j) t h1 _, zero_add]
  pointwise [REF, part]
  refine Ideal.add_congr rfl (Fin.sum_mul_add_congr fun s k hl => ?_)
  refine Eq.trans ?_ (Ideal.mul_congr (hidden_at _ _ _ _ _).symm rfl)
  blk_point [iblk, V, idx t, idx ⟨_, Pipeline.run_point_lt_of_flush t h1 s⟩]

end Cert.FfnClosed

end
-- ==== Proof.ProjValue.lean ====
/- The input projection: the array the kernel leaves is the reference's normalised rows times the weight. -/
module

public import proofs.«01_k».proof.Proof.Gen.ProjIdeal.Value
public import proofs.«01_k».proof.Proof.Gen.RefProjIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjIdeal.Closed

open Cert.ProjIdeal Cert.ProjIdeal.Gen

variable (m : (ℓ : Loc nD τ sig) → Buf (Elt Ideal) ℓ)

open Cert.RefProjIdeal.Gen in
/-- The reference's result as one term: each row of `X` over its root mean square, times the gain, times the weight. -/
abbrev REF (X : FVec Ideal Cert.RefProjIdeal.S16384x1024 .f32) (g : FVec Ideal Cert.RefProjIdeal.S1024 .f32)
    (W : FVec Ideal Cert.RefProjIdeal.S1024x3328 .f32) : FVec Ideal Cert.RefProjIdeal.S16384x3328 .f32 :=
  Host.dotGeneral Cert.RefProjIdeal.dot_S16384x1024_S1024x3328_S16384x3328_1_0_0_1_n_n none
    (mulf (mulf X (broadcastInDim Cert.RefProjIdeal.S16384x1024 ![0, 1] bcast_S16384x1_S16384x1024_0_1
      (Host.rsqrt (addf (Host.divf (broadcastInDim Cert.RefProjIdeal.S16384x1 ![0] bcast_S16384_S16384x1_0
        (Host.reduceAdd (mulf X X) (constant Cert.RefProjIdeal.S_ .f32 0x00000000#32) reducesTo_S16384x1024_S16384_d1 h_S_))
          (broadcastInDim Cert.RefProjIdeal.S16384x1 ![] bcast_S_S16384x1 (constant Cert.RefProjIdeal.S_ .f32 0x44800000#32)))
        (broadcastInDim Cert.RefProjIdeal.S16384x1 ![] bcast_S_S16384x1 (constant Cert.RefProjIdeal.S_ .f32 0x358637BD#32))))))
      (broadcastInDim Cert.RefProjIdeal.S16384x1024 ![0, 1] bcast_S1x1024_S16384x1024_0_1
        (broadcastInDim Cert.RefProjIdeal.S1x1024 ![1] bcast_S1024_S1x1024_1 g))) W

/-- Which block every window holds at a grid point. -/
theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- What a grid point stores at an index of its block is the reference's term at the index it sits at. -/
theorem point (c : Dev nD) (t : Fin cfg0.N) (y : S256x3328.Idx) :
    k0_pay1 (iblk m c 0 t) (iblk m c 1 t) (iblk m c 2 t) y
    = REF (m ((c : Thread nD τ).loc main_arg0)) (m ((c : Thread nD τ).loc main_arg1))
        (m ((c : Thread nD τ).loc main_arg2)) (((cfg0.win 3).blk t).view.emb y) := by
  pointwise [k0_pay1, REF]
  blk_point [iblk, V, idx t]

/-- The result array after the run. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

end Cert.ProjIdeal.Closed

end
-- ==== Proof.FfnCdValue.lean ====
/- The output projection and the gated feed-forward, after mixers of 512 and 512 columns: the array the kernel leaves is the reference's. -/
module

public import proofs.«01_k».proof.Proof.Gen.FfnCdIdeal.Value
public import proofs.«01_k».proof.Proof.Gen.RefFfnCdIdeal.Run
public import proofs.«01_k».proof.Proof.FfnValue
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnCdClosed

open Cert.FfnClosed (NORM HIDDEN part hidden_at)

section
open Cert.RefFfnCdIdeal Cert.RefFfnCdIdeal.Gen

/-- The residual stream after the mixer's output projection. -/
def X1 (X : FVec Ideal S16384x1024 .f32) (M1 : FVec Ideal S16384x512 .bf16) (M2 : FVec Ideal S16384x512 .bf16)
    (Wo : FVec Ideal S1024x1024 .f32) : FVec Ideal S16384x1024 .f32 :=
  addf X (Host.dotGeneral dot_S16384x1024_S1024x1024_S16384x1024_1_0_0_1_n_n none
    (concatenate S16384x1024 1 [⟨S16384x512, (extf .f32 M1 bitsLt_bf16_f32)⟩, ⟨S16384x512, (extf .f32 M2 bitsLt_bf16_f32)⟩]
      concatenates_S16384x512_S16384x512_S16384x1024_d1) Wo)

/-- The reference's result as one term. -/
abbrev REF (X : FVec Ideal S16384x1024 .f32) (M1 : FVec Ideal S16384x512 .bf16) (M2 : FVec Ideal S16384x512 .bf16)
    (Wo : FVec Ideal S1024x1024 .f32) (g : FVec Ideal S1024 .f32) (Wg Wu : FVec Ideal S1024x2816 .f32)
    (Wd : FVec Ideal S2816x1024 .f32) : FVec Ideal S16384x1024 .f32 :=
  addf (X1 X M1 M2 Wo) (Host.dotGeneral dot_S16384x2816_S2816x1024_S16384x1024_1_0_0_1_n_n none
    (HIDDEN (NORM (X1 X M1 M2 Wo) g) Wg Wu) Wd)

/-- The reference's run leaves that term. -/
theorem res_eq (m : (ℓ : Loc nD τ sig) → Buf (Elt Ideal) ℓ) (c : Dev nD) :
    Cert.RefFfnCdIdeal.Value.res_main_v23 (F := Ideal) m c = REF (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) := rfl
end

open Cert.FfnCdIdeal Cert.FfnCdIdeal.Gen

variable (m : (ℓ : Loc nD τ sig) → Buf (Elt Ideal) ℓ)

/-- Which block every window holds at a grid point. -/
theorem idx : ∀ t : Fin cfg0.N, win0_0.index t = ![t.val / 11, 0] ∧ win0_1.index t = ![t.val / 11, 0]
    ∧ win0_2.index t = ![t.val / 11, 0] ∧ win0_3.index t = ![0, 0] ∧ win0_4.index t = ![0, 0]
    ∧ win0_5.index t = ![0, 0] ∧ win0_6.index t = ![0, t.val % 11] ∧ win0_7.index t = ![0, t.val % 11]
    ∧ win0_8.index t = ![t.val % 11, 0] ∧ win0_9.index t = ![t.val / 11, 0] :=
  (by decide +kernel : ∀ t : Fin grid0.N, _)

/-- The reference's residual stream over the launch contents. -/
abbrev x1 (c : Dev nD) := X1 (m ((c : Thread nD τ).loc main_arg0)) (m ((c : Thread nD τ).loc main_arg1))
  (m ((c : Thread nD τ).loc main_arg2)) (m ((c : Thread nD τ).loc main_arg3))

/-- The reference's normalised rows over the launch contents. -/
abbrev hn (c : Dev nD) := NORM (x1 m c) (m ((c : Thread nD τ).loc main_arg4))

/-- The first step's residual block is the reference's residual stream. -/
theorem pay4_at (c : Dev nD) (t : Fin cfg0.N) (y : S512x1024.Idx) :
    k0_pay4 (iblk m c 0 t) (iblk m c 1 t) (iblk m c 3 t) (iblk m c 2 t) (iblk m c 4 t) y
      = x1 m c (((cfg0.win 9).blk t).view.emb y) := by
  pointwise [k0_pay4, X1]
  rw [add_assoc]
  blk_point [iblk, V, idx t]

theorem pay5_at (c : Dev nD) (t : Fin cfg0.N) (y : S512x1024.Idx) :
    k0_pay5 (iblk m c 0 t) (iblk m c 1 t) (iblk m c 3 t) (iblk m c 2 t) (iblk m c 4 t) y
      = x1 m c (((cfg0.win 9).blk t).view.emb y) := by
  rw [← pay4_at]
  pointwise [k0_pay5]

/-- The first step's normalised block is the reference's. -/
theorem pay6_at (c : Dev nD) (t : Fin cfg0.N) (y : S512x1024.Idx) :
    k0_pay6 (iblk m c 0 t) (iblk m c 1 t) (iblk m c 3 t) (iblk m c 2 t) (iblk m c 4 t) (iblk m c 5 t) y
      = hn m c (((cfg0.win 9).blk t).view.emb y) := by
  pointwise [k0_pay6, NORM]
  simp only [pay4_at]
  blk_point [iblk, V, idx t]

/-- What a step leaves in the accumulator: what it held, plus the step's share. -/
theorem pay2_at (h : FVec Ideal S512x1024 .bf16) (wg wu : FVec Ideal S1024x256 .bf16) (a : FVec Ideal S512x1024 .f32)
    (wd : FVec Ideal S256x1024 .bf16) (y : S512x1024.Idx) :
    k0_pay2 h wg wu a wd y = a y + part h wg wu wd y := by
  pointwise [k0_pay2, part]

/-- Rows of the same block of 512 sit at the same place in the array. -/
theorem emb_pred (t : Fin cfg0.N) (h : ¬ t.val % 11 = 0) (y : S512x1024.Idx) (hp : t.val - 1 < cfg0.N) :
    ((cfg0.win 9).blk ⟨t.val - 1, hp⟩).view.emb y = ((cfg0.win 9).blk t).view.emb y := by
  blk_ext [idx t, idx ⟨t.val - 1, hp⟩]

/-- All through a block's eleven steps the two carried buffers hold the reference's residual stream and its
    normalised rows. -/
theorem carried (c : Dev nD) : ∀ (n : ℕ) (h : n < cfg0.N) (y : S512x1024.Idx),
    (outsAt0 m c n h).2.1 y = x1 m c (((cfg0.win 9).blk ⟨n, h⟩).view.emb y)
      ∧ (outsAt0 m c n h).2.2.1 y = hn m c (((cfg0.win 9).blk ⟨n, h⟩).view.emb y) := by
  intro n
  induction n with
  | zero =>
    intro h y
    rw [outsAt0_A m c ⟨0, h⟩ (Nat.zero_mod 11) (by show ¬ 0 % 11 = 10; omega)]; frame_out
    exact ⟨pay5_at m c ⟨0, h⟩ y, pay6_at m c ⟨0, h⟩ y⟩
  | succ n ih =>
    intro h y
    by_cases h0 : (n + 1) % 11 = 0
    · rw [outsAt0_A m c ⟨n + 1, h⟩ h0 (by show ¬ (n + 1) % 11 = 10; omega)]; frame_out
      exact ⟨pay5_at m c ⟨n + 1, h⟩ y, pay6_at m c ⟨n + 1, h⟩ y⟩
    · have e := emb_pred ⟨n + 1, h⟩ h0 y (by omega)
      have i := ih (by omega) y
      by_cases h1 : (n + 1) % 11 = 10
      · rw [outsAt0_C m c ⟨n + 1, h⟩ h0 h1, ← e]
        exact i
      · rw [outsAt0_B m c ⟨n + 1, h⟩ h0 h1, ← e]
        exact i

/-- The accumulator after a step that is not a block's first. -/
theorem acc_step (c : Dev nD) (t : Fin cfg0.N) (h0 : ¬t.val % 11 = 0) (y : S512x1024.Idx) :
    (outsAt0 m c t.val t.isLt).2.2.2 y
      = (outsAt0 m c (t.val - 1) (Nat.lt_of_le_of_lt (Nat.sub_le _ _) t.isLt)).2.2.2 y
        + part (fun z => hn m c (((cfg0.win 9).blk t).view.emb z)) (iblk m c 6 t) (iblk m c 7 t) (iblk m c 8 t) y := by
  have e : (outsAt0 m c (t.val - 1) (Nat.lt_of_le_of_lt (Nat.sub_le _ _) t.isLt)).2.2.1
      = fun z => hn m c (((cfg0.win 9).blk t).view.emb z) := by
    funext z
    rw [(carried m c _ _ z).2, emb_pred t h0 z]
  refine Eq.trans ?_ (congrArg (fun h => _ + part h _ _ _ y) e)
  refine Eq.trans ?_ (pay2_at _ _ _ _ _ y)
  by_cases h1 : t.val % 11 = 10
  · rw [outsAt0_C m c t h0 h1]; frame_out; simp only [read_unread_whole]
  · rw [outsAt0_B m c t h0 h1]; frame_out; simp only [read_unread_whole]

/-- The accumulator after a block's first step. -/
theorem acc_first (c : Dev nD) (t : Fin cfg0.N) (h0 : t.val % 11 = 0) (y : S512x1024.Idx) :
    (outsAt0 m c t.val t.isLt).2.2.2 y
      = 0 + part (fun z => hn m c (((cfg0.win 9).blk t).view.emb z)) (iblk m c 6 t) (iblk m c 7 t) (iblk m c 8 t) y := by
  have e : k0_pay6 (iblk m c 0 t) (iblk m c 1 t) (iblk m c 3 t) (iblk m c 2 t) (iblk m c 4 t) (iblk m c 5 t)
      = fun z => hn m c (((cfg0.win 9).blk t).view.emb z) := funext (pay6_at m c t)
  refine Eq.trans ?_ (congrArg (fun h => 0 + part h _ _ _ y) e)
  rw [outsAt0_A m c t h0 (by omega)]; frame_out
  refine (pay2_at _ _ _ _ _ y).trans ?_
  refine congrArg (· + _) ?_
  pointwise [k0_pay1, k0_pay7]

/-- What a block's last step writes back: the residual plus the accumulator. -/
theorem out_last (c : Dev nD) (t : Fin cfg0.N) (h1 : t.val % 11 = 10) (y : S512x1024.Idx) :
    (outsAt0 m c t.val t.isLt).1 y
      = x1 m c (((cfg0.win 9).blk t).view.emb y) + (outsAt0 m c t.val t.isLt).2.2.2 y := by
  have h0 : ¬ t.val % 11 = 0 := by omega
  rw [← (carried m c t.val t.isLt y).1, outsAt0_C m c t h0 h1]; frame_out
  simp only [read_unread_whole]
  pointwise [k0_pay3]
  rfl

/-- The result array after the run. -/
theorem final (c : Dev nD) : (dats m 0 c).arrAt 9 (cfgs 0).N
    = REF (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_covers 9 _ (by decide +kernel) fun t hf y => ?_
  have h1 : t.val % 11 = 10 := (flush0_9 t).mp hf
  blk_simp
  rw [after0_9, out_last m c t h1 y, Pipeline.eq_sum_fin_of_reset_step_apply_of_flush
    (fun n h => (outsAt0 m c n h).2.2.2) 11 (fun _ => 0)
    (fun t y => part (fun z => hn m c (((cfg0.win 9).blk t).view.emb z)) (iblk m c 6 t) (iblk m c 7 t) (iblk m c 8 t) y)
    (fun t h j => acc_first m c t h j) (fun t h j => acc_step m c t h j) t h1 _, zero_add]
  pointwise [REF, part]
  refine Ideal.add_congr rfl (Fin.sum_mul_add_congr fun s k hl => ?_)
  refine Eq.trans ?_ (Ideal.mul_congr (hidden_at _ _ _ _ _).symm rfl)
  blk_point [iblk, V, idx t, idx ⟨_, Pipeline.run_point_lt_of_flush t h1 s⟩]

end Cert.FfnCdClosed

end
-- ==== Proof.ProjCdValue.lean ====
/- The input projection with 3456 columns: the array the kernel leaves is the reference's normalised rows times the weight. -/
module

public import proofs.«01_k».proof.Proof.Gen.ProjCdIdeal.Value
public import proofs.«01_k».proof.Proof.Gen.RefProjCdIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjCdIdeal.Closed

open Cert.ProjCdIdeal Cert.ProjCdIdeal.Gen

variable (m : (ℓ : Loc nD τ sig) → Buf (Elt Ideal) ℓ)

open Cert.RefProjCdIdeal.Gen in
/-- The reference's result as one term: each row of `X` over its root mean square, times the gain, times the weight. -/
abbrev REF (X : FVec Ideal Cert.RefProjCdIdeal.S16384x1024 .f32) (g : FVec Ideal Cert.RefProjCdIdeal.S1024 .f32)
    (W : FVec Ideal Cert.RefProjCdIdeal.S1024x3456 .f32) : FVec Ideal Cert.RefProjCdIdeal.S16384x3456 .f32 :=
  Host.dotGeneral Cert.RefProjCdIdeal.dot_S16384x1024_S1024x3456_S16384x3456_1_0_0_1_n_n none
    (mulf (mulf X (broadcastInDim Cert.RefProjCdIdeal.S16384x1024 ![0, 1] bcast_S16384x1_S16384x1024_0_1
      (Host.rsqrt (addf (Host.divf (broadcastInDim Cert.RefProjCdIdeal.S16384x1 ![0] bcast_S16384_S16384x1_0
        (Host.reduceAdd (mulf X X) (constant Cert.RefProjCdIdeal.S_ .f32 0x00000000#32) reducesTo_S16384x1024_S16384_d1 h_S_))
          (broadcastInDim Cert.RefProjCdIdeal.S16384x1 ![] bcast_S_S16384x1 (constant Cert.RefProjCdIdeal.S_ .f32 0x44800000#32)))
        (broadcastInDim Cert.RefProjCdIdeal.S16384x1 ![] bcast_S_S16384x1 (constant Cert.RefProjCdIdeal.S_ .f32 0x358637BD#32))))))
      (broadcastInDim Cert.RefProjCdIdeal.S16384x1024 ![0, 1] bcast_S1x1024_S16384x1024_0_1
        (broadcastInDim Cert.RefProjCdIdeal.S1x1024 ![1] bcast_S1024_S1x1024_1 g))) W

/-- Which block every window holds at a grid point. -/
theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- What a grid point stores at an index of its block is the reference's term at the index it sits at. -/
theorem point (c : Dev nD) (t : Fin cfg0.N) (y : S256x3456.Idx) :
    k0_pay1 (iblk m c 0 t) (iblk m c 1 t) (iblk m c 2 t) y
    = REF (m ((c : Thread nD τ).loc main_arg0)) (m ((c : Thread nD τ).loc main_arg1))
        (m ((c : Thread nD τ).loc main_arg2)) (((cfg0.win 3).blk t).view.emb y) := by
  pointwise [k0_pay1, REF]
  blk_point [iblk, V, idx t]

/-- The result array after the run. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

end Cert.ProjCdIdeal.Closed

end
-- ==== Proof.Win.Softmax.lean ====
module

public import Idealize.ShloMosaic.Lib.Pipeline.ValueKit

/-! Softmax of a row of extended reals, computed with the row's maximum taken off first and divided
at the end, against softmax through the logarithm of the sum of exponentials. The row's scores are
never `⊤` and not all `⊥`; the values weighed may be anything. -/

@[expose] public section

noncomputable section

namespace Cert.WinClosed

open Idealize.ShloMosaic

theorem iexp_coe (r : ℝ) : Ideal.exp (r : EReal) = (Real.exp r : ℝ) := rfl

theorem iexp_bot : Ideal.exp (⊥ : EReal) = 0 := rfl

theorem iexp_top : Ideal.exp (⊤ : EReal) = ⊤ := rfl

theorem ilog_coe_pos {r : ℝ} (h : 0 < r) : Ideal.log (r : EReal) = (Real.log r : ℝ) := by
  show (if r ≤ 0 then (⊥ : EReal) else _) = _
  rw [if_neg (not_le.mpr h)]

/-- A score's weight: its exponential, a real number. -/
def weight (x : EReal) : ℝ := (Ideal.exp x).toReal

theorem weight_nonneg (x : EReal) : 0 ≤ weight x := by
  induction x with
  | bot => simp [weight, iexp_bot]
  | top => simp [weight, iexp_top]
  | coe r => simp only [weight, iexp_coe, EReal.toReal_coe]; exact (Real.exp_pos r).le

theorem weight_pos {x : EReal} (h : x ≠ ⊤) (h' : x ≠ ⊥) : 0 < weight x := by
  induction x with
  | bot => exact absurd rfl h'
  | top => exact absurd rfl h
  | coe r => simp only [weight, iexp_coe, EReal.toReal_coe]; exact Real.exp_pos r

/-- The exponential of a score less a real number. -/
theorem iexp_sub {x : EReal} (h : x ≠ ⊤) (t : ℝ) :
    Ideal.exp (x - (t : EReal)) = ((weight x * Real.exp (-t) : ℝ) : EReal) := by
  induction x with
  | bot => simp [weight, iexp_bot]
  | top => exact absurd rfl h
  | coe r =>
    rw [← EReal.coe_sub, iexp_coe, weight, iexp_coe, EReal.toReal_coe, ← Real.exp_add, sub_eq_add_neg]

theorem iexp_eq {x : EReal} (h : x ≠ ⊤) : Ideal.exp x = ((weight x : ℝ) : EReal) := by
  have := iexp_sub h 0
  simpa using this

theorem coe_sum {ι : Type} (t : Finset ι) (f : ι → ℝ) :
    ∑ j ∈ t, ((f j : ℝ) : EReal) = ((∑ j ∈ t, f j : ℝ) : EReal) := by
  classical
  induction t using Finset.induction_on with
  | empty => simp
  | insert a t ha ih => rw [Finset.sum_insert ha, Finset.sum_insert ha, ih, EReal.coe_add]

theorem sum_mul_coe {ι : Type} (t : Finset ι) (f : ι → EReal) {c : ℝ} (hc : 0 ≤ c) :
    (∑ j ∈ t, f j) * (c : EReal) = ∑ j ∈ t, f j * (c : EReal) := by
  classical
  induction t using Finset.induction_on with
  | empty => simp
  | insert a t ha ih =>
    rw [Finset.sum_insert ha, Finset.sum_insert ha, ← ih,
      EReal.right_distrib_of_nonneg_of_ne_top (by exact_mod_cast hc) (EReal.coe_ne_top c)]

variable {n : ℕ} (s : Fin n → EReal)

/-- The row's maximum. -/
def rowMax : EReal := Finset.univ.fold max ⊥ s

/-- The row's sum of exponentials, its maximum taken off. -/
def rowSum : EReal := ∑ j, Ideal.exp (s j - rowMax s)

variable {s}

theorem rowMax_real (h : ∀ j, s j ≠ ⊤) (h' : ∃ j, s j ≠ ⊥) : ∃ t : ℝ, rowMax s = (t : EReal) := by
  have hb : rowMax s ≠ ⊥ := by
    obtain ⟨j, hj⟩ := h'
    intro e
    have : s j ≤ rowMax s := (Finset.le_fold_max (s j)).mpr (.inr ⟨j, Finset.mem_univ j, le_rfl⟩)
    rw [e] at this
    exact hj (le_bot_iff.mp this)
  have ht : rowMax s ≠ ⊤ := by
    refine ne_of_lt ?_
    rw [rowMax, Finset.fold_max_lt]
    exact ⟨bot_lt_top, fun j _ => lt_of_le_of_ne le_top (h j)⟩
  exact ⟨(rowMax s).toReal, (EReal.coe_toReal ht hb).symm⟩

theorem total_pos (h : ∀ j, s j ≠ ⊤) (h' : ∃ j, s j ≠ ⊥) : 0 < ∑ j, weight (s j) := by
  obtain ⟨j, hj⟩ := h'
  exact Finset.sum_pos' (fun i _ => weight_nonneg _) ⟨j, Finset.mem_univ j, weight_pos (h j) hj⟩

/-- The row's logarithm of the sum of exponentials. -/
def rowLse (s : Fin n → EReal) : EReal := Ideal.log (∑ j, Ideal.exp (s j))

theorem rowLse_eq (h : ∀ j, s j ≠ ⊤) (h' : ∃ j, s j ≠ ⊥) :
    rowLse s = ((Real.log (∑ j, weight (s j)) : ℝ) : EReal) := by
  rw [rowLse, Finset.sum_congr rfl fun j _ => iexp_eq (h j), coe_sum, ilog_coe_pos (total_pos h h')]

theorem rowSum_eq (h : ∀ j, s j ≠ ⊤) {t : ℝ} (ht : rowMax s = t) :
    rowSum s = (((∑ j, weight (s j)) * Real.exp (-t) : ℝ) : EReal) := by
  rw [rowSum, ht, Finset.sum_congr rfl fun j _ => iexp_sub (h j) t, coe_sum, Finset.sum_mul]

/-- The maximum put back: the logarithm of the sum of exponentials. -/
theorem max_add_log (h : ∀ j, s j ≠ ⊤) (h' : ∃ j, s j ≠ ⊥) :
    rowMax s + Ideal.log (rowSum s) = rowLse s := by
  obtain ⟨t, ht⟩ := rowMax_real h h'
  have hp := total_pos h h'
  rw [rowLse_eq h h', rowSum_eq h ht, ht, ilog_coe_pos (mul_pos hp (Real.exp_pos _)), ← EReal.coe_add,
    Real.log_mul hp.ne' (Real.exp_pos _).ne', Real.log_exp]
  congr 1; ring

/-- Weighed values divided at the end, or weights normalised through the logarithm. -/
theorem weighed (h : ∀ j, s j ≠ ⊤) (h' : ∃ j, s j ≠ ⊥) (v : Fin n → EReal) :
    Ideal.div (∑ j, Ideal.exp (s j - rowMax s) * v j) (rowSum s)
      = ∑ j, Ideal.exp (s j - rowLse s) * v j := by
  obtain ⟨t, ht⟩ := rowMax_real h h'
  have hp := total_pos h h'
  have hl : 0 < (∑ j, weight (s j)) * Real.exp (-t) := mul_pos hp (Real.exp_pos _)
  rw [rowLse_eq h h', rowSum_eq h ht, ht, Ideal.div, if_neg (by exact_mod_cast hl.ne'),
    ← EReal.coe_inv, sum_mul_coe _ _ (inv_nonneg.mpr hl.le)]
  refine Finset.sum_congr rfl fun j _ => ?_
  rw [iexp_sub (h j), iexp_sub (h j), mul_right_comm, ← EReal.coe_mul, Real.exp_neg (Real.log _),
    Real.exp_log hp]
  congr 2
  have := (Real.exp_pos (-t)).ne'
  field_simp

end Cert.WinClosed
-- ==== Proof.Win.Block.lean ====
module

public import proofs.«01_k».proof.Proof.Gen.Win0Ideal.Value
public import proofs.«01_k».proof.Proof.Win.Softmax

/-! One block of the attention kernel: what it leaves at a place of its two output blocks, from the
blocks it reads — 128 queries, the 128 keys and values before them and their own, and the bias. -/

@[expose] public section

set_option maxRecDepth 16384

noncomputable section

open Idealize.ShloMosaic Idealize.ShloMosaic.TcCoe Idealize.SL.Sem
open Idealize.ShloMosaic.Pipeline (Dat)

namespace Cert.WinClosed

open Cert.Win0Ideal Cert.Win0Ideal.Gen

variable (i : grid0.Coords) (x0 : Vec Ideal S1x128x256 .bf16) (x1 x2 : Vec Ideal S1x1x128x512 .f32)
  (x3 : Vec Ideal S4x128x256 .f32)

/-- Entry `l` of place `c` of the window: the block before, then the block itself. -/
def atPlace (c : Fin 256) (l : Fin 512) : EReal :=
  if h : (c : ℕ) < 128 then x1 (ix4 0 0 ⟨c, h⟩ l) else x2 (ix4 0 0 ⟨c - 128, by omega⟩ l)

/-- The score of query `r` and place `c` for head `h`. -/
def blockScore (h : Fin 4) (r : Fin 128) (c : Fin 256) : EReal :=
  if (i 2).val = 0 ∧ (c : ℕ) < 128 then ⊥ else
    (∑ d : Fin 64, x0 (ix3 0 r ⟨h * 64 + d, by omega⟩) * atPlace x1 x2 c ⟨h * 64 + d, by omega⟩)
      + x3 (ix3 h r c)

/-- The block's weighed values, divided at the end. -/
def blockOut (h : Fin 4) (r : Fin 128) (d : Fin 64) : EReal :=
  Ideal.div (∑ c : Fin 256, Ideal.exp (blockScore i x0 x1 x2 x3 h r c - rowMax (blockScore i x0 x1 x2 x3 h r))
      * atPlace x1 x2 c ⟨256 + (h * 64 + d), by omega⟩) (rowSum (blockScore i x0 x1 x2 x3 h r))

/-- The block's logarithm of the sum of exponentials, the maximum put back. -/
def blockLse (h : Fin 4) (r : Fin 128) : EReal :=
  rowMax (blockScore i x0 x1 x2 x3 h r) + Ideal.log (rowSum (blockScore i x0 x1 x2 x3 h r))

theorem neg_eq : (Named.named (F := Ideal) κ "neg" (φ := .f32) 4048155338#32 : EReal) = ⊥ := by
  show ((κ "neg").getD _ : EReal) = ⊥
  simp [κ]

theorem first_block (A B : EReal) (c : Fin 256) :
    Scalar.select (IntOp.andi (Scalar.cmpi CmpIPredicate.eq (BitVec.ofNat 32 (i 2).val) 0#32)
        (IntOp.cmpi CmpIPredicate.slt (BitVec.ofNat 32 (c : ℕ)) 128#32)) A B
      = if (i 2).val = 0 ∧ (c : ℕ) < 128 then A else B := by
  have hi : (i 2).val < 64 := (i 2).isLt
  have hc := c.isLt
  word_cmp

theorem top_eq : Ideal.ofBits FTy.f32 4286578688#32 = (⊥ : EReal) := by
  simp [Ideal.ofBits, Ideal.ieee]

/-- The two halves of the window weighed apart, against the whole window. -/
theorem join (S : Fin 256 → EReal) (l l' : Fin 512) (hl : (l : ℕ) = l') :
    Ideal.div
      (∑ x : Fin 128, Ideal.exp (S ⟨x, by omega⟩ - Finset.fold max (Ideal.ofBits FTy.f32 4286578688#32)
          (fun c => S c) Finset.univ) * x1 (ix4 0 0 x l)
        + ∑ x : Fin 128, Ideal.exp (S ⟨128 + x, by omega⟩ - Finset.fold max
          (Ideal.ofBits FTy.f32 4286578688#32) (fun c => S c) Finset.univ) * x2 (ix4 0 0 x l))
      (∑ c, Ideal.exp (S c - Finset.fold max (Ideal.ofBits FTy.f32 4286578688#32) (fun c => S c) Finset.univ))
      = Ideal.div (∑ c : Fin 256, Ideal.exp (S c - rowMax S) * atPlace x1 x2 c l') (rowSum S) := by
  obtain rfl : l = l' := Fin.ext hl
  rw [top_eq]
  refine congrArg₂ Ideal.div ?_ rfl
  rw [Fin.sum_univ_add (a := 128) (b := 128)]
  refine congrArg₂ (· + ·) (Finset.sum_congr rfl fun x _ => ?_) (Finset.sum_congr rfl fun x _ => ?_)
  · rw [atPlace, dif_pos (by simp)]; rfl
  · rw [atPlace, dif_neg (by simp)]
    refine congrArg₂ (· * ·) rfl (congrArg x2 ?_)
    congr 1
    exact Fin.ext (by simp)

theorem score0 (r : Fin 128) (c : Fin 256) :
    k0_pay12 (F := Ideal) i (View.ld x0 r0_0) (View.ld x1 r0_1) (View.ld x2 r0_1) (View.ld x3 r0_2) (ix2 r c)
      = blockScore i x0 x1 x2 x3 0 r c := by
  pointwise [k0_pay12, k0_pay31, k0_pay32, k0_pay33, k0_pay34, k0_pay11, k0_pay8, k0_pay9, k0_pay10,
    blockScore, atPlace]
  rw [first_block, neg_eq]

theorem score1 (r : Fin 128) (c : Fin 256) :
    k0_pay19 (F := Ideal) (k0_pay31 i x0 x1 x2 x3) (k0_pay32 i x0 x1 x2 x3) (k0_pay33 i x0 x1 x2 x3)
        (k0_pay34 i x0 x1 x2 x3) (View.ld x3 r0_4) (ix2 r c)
      = blockScore i x0 x1 x2 x3 1 r c := by
  pointwise [k0_pay19, k0_pay31, k0_pay32, k0_pay33, k0_pay34, k0_pay11, k0_pay8, k0_pay9, k0_pay10,
    blockScore, atPlace]
  rw [first_block, neg_eq]

theorem score2 (r : Fin 128) (c : Fin 256) :
    k0_pay25 (F := Ideal) (k0_pay31 i x0 x1 x2 x3) (k0_pay32 i x0 x1 x2 x3) (k0_pay33 i x0 x1 x2 x3)
        (k0_pay34 i x0 x1 x2 x3) (View.ld x3 r0_6) (ix2 r c)
      = blockScore i x0 x1 x2 x3 2 r c := by
  pointwise [k0_pay25, k0_pay31, k0_pay32, k0_pay33, k0_pay34, k0_pay11, k0_pay8, k0_pay9, k0_pay10,
    blockScore, atPlace]
  rw [first_block, neg_eq]

theorem score3 (r : Fin 128) (c : Fin 256) :
    k0_pay2 (F := Ideal) (k0_pay31 i x0 x1 x2 x3) (k0_pay32 i x0 x1 x2 x3) (k0_pay33 i x0 x1 x2 x3)
        (k0_pay34 i x0 x1 x2 x3) (View.ld x3 r0_8) (ix2 r c)
      = blockScore i x0 x1 x2 x3 3 r c := by
  pointwise [k0_pay2, k0_pay31, k0_pay32, k0_pay33, k0_pay34, k0_pay11, k0_pay8, k0_pay9, k0_pay10,
    blockScore, atPlace]
  rw [first_block, neg_eq]

theorem out0 (r : Fin 128) (d : Fin 64) :
    k0_pay17 (F := Ideal) (k0_pay35 i x0 x1 x2 x3)
        (k0_pay16 i (View.ld x0 r0_0) (View.ld x1 r0_1) (View.ld x2 r0_1) (View.ld x3 r0_2)) (ix3 0 r d)
      = blockOut i x0 x1 x2 x3 0 r d := by
  pointwise [k0_pay17, k0_pay16, k0_pay35, k0_pay15, k0_pay14, k0_pay13, k0_pay32, k0_pay33, k0_pay9, k0_pay10]
  simp only [score0]
  exact join x1 x2 (blockScore i x0 x1 x2 x3 0 r) _ _ (by simp; try omega)

theorem before_at (r : Fin 128) (l : Fin 512) :
    k0_pay32 (F := Ideal) i x0 x1 x2 x3 (ix2 r l) = x1 (ix4 0 0 r l) := by
  pointwise [k0_pay32, k0_pay9]

theorem own_at (r : Fin 128) (l : Fin 512) :
    k0_pay33 (F := Ideal) i x0 x1 x2 x3 (ix2 r l) = x2 (ix4 0 0 r l) := by
  pointwise [k0_pay33, k0_pay10]

theorem out1 (r : Fin 128) (d : Fin 64) :
    k0_pay23 (F := Ideal) (k0_pay31 i x0 x1 x2 x3) (k0_pay32 i x0 x1 x2 x3) (k0_pay33 i x0 x1 x2 x3)
        (k0_pay34 i x0 x1 x2 x3) (View.ld x3 r0_4) (ix3 0 r d)
      = blockOut i x0 x1 x2 x3 1 r d := by
  pointwise [k0_pay23, k0_pay22, k0_pay21, k0_pay20]
  simp only [score1, before_at, own_at]
  exact join x1 x2 (blockScore i x0 x1 x2 x3 1 r) _ _ (by simp; try omega)

theorem out2 (r : Fin 128) (d : Fin 64) :
    k0_pay29 (F := Ideal) (k0_pay31 i x0 x1 x2 x3) (k0_pay32 i x0 x1 x2 x3) (k0_pay33 i x0 x1 x2 x3)
        (k0_pay34 i x0 x1 x2 x3) (View.ld x3 r0_6) (ix3 0 r d)
      = blockOut i x0 x1 x2 x3 2 r d := by
  pointwise [k0_pay29, k0_pay28, k0_pay27, k0_pay26]
  simp only [score2, before_at, own_at]
  exact join x1 x2 (blockScore i x0 x1 x2 x3 2 r) _ _ (by simp; try omega)

theorem out3 (r : Fin 128) (d : Fin 64) :
    k0_pay6 (F := Ideal) (k0_pay31 i x0 x1 x2 x3) (k0_pay32 i x0 x1 x2 x3) (k0_pay33 i x0 x1 x2 x3)
        (k0_pay34 i x0 x1 x2 x3) (View.ld x3 r0_8) (ix3 0 r d)
      = blockOut i x0 x1 x2 x3 3 r d := by
  pointwise [k0_pay6, k0_pay5, k0_pay4, k0_pay3]
  simp only [score3, before_at, own_at]
  exact join x1 x2 (blockScore i x0 x1 x2 x3 3 r) _ _ (by simp; try omega)

theorem lse0 (r : Fin 128) (d : Fin 64) :
    k0_pay18 (F := Ideal) (k0_pay13 i (View.ld x0 r0_0) (View.ld x1 r0_1) (View.ld x2 r0_1) (View.ld x3 r0_2))
        (k0_pay35 i x0 x1 x2 x3) (ix3 0 r d)
      = blockLse i x0 x1 x2 x3 0 r := by
  pointwise [k0_pay18, k0_pay35, k0_pay15, k0_pay14, k0_pay13]
  simp only [score0]
  rw [top_eq]; rfl

theorem lse1 (r : Fin 128) (d : Fin 64) :
    k0_pay24 (F := Ideal) (k0_pay20 (k0_pay31 i x0 x1 x2 x3) (k0_pay32 i x0 x1 x2 x3) (k0_pay33 i x0 x1 x2 x3)
        (k0_pay34 i x0 x1 x2 x3) (View.ld x3 r0_4))
        (k0_pay22 (k0_pay31 i x0 x1 x2 x3) (k0_pay32 i x0 x1 x2 x3) (k0_pay33 i x0 x1 x2 x3)
        (k0_pay34 i x0 x1 x2 x3) (View.ld x3 r0_4)) (ix3 0 r d)
      = blockLse i x0 x1 x2 x3 1 r := by
  pointwise [k0_pay24, k0_pay22, k0_pay21, k0_pay20]
  simp only [score1]
  rw [top_eq]; rfl

theorem lse2 (r : Fin 128) (d : Fin 64) :
    k0_pay1 (F := Ideal) (k0_pay30 (k0_pay31 i x0 x1 x2 x3) (k0_pay32 i x0 x1 x2 x3) (k0_pay33 i x0 x1 x2 x3)
        (k0_pay34 i x0 x1 x2 x3) (View.ld x3 r0_6)) (ix3 0 r d)
      = blockLse i x0 x1 x2 x3 2 r := by
  pointwise [k0_pay1, k0_pay30, k0_pay28, k0_pay27, k0_pay26]
  simp only [score2]
  rw [top_eq]; rfl

theorem lse3 (r : Fin 128) (d : Fin 64) :
    k0_pay7 (F := Ideal) (k0_pay31 i x0 x1 x2 x3) (k0_pay32 i x0 x1 x2 x3) (k0_pay33 i x0 x1 x2 x3)
        (k0_pay34 i x0 x1 x2 x3) (View.ld x3 r0_8) (ix3 0 r d)
      = blockLse i x0 x1 x2 x3 3 r := by
  pointwise [k0_pay7, k0_pay5, k0_pay4, k0_pay3]
  simp only [score3]
  rw [top_eq]; rfl

/-- The output block at a place: head `l / 64`, entry `l % 64`. -/
theorem out_at (r : Fin 128) (l : Fin 256) :
    out0_4 (F := Ideal) i x0 x1 x2 x3 (ix3 0 r l)
      = blockOut i x0 x1 x2 x3 ⟨l / 64, by omega⟩ r ⟨l % 64, by omega⟩ := by
  have hy : ∀ (a : Fin 128) (b : Fin 64) (p : Fin 4) (h1 : (r : ℕ) = a) (h2 : (l : ℕ) = p * 64 + b),
      blockOut i x0 x1 x2 x3 p a b = blockOut i x0 x1 x2 x3 ⟨l / 64, by omega⟩ r ⟨l % 64, by omega⟩ := by
    intro a b p h1 h2
    congr 1
    · exact Fin.ext (by simp; omega)
    · exact Fin.ext h1.symm
    · exact Fin.ext (by simp; omega)
  have hx : ∀ x : S1x128x64.Idx, ∃ (a : Fin 128) (b : Fin 64), x = ix3 0 a b := fun x =>
    ⟨x 1, x 2, by blk_ext⟩
  unfold out0_4
  canon_tiles x h
  · obtain ⟨a, b, rfl⟩ := hx x; rw [out3]; exact hy a b 3 h1 (by simpa using h2)
  · obtain ⟨a, b, rfl⟩ := hx x; rw [out2]; exact hy a b 2 h1 (by simpa using h2)
  · obtain ⟨a, b, rfl⟩ := hx x; rw [out1]; exact hy a b 1 h1 (by simpa using h2)
  · obtain ⟨a, b, rfl⟩ := hx x; rw [out0]; exact hy a b 0 h1 (by simpa using h2)

/-- The second output block at a place: the row's logarithm of head `l / 64`, in every entry. -/
theorem lse_at (r : Fin 128) (l : Fin 256) :
    out0_5 (F := Ideal) i x0 x1 x2 x3 (ix3 0 r l)
      = blockLse i x0 x1 x2 x3 ⟨l / 64, by omega⟩ r := by
  have hy : ∀ (a : Fin 128) (b : Fin 64) (p : Fin 4) (h1 : (r : ℕ) = a) (h2 : (l : ℕ) = p * 64 + b),
      blockLse i x0 x1 x2 x3 p a = blockLse i x0 x1 x2 x3 ⟨l / 64, by omega⟩ r := by
    intro a b p h1 h2
    congr 1
    · exact Fin.ext (by simp; omega)
    · exact Fin.ext h1.symm
  have hx : ∀ x : S1x128x64.Idx, ∃ (a : Fin 128) (b : Fin 64), x = ix3 0 a b := fun x =>
    ⟨x 1, x 2, by blk_ext⟩
  unfold out0_5
  canon_tiles x h
  · obtain ⟨a, b, rfl⟩ := hx x; rw [lse3]; exact hy a b 3 h1 (by simpa using h2)
  · obtain ⟨a, b, rfl⟩ := hx x; rw [lse2]; exact hy a b 2 h1 (by simpa using h2)
  · obtain ⟨a, b, rfl⟩ := hx x; rw [lse1]; exact hy a b 1 h1 (by simpa using h2)
  · obtain ⟨a, b, rfl⟩ := hx x; rw [lse0]; exact hy a b 0 h1 (by simpa using h2)

end Cert.WinClosed
-- ==== Proof.Win.Ref.lean ====
module

public import proofs.«01_k».proof.Proof.Gen.RefWin0Ideal.Run
public import Idealize.ShloMosaic.Lib.Pipeline.ValueKit

/-! The reference of the window attention, its result read in named stages: the distances, the masks,
the buckets, the bias, the blocks of queries, keys and values, and the masked scores. -/

@[expose] public section

set_option maxRecDepth 16384

noncomputable section

namespace Cert.WinRef

open Cert.RefWin0Ideal Cert.RefWin0Ideal.Gen Cert.RefWin0Ideal.Value
open Idealize.ShloMosaic Idealize.ShloMosaic.TcCoe Idealize.SL.Sem Idealize.ShloMosaic.StableHlo

/-- Places of a window, counted from the block's own first. -/
def keyI : IVec S1x256 32 :=
  subi (broadcastInDim S1x256 ![1] bcast_S256_S1x256_1 (iotaInDim S256 32 0))
    (broadcastInDim S1x256 ![] bcast_S_S1x256 (constantI S_ 32 128#32))

/-- Distances between a block's queries and its window's places. -/
def relI : IVec S128x256 32 :=
  subi (broadcastInDim S128x256 ![0, 1] bcast_S128x1_S128x256_0_1
      (broadcastInDim S128x1 ![0] bcast_S128_S128x1_0 (iotaInDim S128 32 0)))
    (broadcastInDim S128x256 ![0, 1] bcast_S1x256_S128x256_0_1 keyI)

/-- Whether a place lies in its query's window. -/
def insideI : IVec S128x256 1 :=
  andi (cmpi .sge relI (broadcastInDim S128x256 ![] bcast_S_S128x256 (constantI S_ 32 0#32)))
    (cmpi .sle relI (broadcastInDim S128x256 ![] bcast_S_S128x256 (constantI S_ 32 128#32)))

/-- Whether a place is one of the sequence's own, by block. -/
def ownI : IVec S64x1x256 1 :=
  cmpi .sge (addi
      (broadcastInDim S64x1x256 ![0, 1, 2] bcast_S64x1x1_S64x1x256_0_1_2
        (broadcastInDim S64x1x1 ![0] bcast_S64_S64x1x1_0
          (muli (iotaInDim S64 32 0) (broadcastInDim S64 ![] bcast_S_S64 (constantI S_ 32 128#32)))))
      (broadcastInDim S64x1x256 ![0, 1, 2] bcast_S1x1x256_S64x1x256_0_1_2
        (broadcastInDim S1x1x256 ![1, 2] bcast_S1x256_S1x1x256_1_2 keyI)))
    (broadcastInDim S64x1x256 ![] bcast_S_S64x1x256 (constantI S_ 32 0#32))

/-- The distances, not below zero. -/
def distI : IVec S128x256 32 :=
  maxsi (muli relI (broadcastInDim S128x256 ![] bcast_S_S128x256 (constantI S_ 32 1#32)))
    (broadcastInDim S128x256 ![] bcast_S_S128x256 (constantI S_ 32 0#32))

/-- The buckets. -/
def bucketI : IVec S128x256 32 :=
  select (cmpi .slt distI (broadcastInDim S128x256 ![] bcast_S_S128x256 (constantI S_ 32 16#32))) distI
    (minsi (addi (broadcastInDim S128x256 ![] bcast_S_S128x256 (constantI S_ 32 16#32))
        (fptosi (F := Ideal) 32 (mulf (Host.divf (Host.log (Host.divf
          (sitofp (F := Ideal) .f32 (maxsi distI (broadcastInDim S128x256 ![] bcast_S_S128x256 (constantI S_ 32 16#32))))
          (broadcastInDim S128x256 ![] bcast_S_S128x256 (constant (F := Ideal) S_ .f32 0x41800000#32))))
          (broadcastInDim S128x256 ![] bcast_S_S128x256 (constant (F := Ideal) S_ .f32 0x409B43D5#32)))
          (broadcastInDim S128x256 ![] bcast_S_S128x256 (constant (F := Ideal) S_ .f32 0x41800000#32)))))
      (broadcastInDim S128x256 ![] bcast_S_S128x256 (constantI S_ 32 31#32)))

/-- The rows of the bias table that are taken. -/
def rowI : IVec S128x256x1 32 :=
  broadcastInDim S128x256x1 ![0, 1] bcast_S128x256_S128x256x1_0_1
    (select (cmpi .slt bucketI (broadcastInDim S128x256 ![] bcast_S_S128x256 (constantI S_ 32 0#32)))
      (addi bucketI (broadcastInDim S128x256 ![] bcast_S_S128x256 (constantI S_ 32 32#32))) bucketI)

variable (q : FVec Ideal S2x8192x768 .bf16) (kv : FVec Ideal S3x2x8192x512 .f32) (tab : FVec Ideal S32x20 .f32)

/-- The table's values by head, query and place. -/
def tableR : FVec Ideal S4x128x256 .f32 :=
  transpose S4x128x256 [2, 0, 1]
    (select (broadcastInDim S128x256x4 ![0, 1] bcast_S128x256_S128x256x4_0_1
        (Host.reduce IntOp.andi (andi (cmpi .sge rowI (broadcastInDim S128x256x1 ![] bcast_S_S128x256x1 (constantI S_ 32 0#32)))
          (cmpi .sle rowI (broadcastInDim S128x256x1 ![0, 1, 2] bcast_S1x1x1_S128x256x1_0_1_2
            (broadcastInDim S1x1x1 ![2] bcast_S1_S1x1x1_2 (constantI S1 32 31#32)))))
          (constantI S_ 1 1#1) reducesTo_S128x256x1_S128x256_d2 h_S_))
      (Host.gather gather_S32x4_S128x256x1_S128x256x4_2_0_n_n_0_2_14
        (extractStridedSlice S32x4 ![0, 0] tab slices_S32x20_S32x4_0_0) rowI)
      (broadcastInDim S128x256x4 ![] bcast_S_S128x256x4 (constant (F := Ideal) S_ .f32 0x7FC00000#32)))
    transposes_S128x256x4_S4x128x256_2_0_1

/-- The bias by head, query and place: the table's value in the window, -10³⁰ elsewhere. -/
def biasR : FVec Ideal S4x128x256 .f32 :=
  select (broadcastInDim S4x128x256 ![1, 2] bcast_S128x256_S4x128x256_1_2 insideI) (tableR tab)
    (broadcastInDim S4x128x256 ![] bcast_S_S4x128x256 (constant (F := Ideal) S_ .f32 0xF149F2CA#32))

/-- The queries by block. -/
def qR : FVec Ideal S2x1x64x128x4x64 .f32 :=
  shapeCast _ (transpose S2x1x8192x4x64 [0, 2, 1, 3, 4]
    (shapeCast _ (extractStridedSlice S2x8192x4x64 ![0, 0, 0, 0]
      (shapeCast _ (extf (F := Ideal) .f32 q bitsLt_bf16_f32) shapeCasts_S2x8192x768_S2x8192x12x64)
      slices_S2x8192x12x64_S2x8192x4x64_0_0_0_0) shapeCasts_S2x8192x4x64_S2x8192x1x4x64)
    transposes_S2x8192x1x4x64_S2x1x8192x4x64_0_2_1_3_4) shapeCasts_S2x1x8192x4x64_S2x1x64x128x4x64

/-- Keys or values by block, from the rows that hold the one or the other. -/
def ownR (x : FVec Ideal S2x8192x1x4x64 .f32) : FVec Ideal S2x1x64x128x4x64 .f32 :=
  shapeCast _ (transpose S2x1x8192x4x64 [0, 2, 1, 3, 4]
    (shapeCast _ (shapeCast _ x shapeCasts_S2x8192x1x4x64_S2x8192x4x64) shapeCasts_S2x8192x4x64_S2x8192x1x4x64)
    transposes_S2x8192x1x4x64_S2x1x8192x4x64_0_2_1_3_4) shapeCasts_S2x1x8192x4x64_S2x1x64x128x4x64

/-- A window: the block before, zeros before the first, then the block itself. -/
def windowR (x : FVec Ideal S2x1x64x128x4x64 .f32) : FVec Ideal S2x1x64x256x4x64 .f32 :=
  concatenate S2x1x64x256x4x64 3 [⟨S2x1x64x128x4x64,
      (extractStridedSlice S2x1x64x128x4x64 ![0, 0, 0, 0, 0, 0]
        (pad S2x1x65x128x4x64 ![0, 0, 1, 0, 0, 0] ![0, 0, 0, 0, 0, 0] ![0, 0, 0, 0, 0, 0] x
          (sitofp (F := Ideal) .f32 (constantI S_ 32 0#32)) pads_S2x1x64x128x4x64_S2x1x65x128x4x64_000_000_100_000_000_000 h_S_)
        slices_S2x1x65x128x4x64_S2x1x64x128x4x64_0_0_0_0_0_0)⟩, ⟨S2x1x64x128x4x64, x⟩]
    concatenates_S2x1x64x128x4x64_S2x1x64x128x4x64_S2x1x64x256x4x64_d3

/-- The keys and values of the first head group. -/
def kvR : FVec Ideal S2x8192x2x4x64 .f32 :=
  shapeCast _ (shapeCast _ (extractStridedSlice S1x2x8192x512 ![0, 0, 0, 0] kv
    slices_S3x2x8192x512_S1x2x8192x512_0_0_0_0) shapeCasts_S1x2x8192x512_S2x8192x512)
    shapeCasts_S2x8192x512_S2x8192x2x4x64

def keysR : FVec Ideal S2x1x64x256x4x64 .f32 :=
  windowR (ownR (extractStridedSlice S2x8192x1x4x64 ![0, 0, 0, 0, 0] (kvR kv)
    slices_S2x8192x2x4x64_S2x8192x1x4x64_0_0_0_0_0))

def valuesR : FVec Ideal S2x1x64x256x4x64 .f32 :=
  windowR (ownR (extractStridedSlice S2x8192x1x4x64 ![0, 0, 1, 0, 0] (kvR kv)
    slices_S2x8192x2x4x64_S2x8192x1x4x64_0_0_1_0_0))

/-- The masked scores. -/
def scoreR : FVec Ideal S2x1x64x4x128x256 .f32 :=
  select (broadcastInDim S2x1x64x4x128x256 ![2, 3, 4, 5] bcast_S64x1x1x256_S2x1x64x4x128x256_2_3_4_5
      (broadcastInDim S64x1x1x256 ![0, 2, 3] bcast_S64x1x256_S64x1x1x256_0_2_3 ownI))
    (addf (Host.dotGeneral (F := Ideal) dot_S2x1x64x128x4x64_S2x1x64x256x4x64_S2x1x64x4x128x256_5_5_3_3_0124_0124 none
        (qR q) (keysR kv))
      (broadcastInDim S2x1x64x4x128x256 ![0, 1, 2, 3, 4, 5] bcast_S1x1x1x4x128x256_S2x1x64x4x128x256_0_1_2_3_4_5
        (broadcastInDim S1x1x1x4x128x256 ![3, 4, 5] bcast_S4x128x256_S1x1x1x4x128x256_3_4_5 (biasR tab))))
    (broadcastInDim S2x1x64x4x128x256 ![] bcast_S_S2x1x64x4x128x256 (constant (F := Ideal) S_ .f32 0xFF800000#32))

/-- The logarithms of the sums of exponentials. -/
def lseR : FVec Ideal S2x1x64x4x128 .f32 :=
  Host.log (Host.reduceAdd (Host.exp (scoreR q kv tab)) (constant (F := Ideal) S_ .f32 0x00000000#32)
    reducesTo_S2x1x64x4x128x256_S2x1x64x4x128_d5 h_S_)

/-- The reference's first result. -/
def outRef : FVec Ideal S2x8192x256 .f32 :=
  shapeCast _ (shapeCast _ (transpose S2x8192x1x4x64 [0, 2, 1, 3, 4]
    (shapeCast _ (transpose S2x1x64x128x4x64 [0, 1, 2, 5, 3, 4]
      (Host.dotGeneral (F := Ideal) dot_S2x1x64x256x4x64_S2x1x64x4x128x256_S2x1x64x4x64x128_3_5_5_4_0124_0123 none
        (valuesR kv)
        (Host.exp (subf (scoreR q kv tab)
          (broadcastInDim S2x1x64x4x128x256 ![0, 1, 2, 3, 4, 5] bcast_S2x1x64x4x128x1_S2x1x64x4x128x256_0_1_2_3_4_5
            (broadcastInDim S2x1x64x4x128x1 ![0, 1, 2, 3, 4] bcast_S2x1x64x4x128_S2x1x64x4x128x1_0_1_2_3_4 (lseR q kv tab))))))
      transposes_S2x1x64x4x64x128_S2x1x64x128x4x64_0_1_2_5_3_4) shapeCasts_S2x1x64x128x4x64_S2x1x8192x4x64)
    transposes_S2x1x8192x4x64_S2x8192x1x4x64_0_2_1_3_4) shapeCasts_S2x8192x1x4x64_S2x8192x4x64)
    shapeCasts_S2x8192x4x64_S2x8192x256

/-- The reference's second result. -/
def lseRef : FVec Ideal S2x8192x256 .f32 :=
  shapeCast _ (broadcastInDim S2x8192x4x64 ![0, 1, 2, 3] bcast_S2x8192x4x1_S2x8192x4x64_0_1_2_3
    (broadcastInDim S2x8192x4x1 ![0, 1, 2] bcast_S2x8192x4_S2x8192x4x1_0_1_2
      (shapeCast _ (transpose S2x8192x1x4 [0, 2, 1, 3]
        (shapeCast _ (transpose S2x1x64x128x4 [0, 1, 2, 4, 3] (lseR q kv tab)
          transposes_S2x1x64x4x128_S2x1x64x128x4_0_1_2_4_3) shapeCasts_S2x1x64x128x4_S2x1x8192x4)
        transposes_S2x1x8192x4_S2x8192x1x4_0_2_1_3) shapeCasts_S2x8192x1x4_S2x8192x4)))
    shapeCasts_S2x8192x4x64_S2x8192x256

theorem res0_eq (m : (ℓ : Loc nD τ sig) → Buf (Elt Ideal) ℓ) (c : Dev nD) :
    res_out0 m c = outRef (m ((c.tc : Thread nD τ).loc main_arg0)) (m ((c.tc : Thread nD τ).loc main_arg1))
      (m ((c.tc : Thread nD τ).loc main_arg2)) := by
  unfold res_out0 res_main_v97
  rfl

theorem res1_eq (m : (ℓ : Loc nD τ sig) → Buf (Elt Ideal) ℓ) (c : Dev nD) :
    res_out1 m c = lseRef (m ((c.tc : Thread nD τ).loc main_arg0)) (m ((c.tc : Thread nD τ).loc main_arg1))
      (m ((c.tc : Thread nD τ).loc main_arg2)) := by
  unfold res_out1 res_main_v100
  rfl

end Cert.WinRef
-- ==== Proof.Win.Tables.lean ====
module

public import proofs.«01_k».proof.Win0Ideal
public import Mathlib.Tactic.IntervalCases

/-! The two constant tables the attention's host code holds — which of the 128 × 256 places of a
window are attended, and the bucket of each place's distance — read as functions of the place. -/

@[expose] public section

set_option maxRecDepth 16384

namespace Cert.WinClosed

open Cert.Win0Ideal Idealize.ShloMosaic

/-- The list's entries, from place `k` on, are the values of `f`. -/
def Rows {α : Type} (f : Nat → α) : Nat → List α → Prop
  | _, [] => True
  | k, a :: l => a = f k ∧ Rows f (k + 1) l

/-- `Rows`, computed. -/
def rowsB {α : Type} [DecidableEq α] (f : Nat → α) : Nat → List α → Bool
  | _, [] => true
  | k, a :: l => decide (a = f k) && rowsB f (k + 1) l

theorem rows_of_rowsB {α : Type} [DecidableEq α] (f : Nat → α) (l : List α) :
    ∀ k, rowsB f k l = true → Rows f k l := by
  induction l with
  | nil => intro _ _; trivial
  | cons a l ih =>
    intro k h
    simp only [rowsB, Bool.and_eq_true, decide_eq_true_eq] at h
    exact ⟨h.1, ih _ h.2⟩

theorem rows_get {α : Type} (f : Nat → α) (d : α) (l : List α) :
    ∀ k n, Rows f k l → n < l.length → l.getD n d = f (k + n) := by
  induction l with
  | nil => intro _ n _ h; simp at h
  | cons a l ih =>
    intro k n h hn
    cases n with
    | zero => simpa using h.1
    | succ n => simpa [Nat.add_assoc, Nat.add_comm 1] using ih (k + 1) n h.2 (by simpa using hn)

/-- The entry of a table of 128 rows, by its number. -/
def pick {α : Type} (n : Nat)
    (a0 a1 a2 a3 a4 a5 a6 a7 a8 a9 a10 a11 a12 a13 a14 a15 a16 a17 a18 a19 a20 a21 a22 a23 a24
    a25 a26 a27 a28 a29 a30 a31 a32 a33 a34 a35 a36 a37 a38 a39 a40 a41 a42 a43 a44 a45 a46 a47
    a48 a49 a50 a51 a52 a53 a54 a55 a56 a57 a58 a59 a60 a61 a62 a63 a64 a65 a66 a67 a68 a69 a70
    a71 a72 a73 a74 a75 a76 a77 a78 a79 a80 a81 a82 a83 a84 a85 a86 a87 a88 a89 a90 a91 a92 a93
    a94 a95 a96 a97 a98 a99 a100 a101 a102 a103 a104 a105 a106 a107 a108 a109 a110 a111 a112
    a113 a114 a115 a116 a117 a118 a119 a120 a121 a122 a123 a124 a125 a126 a127 d : α) : α := match n with
  | 0 => a0 | 1 => a1 | 2 => a2 | 3 => a3 | 4 => a4 | 5 => a5 | 6 => a6 | 7 => a7
  | 8 => a8 | 9 => a9 | 10 => a10 | 11 => a11 | 12 => a12 | 13 => a13 | 14 => a14 | 15 => a15
  | 16 => a16 | 17 => a17 | 18 => a18 | 19 => a19 | 20 => a20 | 21 => a21 | 22 => a22 | 23 => a23
  | 24 => a24 | 25 => a25 | 26 => a26 | 27 => a27 | 28 => a28 | 29 => a29 | 30 => a30 | 31 => a31
  | 32 => a32 | 33 => a33 | 34 => a34 | 35 => a35 | 36 => a36 | 37 => a37 | 38 => a38 | 39 => a39
  | 40 => a40 | 41 => a41 | 42 => a42 | 43 => a43 | 44 => a44 | 45 => a45 | 46 => a46 | 47 => a47
  | 48 => a48 | 49 => a49 | 50 => a50 | 51 => a51 | 52 => a52 | 53 => a53 | 54 => a54 | 55 => a55
  | 56 => a56 | 57 => a57 | 58 => a58 | 59 => a59 | 60 => a60 | 61 => a61 | 62 => a62 | 63 => a63
  | 64 => a64 | 65 => a65 | 66 => a66 | 67 => a67 | 68 => a68 | 69 => a69 | 70 => a70 | 71 => a71
  | 72 => a72 | 73 => a73 | 74 => a74 | 75 => a75 | 76 => a76 | 77 => a77 | 78 => a78 | 79 => a79
  | 80 => a80 | 81 => a81 | 82 => a82 | 83 => a83 | 84 => a84 | 85 => a85 | 86 => a86 | 87 => a87
  | 88 => a88 | 89 => a89 | 90 => a90 | 91 => a91 | 92 => a92 | 93 => a93 | 94 => a94 | 95 => a95
  | 96 => a96 | 97 => a97 | 98 => a98 | 99 => a99 | 100 => a100 | 101 => a101 | 102 => a102 | 103 => a103
  | 104 => a104 | 105 => a105 | 106 => a106 | 107 => a107 | 108 => a108 | 109 => a109 | 110 => a110 | 111 => a111
  | 112 => a112 | 113 => a113 | 114 => a114 | 115 => a115 | 116 => a116 | 117 => a117 | 118 => a118 | 119 => a119
  | 120 => a120 | 121 => a121 | 122 => a122 | 123 => a123 | 124 => a124 | 125 => a125 | 126 => a126 | 127 => a127
  | _ => d

/-- A table whose rows are the values of `f` at 0, …, 127 gives `f`. -/
theorem pick_eq {α : Type} (f : Nat → α) {n : Nat}
    {a0 a1 a2 a3 a4 a5 a6 a7 a8 a9 a10 a11 a12 a13 a14 a15 a16 a17 a18 a19 a20 a21 a22 a23 a24
    a25 a26 a27 a28 a29 a30 a31 a32 a33 a34 a35 a36 a37 a38 a39 a40 a41 a42 a43 a44 a45 a46 a47
    a48 a49 a50 a51 a52 a53 a54 a55 a56 a57 a58 a59 a60 a61 a62 a63 a64 a65 a66 a67 a68 a69 a70
    a71 a72 a73 a74 a75 a76 a77 a78 a79 a80 a81 a82 a83 a84 a85 a86 a87 a88 a89 a90 a91 a92 a93
    a94 a95 a96 a97 a98 a99 a100 a101 a102 a103 a104 a105 a106 a107 a108 a109 a110 a111 a112
    a113 a114 a115 a116 a117 a118 a119 a120 a121 a122 a123 a124 a125 a126 a127 d : α}
    (h : Rows f 0 [a0, a1, a2, a3, a4, a5, a6, a7, a8, a9, a10, a11, a12, a13, a14, a15, a16, a17, a18, a19,
    a20, a21, a22, a23, a24, a25, a26, a27, a28, a29, a30, a31, a32, a33, a34, a35, a36, a37,
    a38, a39, a40, a41, a42, a43, a44, a45, a46, a47, a48, a49, a50, a51, a52, a53, a54, a55,
    a56, a57, a58, a59, a60, a61, a62, a63, a64, a65, a66, a67, a68, a69, a70, a71, a72, a73,
    a74, a75, a76, a77, a78, a79, a80, a81, a82, a83, a84, a85, a86, a87, a88, a89, a90, a91,
    a92, a93, a94, a95, a96, a97, a98, a99, a100, a101, a102, a103, a104, a105, a106, a107,
    a108, a109, a110, a111, a112, a113, a114, a115, a116, a117, a118, a119, a120, a121, a122,
    a123, a124, a125, a126, a127])
    (hn : n < 128) :
    pick n a0 a1 a2 a3 a4 a5 a6 a7 a8 a9 a10 a11 a12 a13 a14 a15 a16 a17 a18 a19 a20 a21 a22 a23 a24
    a25 a26 a27 a28 a29 a30 a31 a32 a33 a34 a35 a36 a37 a38 a39 a40 a41 a42 a43 a44 a45 a46 a47
    a48 a49 a50 a51 a52 a53 a54 a55 a56 a57 a58 a59 a60 a61 a62 a63 a64 a65 a66 a67 a68 a69 a70
    a71 a72 a73 a74 a75 a76 a77 a78 a79 a80 a81 a82 a83 a84 a85 a86 a87 a88 a89 a90 a91 a92 a93
    a94 a95 a96 a97 a98 a99 a100 a101 a102 a103 a104 a105 a106 a107 a108 a109 a110 a111 a112
    a113 a114 a115 a116 a117 a118 a119 a120 a121 a122 a123 a124 a125 a126 a127 d = f n := by
  have key := rows_get f d _ 0 n h hn
  rw [Nat.zero_add] at key
  rw [← key]
  interval_cases n <;> rfl

/-- The table's row `m` of 128 entries, entry `i % 128`. -/
theorem pick_row {α : Type} [DecidableEq α] (f : Nat → α) {m i : Nat}
    {a0 a1 a2 a3 a4 a5 a6 a7 a8 a9 a10 a11 a12 a13 a14 a15 a16 a17 a18 a19 a20 a21 a22 a23 a24
    a25 a26 a27 a28 a29 a30 a31 a32 a33 a34 a35 a36 a37 a38 a39 a40 a41 a42 a43 a44 a45 a46 a47
    a48 a49 a50 a51 a52 a53 a54 a55 a56 a57 a58 a59 a60 a61 a62 a63 a64 a65 a66 a67 a68 a69 a70
    a71 a72 a73 a74 a75 a76 a77 a78 a79 a80 a81 a82 a83 a84 a85 a86 a87 a88 a89 a90 a91 a92 a93
    a94 a95 a96 a97 a98 a99 a100 a101 a102 a103 a104 a105 a106 a107 a108 a109 a110 a111 a112
    a113 a114 a115 a116 a117 a118 a119 a120 a121 a122 a123 a124 a125 a126 a127 d : α}
    (h : rowsB (fun k => f (m * 128 + k)) 0 [a0, a1, a2, a3, a4, a5, a6, a7, a8, a9, a10, a11, a12, a13, a14, a15, a16, a17, a18, a19,
    a20, a21, a22, a23, a24, a25, a26, a27, a28, a29, a30, a31, a32, a33, a34, a35, a36, a37,
    a38, a39, a40, a41, a42, a43, a44, a45, a46, a47, a48, a49, a50, a51, a52, a53, a54, a55,
    a56, a57, a58, a59, a60, a61, a62, a63, a64, a65, a66, a67, a68, a69, a70, a71, a72, a73,
    a74, a75, a76, a77, a78, a79, a80, a81, a82, a83, a84, a85, a86, a87, a88, a89, a90, a91,
    a92, a93, a94, a95, a96, a97, a98, a99, a100, a101, a102, a103, a104, a105, a106, a107,
    a108, a109, a110, a111, a112, a113, a114, a115, a116, a117, a118, a119, a120, a121, a122,
    a123, a124, a125, a126, a127] = true) :
    pick (i % 128) a0 a1 a2 a3 a4 a5 a6 a7 a8 a9 a10 a11 a12 a13 a14 a15 a16 a17 a18 a19 a20 a21 a22 a23 a24
    a25 a26 a27 a28 a29 a30 a31 a32 a33 a34 a35 a36 a37 a38 a39 a40 a41 a42 a43 a44 a45 a46 a47
    a48 a49 a50 a51 a52 a53 a54 a55 a56 a57 a58 a59 a60 a61 a62 a63 a64 a65 a66 a67 a68 a69 a70
    a71 a72 a73 a74 a75 a76 a77 a78 a79 a80 a81 a82 a83 a84 a85 a86 a87 a88 a89 a90 a91 a92 a93
    a94 a95 a96 a97 a98 a99 a100 a101 a102 a103 a104 a105 a106 a107 a108 a109 a110 a111 a112
    a113 a114 a115 a116 a117 a118 a119 a120 a121 a122 a123 a124 a125 a126 a127 d
      = f (m * 128 + i % 128) :=
  pick_eq (fun k => f (m * 128 + k)) (rows_of_rowsB _ _ _ h) (Nat.mod_lt _ (by decide))

/-- The bucket of a distance below 256: the distance itself up to 15, then by the logarithm. -/
def bucket (d : Nat) : Nat :=
  if d < 16 then d else if d < 22 then 16 else if d < 30 then 17 else if d < 40 then 18
  else if d < 54 then 19 else if d < 73 then 20 else if d < 99 then 21 else if d < 134 then 22
  else if d < 182 then 23 else if d < 246 then 24 else 25

/-- Place `e` of a window, row-major: attended when its distance is between 0 and 128. -/
def okAt (e : Nat) : BitVec 1 :=
  if e % 256 ≤ e / 256 + 128 ∧ e / 256 ≤ e % 256 then 1#1 else 0#1

/-- The bucket at place `e` of a window. -/
def bucketAt (e : Nat) : BitVec 32 := BitVec.ofNat 32 (bucket (e / 256 + 128 - e % 256))

theorem lit1_lo (i : Nat) : lit1t1_0 i = okAt (i / 128 % 128 * 128 + i % 128) := by
  refine pick_eq (fun m => okAt (m * 128 + i % 128)) ?_ (Nat.mod_lt _ (by decide))
  repeat' refine And.intro ?_ ?_
  all_goals first
    | exact trivial
    | exact pick_row okAt (by decide +kernel)

theorem lit1_hi (i : Nat) : lit1t1_1 i = okAt ((128 + i / 128 % 128) * 128 + i % 128) := by
  refine pick_eq (fun m => okAt ((128 + m) * 128 + i % 128)) ?_ (Nat.mod_lt _ (by decide))
  repeat' refine And.intro ?_ ?_
  all_goals first
    | exact trivial
    | exact pick_row okAt (by decide +kernel)

theorem lit0_lo (i : Nat) : lit0t1_0 i = bucketAt (i / 128 % 128 * 128 + i % 128) := by
  refine pick_eq (fun m => bucketAt (m * 128 + i % 128)) ?_ (Nat.mod_lt _ (by decide))
  repeat' refine And.intro ?_ ?_
  all_goals first
    | exact trivial
    | exact pick_row bucketAt (by decide +kernel)

theorem lit0_hi (i : Nat) : lit0t1_1 i = bucketAt ((128 + i / 128 % 128) * 128 + i % 128) := by
  refine pick_eq (fun m => bucketAt ((128 + m) * 128 + i % 128)) ?_ (Nat.mod_lt _ (by decide))
  repeat' refine And.intro ?_ ?_
  all_goals first
    | exact trivial
    | exact pick_row bucketAt (by decide +kernel)

/-- The table of attended places. -/
theorem ok_table (i : Nat) (h : i < 32768) : lit1t i = okAt i := by
  have h2 : i / 16384 = 0 ∨ i / 16384 = 1 := by omega
  rcases h2 with e | e
  · rw [lit1t, e]; exact (lit1_lo i).trans (congrArg okAt (by omega))
  · rw [lit1t, e]; exact (lit1_hi i).trans (congrArg okAt (by omega))

/-- The table of buckets. -/
theorem bucket_table (i : Nat) (h : i < 32768) : lit0t i = bucketAt i := by
  have h2 : i / 16384 = 0 ∨ i / 16384 = 1 := by omega
  rcases h2 with e | e
  · rw [lit0t, e]; exact (lit0_lo i).trans (congrArg bucketAt (by omega))
  · rw [lit0t, e]; exact (lit0_hi i).trans (congrArg bucketAt (by omega))

end Cert.WinClosed
-- ==== Proof.Win.Bucket.lean ====
module

public import proofs.«01_k».proof.Proof.Win.Tables
public import proofs.«01_k».proof.Proof.Win.Softmax

/-! The bucket of a distance below 129, computed by logarithms over the reals: a distance below 16 is
its own bucket; from 16 on the bucket is read off the powers of two between which the sixteenth power
of the distance lies. -/

@[expose] public section

noncomputable section

namespace Cert.WinClosed

open Idealize.ShloMosaic

/-- The divisor, the single-precision word nearest `log 128`. -/
def logDiv : ℝ := 10175445 / 2097152

theorem log_two_above : (0.693147 : ℝ) < Real.log 2 := by
  rw [Real.lt_log_iff_exp_lt (by norm_num)]
  refine lt_of_le_of_lt (Real.exp_bound' (x := 0.693147) (by norm_num) (by norm_num) (n := 12) (by norm_num)) ?_
  norm_num [Finset.sum_range_succ, Nat.factorial]

theorem log_two_below : Real.log 2 < (0.693148 : ℝ) := by
  rw [Real.log_lt_iff_lt_exp (by norm_num)]
  refine lt_of_lt_of_le ?_ (Real.sum_le_exp_of_nonneg (x := 0.693148) (by norm_num) 12)
  norm_num [Finset.sum_range_succ, Nat.factorial]

/-- The logarithm of a ratio a little above one. -/
theorem log_step : (1 : ℝ) / 20000 ≤ Real.log 10001 - Real.log 10000 := by
  have g := Real.one_sub_inv_le_log_of_pos (x := (10001 : ℝ) / 10000) (by norm_num)
  rw [Real.log_div (by norm_num) (by norm_num)] at g
  have g' : (1 : ℝ) / 20000 ≤ 1 - ((10001 : ℝ) / 10000)⁻¹ := by norm_num
  linarith

/-- The whole part of the scaled logarithm. -/
theorem floor_log (n k : ℕ) (hn : 16 ≤ n) (hk : k ≤ 7) (hi : 10001 * n ^ 16 ≤ 10000 * 2 ^ (64 + 7 * (k + 1)))
    (lo : k = 0 ∨ 10001 * 2 ^ (64 + 7 * k) ≤ 10000 * n ^ 16) :
    ⌊Real.log ((n : ℝ) / 16) / logDiv * 16⌋ = (k : ℤ) := by
  have h2a := log_two_above
  have h2b := log_two_below
  have st := log_step
  have n0 : (0 : ℝ) < n := by exact_mod_cast (by omega : 0 < n)
  have hL : Real.log ((n : ℝ) / 16) = Real.log n - 4 * Real.log 2 := by
    rw [Real.log_div n0.ne' (by norm_num), show (16 : ℝ) = 2 ^ 4 by norm_num, Real.log_pow]
    norm_num
  have k7 : (k : ℝ) ≤ 7 := by exact_mod_cast hk
  have k0 : (0 : ℝ) ≤ k := Nat.cast_nonneg k
  have up : 16 * (Real.log n - 4 * Real.log 2) < ((k : ℝ) + 1) * logDiv := by
    have e := Real.log_le_log (by positivity)
      (by exact_mod_cast hi : (10001 : ℝ) * (n : ℝ) ^ 16 ≤ 10000 * 2 ^ (64 + 7 * (k + 1)))
    rw [Real.log_mul (by norm_num) (by positivity), Real.log_mul (by norm_num) (by positivity), Real.log_pow,
      Real.log_pow] at e
    push_cast at e
    have w : ((k : ℝ) + 1) * (7 * Real.log 2 - logDiv) ≤ ((k : ℝ) + 1) * (6 / 1000000) :=
      mul_le_mul_of_nonneg_left (by unfold logDiv; linarith) (by linarith)
    linarith
  have low : (k : ℝ) * logDiv ≤ 16 * (Real.log n - 4 * Real.log 2) := by
    rcases lo with rfl | lo
    · have := Real.log_nonneg (x := (n : ℝ) / 16) (by rw [le_div_iff₀ (by norm_num)]; exact_mod_cast (by omega : 1 * 16 ≤ n))
      rw [hL] at this
      simp only [Nat.cast_zero, zero_mul]
      linarith
    · have e := Real.log_le_log (by positivity)
        (by exact_mod_cast lo : (10001 : ℝ) * 2 ^ (64 + 7 * k) ≤ 10000 * (n : ℝ) ^ 16)
      rw [Real.log_mul (by norm_num) (by positivity), Real.log_mul (by norm_num) (by positivity), Real.log_pow,
        Real.log_pow] at e
      push_cast at e
      have w : (k : ℝ) * (logDiv - 7 * Real.log 2) ≤ (k : ℝ) * (2 / 1000000) :=
        mul_le_mul_of_nonneg_left (by unfold logDiv; linarith) k0
      linarith
  have c0 : (0 : ℝ) < logDiv := by unfold logDiv; norm_num
  rw [hL, Int.floor_eq_iff]
  constructor
  · rw [div_mul_eq_mul_div, le_div_iff₀ c0]
    push_cast
    linarith
  · rw [div_mul_eq_mul_div, div_lt_iff₀ c0]
    push_cast
    linarith

/-- The bounds that place each distance from 16 to 128. -/
theorem bucket_bounds : ∀ n < 129, 16 ≤ n → 16 ≤ bucket n ∧ bucket n ≤ 23 ∧ 10001 * n ^ 16 ≤ 10000 * 2 ^ (64 + 7 * (bucket n - 16 + 1))
    ∧ (bucket n - 16 = 0 ∨ 10001 * 2 ^ (64 + 7 * (bucket n - 16)) ≤ 10000 * n ^ 16) := by
  decide +kernel

theorem bucket_small : ∀ n < 16, bucket n = n := by decide +kernel

theorem sixteen_eq : Ideal.ofBits FTy.f32 0x41800000#32 = ((16 : ℝ) : EReal) := by
  simp [Ideal.ofBits, Ideal.ieee]
  rw [← EReal.coe_mul]
  norm_num

theorem logDiv_eq : Ideal.ofBits FTy.f32 0x409B43D5#32 = ((logDiv : ℝ) : EReal) := by
  simp [Ideal.ofBits, Ideal.ieee, logDiv]
  rw [← EReal.coe_mul]
  norm_num

/-- The scaled logarithm of a distance from 16 on, cut to a word. -/
theorem word_log (n : ℕ) (h : n < 129) (h' : 16 ≤ n) :
    FloatOps.fptosi (F := Ideal) 32 (φ := .f32) (Ideal.div (Ideal.log (Ideal.div (((n : ℝ)) : EReal)
      (Ideal.ofBits FTy.f32 0x41800000#32))) (Ideal.ofBits FTy.f32 0x409B43D5#32) * Ideal.ofBits FTy.f32 0x41800000#32)
      = BitVec.ofNat 32 (bucket n - 16) := by
  obtain ⟨a, b, hi, lo⟩ := bucket_bounds n h h'
  have n0 : (0 : ℝ) < n := by exact_mod_cast (by omega : 0 < n)
  have c0 : (0 : ℝ) < logDiv := by unfold logDiv; norm_num
  rw [sixteen_eq, logDiv_eq, Ideal.div_coe (show (16 : ℝ) ≠ 0 by norm_num), ← EReal.coe_mul, ilog_coe_pos (by positivity),
    Ideal.div_coe (show logDiv ≠ 0 from c0.ne'), ← EReal.coe_mul, ← EReal.coe_mul]
  have e := floor_log n (bucket n - 16) h' (by omega) hi lo
  rw [div_eq_mul_one_div (n : ℝ), div_eq_mul_one_div (Real.log _)] at e
  show BitVec.ofInt 32 (max _ (min _ (if 0 ≤ _ then _ else _))) = _
  have p : 0 ≤ Real.log ((n : ℝ) * (1 / 16)) * (1 / logDiv) * 16 := by
    have := Int.floor_nonneg.mp (e ▸ Int.natCast_nonneg _)
    exact this
  rw [if_pos p, e]
  have : bucket n - 16 ≤ 7 := by omega
  generalize bucket n - 16 = k at this
  interval_cases k <;> rfl

end Cert.WinClosed
-- ==== Proof.Win.Gather.lean ====
module

public import Idealize.ShloMosaic.Lib.Pipeline.ValueKit
public import Idealize.ShloMosaic.Lib.ValueIdxCore

/-! Whole rows taken from a table of two axes, the rows chosen by an integer array of two axes. -/

@[expose] public section

namespace Cert.WinClosed

open Idealize.ShloMosaic

/-- The dimension numbers of taking rows. -/
abbrev rowDims (N K R C : Nat)
    (wf : GatherDims.WF ⟨2, ![N, K]⟩ ⟨3, ![R, C, 1]⟩ ⟨3, ![R, C, K]⟩ [2] [0] [] [0] [] 2 ![1, K]) :
    GatherDims ⟨2, ![N, K]⟩ ⟨3, ![R, C, 1]⟩ ⟨3, ![R, C, K]⟩ where
  offsetDims := [2]
  collapsedSliceDims := [0]
  operandBatchingDims := []
  startIndicesBatchingDims := []
  startIndexMap := [0]
  indexVectorDim := 2
  sliceSizes := ![1, K]
  wf := wf

/-- The row read at an index: the chosen row, held between the first and the last. -/
theorem take_row {α : Type} {N K R C w : Nat} (hN : 0 < N)
    (wf : GatherDims.WF ⟨2, ![N, K]⟩ ⟨3, ![R, C, 1]⟩ ⟨3, ![R, C, K]⟩ [2] [0] [] [0] [] 2 ![1, K])
    (x : (⟨2, ![N, K]⟩ : Shape).Idx → α) (idx : IVec ⟨3, ![R, C, 1]⟩ w) (r : Fin R) (c : Fin C) (h : Fin K) :
    Host.gather (rowDims N K R C wf) x idx (ix3 r c h)
      = x (ix2 ⟨min (idx (ix3 r c (0 : Fin 1))).toInt.toNat (N - 1), by omega⟩ h) := by
  unfold Host.gather
  congr 1
  funext a
  refine Fin.ext ?_
  show (rowDims N K R C wf).start (ix3 r c h) idx a + (rowDims N K R C wf).batchCoord (ix3 r c h) a
      + (rowDims N K R C wf).offCoord (ix3 r c h) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N K R C wf).startIndexMap from List.mem_singleton.mpr rfl)]
    have hsi : (rowDims N K R C wf).siIdx (ix3 r c h) ⟨List.idxOf (0 : Fin 2) (rowDims N K R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  · unfold GatherDims.start GatherDims.offCoord
    rw [dif_neg (show (1 : Fin 2) ∉ (rowDims N K R C wf).startIndexMap from by simp),
      dif_pos ((GatherDims.mem_sKept _ _).mpr ⟨by simp, by simp⟩)]
    simp only [Nat.zero_add]
    rfl

end Cert.WinClosed
-- ==== Proof.Win.RefBias.lean ====
module

public import proofs.«01_k».proof.Proof.Win.Ref
public import proofs.«01_k».proof.Proof.Win.Bucket
public import proofs.«01_k».proof.Proof.Win.Gather

/-! The reference's bias at an index: the table's value for the distance's bucket within the window,
-10³⁰ outside it. -/

@[expose] public section

set_option maxRecDepth 16384

noncomputable section

namespace Cert.WinRef

open Cert.RefWin0Ideal Cert.RefWin0Ideal.Gen Cert.RefWin0Ideal.Value Cert.WinClosed
open Idealize.ShloMosaic Idealize.ShloMosaic.TcCoe Idealize.SL.Sem Idealize.ShloMosaic.StableHlo

theorem bucket_le (n : ℕ) : bucket n ≤ 31 := by
  unfold bucket
  split_ifs <;> omega

/-- Within the window: not after the query, not more than 128 before it. -/
def Inside (r : Fin 128) (c : Fin 256) : Prop := c.val ≤ r.val + 128 ∧ r.val ≤ c.val

instance (r : Fin 128) (c : Fin 256) : Decidable (Inside r c) := inferInstanceAs (Decidable (_ ∧ _))

/-- The bias of a head at a query and a place of its window. -/
def biasAt (tab : FVec Ideal S32x20 .f32) (h : Fin 4) (r : Fin 128) (c : Fin 256) : EReal :=
  if Inside r c then tab (ix2 ⟨bucket (r.val + 128 - c.val), by have := bucket_le (r.val + 128 - c.val); omega⟩ ⟨h.val, by omega⟩)
  else Ideal.ofBits FTy.f32 0xF149F2CA#32

theorem word_int (n : ℕ) (h : n < 2147483648) : (BitVec.ofNat 32 n).toInt = (n : ℤ) := by
  rw [BitVec.toInt_eq_toNat_cond, BitVec.toNat_ofNat, Nat.mod_eq_of_lt (by omega), if_pos (by omega)]

theorem rel_toInt (r : Fin 128) (c : Fin 256) :
    (IntOp.subi (BitVec.ofNat 32 r.val) (IntOp.subi (BitVec.ofNat 32 c.val) 128#32)).toInt = (r.val : ℤ) + 128 - c.val := by
  have hr := r.isLt
  have hc := c.isLt
  have e : (128#32 : BitVec 32).toInt = 128 := rfl
  unfold IntOp.subi
  rw [BitVec.toInt_sub, BitVec.toInt_sub, word_int _ (by omega), word_int _ (by omega), e]
  simp only [Int.bmod]
  norm_num
  omega

theorem rel_word (r : Fin 128) (c : Fin 256) (h : Inside r c) :
    IntOp.subi (BitVec.ofNat 32 r.val) (IntOp.subi (BitVec.ofNat 32 c.val) 128#32) = BitVec.ofNat 32 (r.val + 128 - c.val) := by
  refine BitVec.eq_of_toInt_eq ?_
  rw [rel_toInt, word_int _ (by omega)]
  have := h.1
  omega

theorem inside_at (r : Fin 128) (c : Fin 256) : insideI (ix2 r c) = if Inside r c then 1#1 else 0#1 := by
  pointwise [insideI, relI, keyI]
  have e := rel_toInt r c
  have z : (0#32 : BitVec 32).toInt = 0 := rfl
  have l : (128#32 : BitVec 32).toInt = 128 := rfl
  generalize IntOp.subi (BitVec.ofNat 32 r.val) (IntOp.subi (BitVec.ofNat 32 c.val) 128#32) = w at e
  have a : IntOp.cmpi .sge w 0#32 = if c.val ≤ r.val + 128 then 1#1 else 0#1 := by
    show BitVec.ofBool (BitVec.sle 0#32 w) = _
    rw [BitVec.sle_eq_decide, e, z]
    by_cases q : c.val ≤ r.val + 128
    · rw [if_pos q, decide_eq_true (by omega)]; rfl
    · rw [if_neg q, decide_eq_false (by omega)]; rfl
  have b : IntOp.cmpi .sle w 128#32 = if r.val ≤ c.val then 1#1 else 0#1 := by
    show BitVec.ofBool (BitVec.sle w 128#32) = _
    rw [BitVec.sle_eq_decide, e, l]
    by_cases q : r.val ≤ c.val
    · rw [if_pos q, decide_eq_true (by omega)]; rfl
    · rw [if_neg q, decide_eq_false (by omega)]; rfl
  rw [a, b]
  unfold Inside
  by_cases q : c.val ≤ r.val + 128 <;> by_cases q' : r.val ≤ c.val <;> simp only [q, q', if_true, if_false, and_self, and_true, true_and, and_false] <;> rfl

theorem dist_at (r : Fin 128) (c : Fin 256) (h : Inside r c) : distI (ix2 r c) = BitVec.ofNat 32 (r.val + 128 - c.val) := by
  pointwise [distI, relI, keyI]
  rw [rel_word r c h]
  have : r.val + 128 - c.val ≤ 128 := by have := h.2; omega
  generalize r.val + 128 - c.val = n at this
  interval_cases n <;> rfl

theorem bucket_at (r : Fin 128) (c : Fin 256) (h : Inside r c) : bucketI (ix2 r c) = BitVec.ofNat 32 (bucket (r.val + 128 - c.val)) := by
  pointwise [bucketI]
  rw [dist_at r c h]
  have m : r.val + 128 - c.val ≤ 128 := by have := h.2; omega
  generalize r.val + 128 - c.val = n at m
  by_cases q : n < 16
  · rw [bucket_small n q, show IntOp.cmpi CmpIPredicate.slt (BitVec.ofNat 32 n) 16#32 = 1#1 from by interval_cases n <;> rfl]
    rfl
  · have e : FloatOps.sitofp (F := Ideal) FTy.f32 (IntOp.maxsi (BitVec.ofNat 32 n) 16#32) = ((n : ℝ) : EReal) := by
      rw [show IntOp.maxsi (BitVec.ofNat 32 n) 16#32 = BitVec.ofNat 32 n from by interval_cases n <;> first | rfl | omega]
      show (((BitVec.ofNat 32 n).toInt : ℝ) : EReal) = _
      rw [word_int n (by omega)]
      norm_cast
    obtain ⟨a, b, -⟩ := bucket_bounds n (by omega) (by omega)
    rw [e, word_log n (by omega) (by omega),
      show IntOp.cmpi CmpIPredicate.slt (BitVec.ofNat 32 n) 16#32 = 0#1 from by interval_cases n <;> first | rfl | omega]
    generalize bucket n = k at a b
    interval_cases k <;> rfl

theorem row_at (r : Fin 128) (c : Fin 256) (x : Fin 1) (h : Inside r c) : rowI (ix3 r c x) = BitVec.ofNat 32 (bucket (r.val + 128 - c.val)) := by
  pointwise [rowI]
  rw [bucket_at r c h]
  have := bucket_le (r.val + 128 - c.val)
  generalize bucket (r.val + 128 - c.val) = k at this
  interval_cases k <;> rfl

variable (tab : FVec Ideal S32x20 .f32)

theorem valid_at (r : Fin 128) (c : Fin 256) (x : Fin 1) (i : Inside r c) :
    IntOp.andi (IntOp.cmpi CmpIPredicate.sge (rowI (ix3 r c x)) 0#32)
      (IntOp.cmpi CmpIPredicate.sle (rowI (ix3 r c x)) 31#32) = 1#1 := by
  rw [row_at r c x i]
  have k31 := bucket_le (r.val + 128 - c.val)
  generalize bucket (r.val + 128 - c.val) = k at k31
  interval_cases k <;> rfl

theorem all_one : Finset.fold IntOp.andi (1#1) (fun _ : Fin 1 => 1#1) Finset.univ = 1#1 := by decide

theorem columns_at (k : Fin 32) (h : Fin 4) :
    extractStridedSlice S32x4 ![0, 0] tab slices_S32x20_S32x4_0_0 (ix2 k h) = tab (ix2 k ⟨h.val, by omega⟩) := by
  pointwise

theorem taken_at (h : Fin 4) (r : Fin 128) (c : Fin 256) (i : Inside r c) :
    Host.gather gather_S32x4_S128x256x1_S128x256x4_2_0_n_n_0_2_14
      (extractStridedSlice S32x4 ![0, 0] tab slices_S32x20_S32x4_0_0) rowI (ix3 r c h)
      = tab (ix2 ⟨bucket (r.val + 128 - c.val), by have := bucket_le (r.val + 128 - c.val); omega⟩ ⟨h.val, by omega⟩) := by
  have k31 := bucket_le (r.val + 128 - c.val)
  have e := take_row (N := 32) (K := 4) (R := 128) (C := 256) (by decide)
    gather_S32x4_S128x256x1_S128x256x4_2_0_n_n_0_2_14_wf
    (extractStridedSlice S32x4 ![0, 0] tab slices_S32x20_S32x4_0_0) rowI r c h
  refine Eq.trans ?_ (e.trans ((columns_at tab _ h).trans ?_))
  · rfl
  · refine congrArg (fun k => tab (ix2 k _)) (Fin.ext ?_)
    show min (rowI (ix3 r c (0 : Fin 1))).toInt.toNat 31 = bucket (r.val + 128 - c.val)
    rw [row_at r c 0 i, word_int _ (by omega)]
    omega

theorem table_at (h : Fin 4) (r : Fin 128) (c : Fin 256) (i : Inside r c) :
    tableR tab (ix3 h r c) = biasAt tab h r c := by
  pointwise [tableR]
  rw [taken_at tab h r c i, funext fun x => valid_at r c x i, all_one]
  unfold biasAt
  rw [if_pos i]
  rfl

theorem bias_at (h : Fin 4) (r : Fin 128) (c : Fin 256) : biasR tab (ix3 h r c) = biasAt tab h r c := by
  pointwise [biasR]
  rw [inside_at]
  by_cases i : Inside r c
  · rw [if_pos i, table_at tab h r c i]; rfl
  · rw [if_neg i]
    unfold biasAt
    rw [if_neg i]
    rfl

end Cert.WinRef
-- ==== Proof.Win.KernelBias.lean ====
module

public import proofs.«01_k».proof.Proof.Gen.Win0Ideal.Value
public import proofs.«01_k».proof.Proof.Win.RefBias
public import Idealize.ShloMosaic.Lib.Pipeline.ReadBack
public import Idealize.ShloMosaic.Lib.Claim

/-! The bias array that the kernel's host code prepares: at every head, query and place it is the
reference's bias. -/

@[expose] public section

set_option maxRecDepth 16384

noncomputable section

namespace Cert.WinClosed

open Cert.Win0Ideal Cert.Win0Ideal.Gen
open Idealize.ShloMosaic Idealize.ShloMosaic.TcCoe Idealize.SL.Sem Idealize.ShloMosaic.StableHlo

/-- The table of buckets, an array. -/
def bucketK : IVec S128x256 32 := fun i => lit0 (S128x256.rowMajor i)

/-- The table of places attended, an array. -/
def insideK : IVec S128x256 1 := fun i => lit1 (S128x256.rowMajor i)

/-- The rows of the bias table that are taken. -/
def rowK : IVec S128x256x1 32 :=
  broadcastInDim S128x256x1 ![0, 1] bcast_S128x256_S128x256x1_0_1
    (select (cmpi .slt bucketK (broadcastInDim S128x256 ![] bcast_S_S128x256 (constantI S_ 32 0#32)))
      (addi bucketK (broadcastInDim S128x256 ![] bcast_S_S128x256 (constantI S_ 32 32#32))) bucketK)

variable (tab : FVec Ideal S32x20 .f32)

/-- The rows taken, by query and place. -/
def takenK : FVec Ideal S128x256x4 .f32 :=
  select (broadcastInDim S128x256x4 ![0, 1] bcast_S128x256_S128x256x4_0_1
      (Host.reduce IntOp.andi (andi (cmpi .sge rowK (broadcastInDim S128x256x1 ![] bcast_S_S128x256x1 (constantI S_ 32 0#32)))
        (cmpi .sle rowK (broadcastInDim S128x256x1 ![0, 1, 2] bcast_S1x1x1_S128x256x1_0_1_2
          (broadcastInDim S1x1x1 ![2] bcast_S1_S1x1x1_2 (constantI S1 32 31#32)))))
        (constantI S_ 1 1#1) reducesTo_S128x256x1_S128x256_d2 h_S_))
    (Host.gather gather_S32x4_S128x256x1_S128x256x4_2_0_n_n_0_2_14
      (extractStridedSlice S32x4 ![0, 0] tab slices_S32x20_S32x4_0_0) rowK)
    (broadcastInDim S128x256x4 ![] bcast_S_S128x256x4 (constant (F := Ideal) S_ .f32 0x7FC00000#32))

/-- The array the kernel is given. -/
def biasK : FVec Ideal S4x128x256 .f32 :=
  select (broadcastInDim S4x128x256 ![0, 1, 2] bcast_S1x128x256_S4x128x256_0_1_2
      (broadcastInDim S1x128x256 ![1, 2] bcast_S128x256_S1x128x256_1_2 insideK))
    (transpose S4x128x256 [2, 0, 1] (takenK tab) transposes_S128x256x4_S4x128x256_2_0_1)
    (broadcastInDim S4x128x256 ![] bcast_S_S4x128x256 (constant (F := Ideal) S_ .f32 0xF149F2CA#32))

theorem V_bias (m : (ℓ : Loc nD τ sig) → Buf (Elt Ideal) ℓ) (c : Dev nD) :
    V m c main_v4 = biasK (m ((c : Thread nD τ).loc main_arg2)) := by
  unfold V
  simp only [hostOps0, hostOps0_1, hostOps0_2, hostOps0_3, List.flatten_cons, List.flatten_nil, List.append_nil,
    List.cons_append, List.nil_append, TRef.binary, TRef.nullary, TRef.ternary, TRef.unary, TRef.toBuf, TRef.ofBuf, cast_eq]
  after_results_simp
  rfl

theorem rowMajor_at (r : Fin 128) (c : Fin 256) : (S128x256.rowMajor (ix2 r c)).val = r.val * 256 + c.val := by
  exact (Shape.rowMajor_val_two _).trans rfl

theorem bucketK_at (r : Fin 128) (c : Fin 256) : bucketK (ix2 r c) = BitVec.ofNat 32 (bucket (r.val + 128 - c.val)) := by
  have hr := r.isLt
  have hc := c.isLt
  show lit0t (S128x256.rowMajor (ix2 r c)).val = _
  rw [rowMajor_at, bucket_table _ (by omega)]
  unfold bucketAt
  rw [show (r.val * 256 + c.val) / 256 = r.val by omega, show (r.val * 256 + c.val) % 256 = c.val by omega]

theorem insideK_at (r : Fin 128) (c : Fin 256) : insideK (ix2 r c) = if WinRef.Inside r c then 1#1 else 0#1 := by
  have hr := r.isLt
  have hc := c.isLt
  show lit1t (S128x256.rowMajor (ix2 r c)).val = _
  rw [rowMajor_at, ok_table _ (by omega)]
  unfold okAt WinRef.Inside
  rw [show (r.val * 256 + c.val) / 256 = r.val by omega, show (r.val * 256 + c.val) % 256 = c.val by omega]
  by_cases q : c.val ≤ r.val + 128 ∧ r.val ≤ c.val
  · exact (if_pos q).trans (if_pos q).symm
  · exact (if_neg q).trans (if_neg q).symm

theorem rowK_at (r : Fin 128) (c : Fin 256) (x : Fin 1) : rowK (ix3 r c x) = BitVec.ofNat 32 (bucket (r.val + 128 - c.val)) := by
  pointwise [rowK]
  rw [bucketK_at r c]
  have := WinRef.bucket_le (r.val + 128 - c.val)
  generalize bucket (r.val + 128 - c.val) = k at this
  interval_cases k <;> rfl

theorem validK_at (r : Fin 128) (c : Fin 256) (x : Fin 1) :
    IntOp.andi (IntOp.cmpi CmpIPredicate.sge (rowK (ix3 r c x)) 0#32)
      (IntOp.cmpi CmpIPredicate.sle (rowK (ix3 r c x)) 31#32) = 1#1 := by
  rw [rowK_at r c x]
  have k31 := WinRef.bucket_le (r.val + 128 - c.val)
  generalize bucket (r.val + 128 - c.val) = k at k31
  interval_cases k <;> rfl

theorem columnsK_at (k : Fin 32) (h : Fin 4) :
    extractStridedSlice S32x4 ![0, 0] tab slices_S32x20_S32x4_0_0 (ix2 k h) = tab (ix2 k ⟨h.val, by omega⟩) := by
  pointwise

theorem gatherK_at (h : Fin 4) (r : Fin 128) (c : Fin 256) :
    Host.gather gather_S32x4_S128x256x1_S128x256x4_2_0_n_n_0_2_14
      (extractStridedSlice S32x4 ![0, 0] tab slices_S32x20_S32x4_0_0) rowK (ix3 r c h)
      = tab (ix2 ⟨bucket (r.val + 128 - c.val), by have := WinRef.bucket_le (r.val + 128 - c.val); omega⟩ ⟨h.val, by omega⟩) := by
  have k31 := WinRef.bucket_le (r.val + 128 - c.val)
  have e := take_row (N := 32) (K := 4) (R := 128) (C := 256) (by decide)
    gather_S32x4_S128x256x1_S128x256x4_2_0_n_n_0_2_14_wf
    (extractStridedSlice S32x4 ![0, 0] tab slices_S32x20_S32x4_0_0) rowK r c h
  refine Eq.trans ?_ (e.trans ((columnsK_at tab _ h).trans ?_))
  · rfl
  · refine congrArg (fun k => tab (ix2 k _)) (Fin.ext ?_)
    show min (rowK (ix3 r c (0 : Fin 1))).toInt.toNat 31 = bucket (r.val + 128 - c.val)
    rw [rowK_at r c 0, WinRef.word_int _ (by omega)]
    omega

theorem takenK_at (h : Fin 4) (r : Fin 128) (c : Fin 256) :
    takenK tab (ix3 r c h) = tab (ix2 ⟨bucket (r.val + 128 - c.val), by have := WinRef.bucket_le (r.val + 128 - c.val); omega⟩ ⟨h.val, by omega⟩) := by
  pointwise [takenK]
  rw [gatherK_at tab h r c, funext fun x => validK_at r c x, WinRef.all_one]
  rfl

theorem biasK_at (h : Fin 4) (r : Fin 128) (c : Fin 256) : biasK tab (ix3 h r c) = WinRef.biasAt tab h r c := by
  pointwise [biasK]
  rw [insideK_at, takenK_at]
  unfold WinRef.biasAt
  by_cases i : WinRef.Inside r c
  · rw [if_pos i, if_pos i]; rfl
  · rw [if_neg i, if_neg i]; rfl

end Cert.WinClosed
-- ==== Proof.Win.RefAt.lean ====
module

public import proofs.«01_k».proof.Proof.Win.RefBias

/-! The reference at an index: for each head, query and place of the window a score, `⊥` before the
sequence's first place; then the weighed values and the logarithm of the sum of exponentials. -/

@[expose] public section

set_option maxRecDepth 16384

noncomputable section

namespace Cert.WinRef

open Cert.RefWin0Ideal Cert.RefWin0Ideal.Gen Cert.RefWin0Ideal.Value Cert.WinClosed
open Idealize.ShloMosaic Idealize.ShloMosaic.TcCoe Idealize.SL.Sem Idealize.ShloMosaic.StableHlo

variable (q : FVec Ideal S2x8192x768 .bf16) (kv : FVec Ideal S3x2x8192x512 .f32) (tab : FVec Ideal S32x20 .f32)

/-- Place `c` of block `n`'s window, column `l` of the keys and values; zero before the first place. -/
def placeAt (b : Fin 2) (n : Fin 64) (c : Fin 256) (l : Fin 512) : EReal :=
  if h : 128 ≤ n.val * 128 + c.val then kv (ix4 0 b ⟨n.val * 128 + c.val - 128, by omega⟩ l) else 0

/-- The score of a head at a query and a place of its window. -/
def scoreAt (b : Fin 2) (n : Fin 64) (h : Fin 4) (r : Fin 128) (c : Fin 256) : EReal :=
  if 128 ≤ n.val * 128 + c.val then
    (∑ d : Fin 64, q (ix3 b ⟨n.val * 128 + r.val, by omega⟩ ⟨h.val * 64 + d.val, by omega⟩)
        * placeAt kv b n c ⟨h.val * 64 + d.val, by omega⟩) + biasAt tab h r c
  else ⊥

theorem own_at (n : Fin 64) (x : Fin 1) (c : Fin 256) : ownI (ix3 n x c) = if 128 ≤ n.val * 128 + c.val then 1#1 else 0#1 := by
  pointwise [ownI, keyI]
  have hn := n.isLt
  have hc := c.isLt
  have z : (0#32 : BitVec 32).toInt = 0 := rfl
  have l : (128#32 : BitVec 32).toInt = 128 := rfl
  have e : (IntOp.addi (IntOp.muli (BitVec.ofNat 32 n.val) 128#32) (IntOp.subi (BitVec.ofNat 32 c.val) 128#32)).toInt
      = (n.val : ℤ) * 128 + c.val - 128 := by
    unfold IntOp.addi IntOp.muli IntOp.subi
    rw [BitVec.toInt_add, BitVec.toInt_mul, BitVec.toInt_sub, word_int n.val (by omega), word_int c.val (by omega), l]
    simp only [Int.bmod]
    norm_num
    omega
  generalize IntOp.addi (IntOp.muli (BitVec.ofNat 32 n.val) 128#32) (IntOp.subi (BitVec.ofNat 32 c.val) 128#32) = w at e
  show BitVec.ofBool (BitVec.sle 0#32 w) = _
  rw [BitVec.sle_eq_decide, e, z]
  by_cases q : 128 ≤ n.val * 128 + c.val
  · rw [if_pos q, decide_eq_true (by omega)]; rfl
  · rw [if_neg q, decide_eq_false (by omega)]; rfl

theorem q_at (b : Fin 2) (n : Fin 64) (r : Fin 128) (h : Fin 4) (d : Fin 64) :
    qR q (ix6 b 0 n r h d) = q (ix3 b ⟨n.val * 128 + r.val, by omega⟩ ⟨h.val * 64 + d.val, by omega⟩) := by
  pointwise [qR]

theorem zero_word : FloatOps.sitofp (F := Ideal) FTy.f32 (0#32 : BitVec 32) = (0 : EReal) := by
  show ((((0#32 : BitVec 32).toInt : ℝ)) : EReal) = 0
  simp

/-- The two halves of a window, joined. -/
theorem place_join (b : Fin 2) (n : Fin 64) (c : Fin 256) (l : Fin 512) :
    (if h_1 : c.val < 128 then
      if h_2 : (1 ≤ n.val ∧ n.val - 1 < 64) ∧ c.val < 128 then kv (ix4 0 b ⟨(n.val - 1) * 128 + c.val, by omega⟩ l)
      else FloatOps.sitofp (F := Ideal) FTy.f32 (0#32 : BitVec 32)
    else kv (ix4 0 b ⟨n.val * 128 + (c.val - 128), by omega⟩ l)) = placeAt kv b n c l := by
  unfold placeAt
  by_cases hc : c.val < 128
  · rw [dif_pos hc]
    by_cases hn : 1 ≤ n.val
    · rw [dif_pos ⟨⟨hn, by omega⟩, hc⟩, dif_pos (by omega)]
      exact congrArg (fun k => kv (ix4 0 b k l)) (Fin.ext (by show (n.val - 1) * 128 + c.val = n.val * 128 + c.val - 128; omega))
    · rw [dif_neg (by omega), dif_neg (by omega), zero_word]
  · rw [dif_neg hc, dif_pos (by omega)]
    exact congrArg (fun k => kv (ix4 0 b k l)) (Fin.ext (by show n.val * 128 + (c.val - 128) = n.val * 128 + c.val - 128; omega))

theorem keys_at (b : Fin 2) (n : Fin 64) (c : Fin 256) (h : Fin 4) (d : Fin 64) :
    keysR kv (ix6 b 0 n c h d) = placeAt kv b n c ⟨h.val * 64 + d.val, by omega⟩ := by
  rw [← place_join]
  pointwise [keysR, windowR, ownR, kvR]

theorem values_at (b : Fin 2) (n : Fin 64) (c : Fin 256) (h : Fin 4) (d : Fin 64) :
    valuesR kv (ix6 b 0 n c h d) = placeAt kv b n c ⟨256 + h.val * 64 + d.val, by omega⟩ := by
  rw [← place_join]
  pointwise [valuesR, windowR, ownR, kvR]

theorem bot_word : Ideal.ofBits FTy.f32 0xFF800000#32 = (⊥ : EReal) := by
  simp [Ideal.ofBits, Ideal.ieee]

theorem score_at (b : Fin 2) (n : Fin 64) (h : Fin 4) (r : Fin 128) (c : Fin 256) :
    scoreR q kv tab (ix6 b 0 n h r c) = scoreAt q kv tab b n h r c := by
  pointwise [scoreR]
  rw [own_at, bias_at, bot_word]
  simp only [q_at, keys_at]
  unfold scoreAt
  by_cases e : 128 ≤ n.val * 128 + c.val
  · rw [if_pos e, if_pos e]; rfl
  · rw [if_neg e, if_neg e]; rfl

theorem reduces_last : S2x1x64x4x128x256.Reduces [5] S2x1x64x4x128 := by decide

theorem lift_last (b : Fin 2) (n : Fin 64) (h : Fin 4) (r : Fin 128) (c : Fin 256) :
    reduces_last.lift (ix5 b 0 n h r) c = ix6 b 0 n h r c := by
  funext a
  refine Fin.ext ?_
  match a with
  | ⟨0, _⟩ => rfl
  | ⟨1, _⟩ => rfl
  | ⟨2, _⟩ => rfl
  | ⟨3, _⟩ => rfl
  | ⟨4, _⟩ => rfl
  | ⟨5, _⟩ => rfl

theorem hexp_at {s : Shape} (x : FVec Ideal s .f32) (i : s.Idx) : Host.exp x i = Ideal.exp (x i) := rfl

theorem sum_last (x : FVec Ideal S2x1x64x4x128x256 .f32) (b : Fin 2) (n : Fin 64) (h : Fin 4) (r : Fin 128) :
    Ideal.hostReduceAdd reducesTo_S2x1x64x4x128x256_S2x1x64x4x128_d5 x 0 (ix5 b 0 n h r)
      = ∑ c : Fin 256, x (ix6 b 0 n h r c) := by
  refine (Ideal.hostReduceAdd_single _ reduces_last x 0 _).trans ((zero_add _).trans ?_)
  exact Finset.sum_congr rfl fun c _ => congrArg x (lift_last b n h r c)

theorem lse_at (b : Fin 2) (n : Fin 64) (h : Fin 4) (r : Fin 128) :
    lseR q kv tab (ix5 b 0 n h r) = rowLse (scoreAt q kv tab b n h r) := by
  pointwise [lseR]
  rw [sum_last]
  simp only [hexp_at, score_at]
  rfl

end Cert.WinRef
-- ==== Proof.Win.RefOut.lean ====
module

public import proofs.«01_k».proof.Proof.Win.RefAt

/-! The reference's two results at an index. -/

@[expose] public section

set_option maxRecDepth 16384

noncomputable section

namespace Cert.WinRef

open Cert.RefWin0Ideal Cert.RefWin0Ideal.Gen Cert.RefWin0Ideal.Value Cert.WinClosed
open Idealize.ShloMosaic Idealize.ShloMosaic.TcCoe Idealize.SL.Sem Idealize.ShloMosaic.StableHlo

variable (q : FVec Ideal S2x8192x768 .bf16) (kv : FVec Ideal S3x2x8192x512 .f32) (tab : FVec Ideal S32x20 .f32)

theorem value_at (b : Fin 2) (p : Fin 8192) (l c : Fin 256) : valuesR kv (ix6 b 0 ⟨p.val / 128, by omega⟩ c ⟨l.val / 64, by omega⟩ ⟨l.val % 64, by omega⟩)
    = placeAt kv b ⟨p.val / 128, by omega⟩ c ⟨256 + l.val, by omega⟩ := by
  rw [values_at]
  have e : (⟨256 + l.val / 64 * 64 + l.val % 64, by omega⟩ : Fin 512) = ⟨256 + l.val, by omega⟩ :=
    Fin.ext (by show 256 + l.val / 64 * 64 + l.val % 64 = 256 + l.val; omega)
  exact congrArg (placeAt kv b _ c) e

theorem weight_at (b : Fin 2) (n : Fin 64) (h : Fin 4) (r : Fin 128) (c : Fin 256) :
    Ideal.exp (scoreR q kv tab (ix6 b 0 n h r c) - lseR q kv tab (ix5 b 0 n h r))
      = Ideal.exp (scoreAt q kv tab b n h r c - rowLse (scoreAt q kv tab b n h r)) := by
  rw [score_at, lse_at]

theorem sum_swap (f g f' g' : Fin 256 → EReal) (hf : ∀ c, f c = f' c) (hg : ∀ c, g c = g' c) :
    ∑ c, f c * g c = ∑ c, g' c * f' c :=
  Finset.sum_congr rfl fun c _ => by rw [hf, hg, mul_comm]

theorem outRef_at (b : Fin 2) (p : Fin 8192) (l : Fin 256) :
    outRef q kv tab (ix3 b p l) = ∑ c, Ideal.exp (scoreAt q kv tab b ⟨p.val / 128, by omega⟩ ⟨l.val / 64, by omega⟩ ⟨p.val % 128, by omega⟩ c
        - rowLse (scoreAt q kv tab b ⟨p.val / 128, by omega⟩ ⟨l.val / 64, by omega⟩ ⟨p.val % 128, by omega⟩))
      * placeAt kv b ⟨p.val / 128, by omega⟩ c ⟨256 + l.val, by omega⟩ := by
  pointwise [outRef]
  exact sum_swap _ _ _ _ (fun c => value_at kv b p l c) (fun c => weight_at q kv tab b _ _ _ c)

theorem lseRef_at (b : Fin 2) (p : Fin 8192) (l : Fin 256) :
    lseRef q kv tab (ix3 b p l) = rowLse (scoreAt q kv tab b ⟨p.val / 128, by omega⟩ ⟨l.val / 64, by omega⟩ ⟨p.val % 128, by omega⟩) := by
  pointwise [lseRef]
  rw [lse_at]

end Cert.WinRef
-- ==== Proof.Win.Finite.lean ====
module

public import proofs.«01_k».proof.Pre_finite_scores
public import proofs.«01_k».proof.Proof.Win.RefAt
public import Idealize.ShloMosaic.Lib.ReduceAll

/-! What the precondition says of the arguments, and of the scores: a score is never `+∞`, and one
of each row is a real number. -/

@[expose] public section

set_option maxRecDepth 16384

noncomputable section

open Idealize.ShloMosaic

namespace Cert.Pre_finite_scores

instance facts : Facts where
  bcast_S_S2x8192x768 := by decide
  reducesTo_S2x8192x768_S_d0_1_2 := by decide
  h_S_ := by decide
  slices_S3x2x8192x512_S1x2x8192x256_0_0_0_0 := by decide
  shapeCasts_S1x2x8192x256_S2x8192x256 := by decide
  bcast_S_S2x8192x256 := by decide
  reducesTo_S2x8192x256_S_d0_1_2 := by decide
  bcast_S_S32x20 := by decide
  reducesTo_S32x20_S_d0_1 := by decide

end Cert.Pre_finite_scores

namespace Cert.WinClosed

/-- Neither infinity. -/
def IsReal (x : EReal) : Prop := x ≠ ⊥ ∧ x ≠ ⊤

theorem IsReal.coe (r : ℝ) : IsReal (r : EReal) := ⟨EReal.coe_ne_bot r, EReal.coe_ne_top r⟩

theorem IsReal.exists {x : EReal} (h : IsReal x) : ∃ r : ℝ, (r : EReal) = x :=
  ⟨x.toReal, EReal.coe_toReal h.2 h.1⟩

theorem IsReal.add {x y : EReal} (hx : IsReal x) (hy : IsReal y) : IsReal (x + y) := by
  obtain ⟨a, rfl⟩ := hx.exists
  obtain ⟨b, rfl⟩ := hy.exists
  rw [← EReal.coe_add]
  exact IsReal.coe _

theorem IsReal.mul {x y : EReal} (hx : IsReal x) (hy : IsReal y) : IsReal (x * y) := by
  obtain ⟨a, rfl⟩ := hx.exists
  obtain ⟨b, rfl⟩ := hy.exists
  rw [← EReal.coe_mul]
  exact IsReal.coe _

theorem IsReal.zero : IsReal 0 := by
  rw [← EReal.coe_zero]
  exact IsReal.coe 0

theorem IsReal.sum {ι : Type} (s : Finset ι) (f : ι → EReal) (h : ∀ i ∈ s, IsReal (f i)) : IsReal (∑ i ∈ s, f i) :=
  Finset.sum_induction f IsReal (fun _ _ => IsReal.add) IsReal.zero h

/-- An absolute value under `+∞`. -/
theorem real_of_lt (x t : EReal) (ht : t = ⊤) (h : Ideal.cmp .olt (max x (-x)) t = 1#1) : IsReal x := by
  subst ht
  refine ⟨?_, ?_⟩
  · rintro rfl
    revert h
    simp [Ideal.cmp]
  · rintro rfl
    revert h
    simp [Ideal.cmp]

theorem top_f32 : Ideal.ofBits FTy.f32 0x7F800000#32 = (⊤ : EReal) := by
  simp [Ideal.ofBits, Ideal.ieee]

theorem top_bf16 : Ideal.ofBits FTy.bf16 0x7F80#16 = (⊤ : EReal) := by
  simp [Ideal.ofBits, Ideal.ieee]

theorem and_split (a b : BitVec 1) (h : IntOp.andi a b = 1#1) : a = 1#1 ∧ b = 1#1 := by
  revert a b
  decide

open Cert.Pre_finite_scores in
/-- The precondition, read: the queries, the keys and the bias table hold real numbers. -/
theorem arguments (q : FVec Ideal S2x8192x768 .bf16) (kv : FVec Ideal S3x2x8192x512 .f32) (tab : FVec Ideal S32x20 .f32)
    (h : fn (F := Ideal) q kv tab = fun _ => 1#1) :
    (∀ i, IsReal (q i)) ∧ (∀ (b : Fin 2) (p : Fin 8192) (l : Fin 512), (l : ℕ) < 256 → IsReal (kv (ix4 0 b p l)))
      ∧ ∀ i, IsReal (tab i) := by
  have e := congrFun h (fun a => a.elim0)
  obtain ⟨e, e3⟩ := and_split _ _ e
  obtain ⟨e1, e2⟩ := and_split _ _ e
  refine ⟨fun i => ?_, fun b p l hl => ?_, fun i => ?_⟩
  · exact real_of_lt _ _ top_bf16 (Host.reduce_andi_all _ _ _ _ _ e1 i)
  · have g := real_of_lt _ _ top_f32 (Host.reduce_andi_all _ _ _ _ _ e2 (ix3 b p ⟨l, hl⟩))
    have k : shapeCast S2x8192x256 (extractStridedSlice S1x2x8192x256 ![0, 0, 0, 0] kv
        Facts.slices_S3x2x8192x512_S1x2x8192x256_0_0_0_0) Facts.shapeCasts_S1x2x8192x256_S2x8192x256 (ix3 b p ⟨l, hl⟩)
        = kv (ix4 0 b p l) := by
      pointwise
    rwa [k] at g
  · exact real_of_lt _ _ top_f32 (Host.reduce_andi_all _ _ _ _ _ e3 i)

end Cert.WinClosed

end
-- ==== Proof.Win.Value.lean ====
module

public import proofs.«01_k».proof.Proof.Win.Block
public import proofs.«01_k».proof.Proof.Win.KernelBias
public import proofs.«01_k».proof.Proof.Win.RefOut
public import proofs.«01_k».proof.Proof.Win.Finite
public import Idealize.ShloMosaic.Lib.Pipeline.ValueKit

/-! The two arrays that the attention kernel leaves are the reference's. -/

@[expose] public section

set_option maxRecDepth 16384

noncomputable section

namespace Cert.WinClosed

open Cert.Win0Ideal Cert.Win0Ideal.Gen
open Idealize.ShloMosaic Idealize.ShloMosaic.TcCoe Idealize.SL.Sem
open Idealize.ShloMosaic.Pipeline (Dat)
open Cert.WinRef (placeAt scoreAt biasAt outRef lseRef)

/-! ## The scores are never `+∞`, and the query's own place has a real score -/

section Scores

variable (q : FVec Ideal S2x8192x768 .bf16) (kv : FVec Ideal S3x2x8192x512 .f32) (tab : FVec Ideal S32x20 .f32)

/-- The arguments hold real numbers: the queries, the keys, the bias table. -/
def RealArgs : Prop :=
  (∀ i, IsReal (q i)) ∧ (∀ (b : Fin 2) (p : Fin 8192) (l : Fin 512), (l : ℕ) < 256 → IsReal (kv (ix4 0 b p l)))
    ∧ ∀ i, IsReal (tab i)

variable {q kv tab}

/-- The word `-1e30` is a real number. -/
theorem floor_real : IsReal (Ideal.ofBits FTy.f32 0xF149F2CA#32) := by
  have e : ∃ r : ℝ, Ideal.ofBits FTy.f32 0xF149F2CA#32 = (r : EReal) := by
    simp only [Ideal.ofBits, Ideal.ieee]
    norm_num
    exact ⟨_, rfl⟩
  obtain ⟨r, hr⟩ := e
  rw [hr]
  exact IsReal.coe r

theorem bias_real (H : RealArgs q kv tab) (h : Fin 4) (r : Fin 128) (c : Fin 256) : IsReal (biasAt tab h r c) := by
  unfold biasAt
  split_ifs
  · exact H.2.2 _
  · exact floor_real

theorem score_real (H : RealArgs q kv tab) (b : Fin 2) (n : Fin 64) (h : Fin 4) (r : Fin 128) (c : Fin 256)
    (hc : 128 ≤ n.val * 128 + c.val) : IsReal (scoreAt q kv tab b n h r c) := by
  unfold scoreAt
  rw [if_pos hc]
  refine IsReal.add (IsReal.sum _ _ fun d _ => IsReal.mul (H.1 _) ?_) (bias_real H h r c)
  unfold placeAt
  rw [dif_pos hc]
  refine H.2.1 _ _ _ ?_
  show h.val * 64 + d.val < 256
  omega

theorem score_top (H : RealArgs q kv tab) (b : Fin 2) (n : Fin 64) (h : Fin 4) (r : Fin 128) (c : Fin 256) :
    scoreAt q kv tab b n h r c ≠ ⊤ := by
  by_cases hc : 128 ≤ n.val * 128 + c.val
  · exact (score_real H b n h r c hc).2
  · unfold scoreAt
    rw [if_neg hc]
    exact bot_ne_top

theorem score_some (H : RealArgs q kv tab) (b : Fin 2) (n : Fin 64) (h : Fin 4) (r : Fin 128) :
    ∃ c, scoreAt q kv tab b n h r c ≠ ⊥ :=
  ⟨⟨128, by omega⟩, (score_real H b n h r _ (by show 128 ≤ n.val * 128 + 128; omega)).1⟩

end Scores

/-! ## The blocks -/

variable (m : (ℓ : Loc nD τ sig) → Buf (Elt Ideal) ℓ)

/-- Which block every window holds at a grid point. -/
theorem idx : ∀ t : Fin cfg0.N, win0_0.index t = ![t.val / 64, t.val % 64, 0]
    ∧ win0_1.index t = ![0, t.val / 64, t.val % 64 - 1, 0]
    ∧ win0_2.index t = ![0, t.val / 64, t.val % 64, 0] ∧ win0_3.index t = ![0, 0, 0]
    ∧ win0_4.index t = ![t.val / 64, t.val % 64, 0] ∧ win0_5.index t = ![t.val / 64, t.val % 64, 0]
    ∧ (grid0.coords t 2).val = t.val % 64 :=
  (by decide +kernel : ∀ t : Fin grid0.N, _)

theorem lt_N (t : Fin cfg0.N) : t.val < 128 := t.isLt

/-- The sequence of a grid point. -/
def seqOf (t : Fin cfg0.N) : Fin 2 := ⟨t.val / 64, by have := lt_N t; omega⟩

/-- The block of its sequence. -/
def blockOf (t : Fin cfg0.N) : Fin 64 := ⟨t.val % 64, by omega⟩

theorem q_block (c : Dev nD) (t : Fin cfg0.N) (r : Fin 128) (l : Fin 256) :
    iblk m c 0 t (ix3 0 r l) = (m ((c : Thread nD τ).loc main_arg0) : FVec Ideal S2x8192x768 .bf16)
      (ix3 (seqOf t) ⟨(blockOf t).val * 128 + r.val, by omega⟩ ⟨l, by omega⟩) := by
  unfold seqOf blockOf
  blk_point [iblk, V_main_arg0, idx t]

theorem prev_block (c : Dev nD) (t : Fin cfg0.N) (k : Fin 128) (l : Fin 512) :
    iblk m c 1 t (ix4 0 0 k l) = (m ((c : Thread nD τ).loc main_arg1) : FVec Ideal S3x2x8192x512 .f32)
      (ix4 0 (seqOf t) ⟨((blockOf t).val - 1) * 128 + k.val, by omega⟩ l) := by
  unfold seqOf blockOf
  blk_point [iblk, V_main_arg1, idx t]

theorem own_block (c : Dev nD) (t : Fin cfg0.N) (k : Fin 128) (l : Fin 512) :
    iblk m c 2 t (ix4 0 0 k l) = (m ((c : Thread nD τ).loc main_arg1) : FVec Ideal S3x2x8192x512 .f32)
      (ix4 0 (seqOf t) ⟨(blockOf t).val * 128 + k.val, by omega⟩ l) := by
  unfold seqOf blockOf
  blk_point [iblk, V_main_arg1, idx t]

theorem bias_block (c : Dev nD) (t : Fin cfg0.N) (h : Fin 4) (r : Fin 128) (k : Fin 256) :
    iblk m c 3 t (ix3 h r k) = biasAt (m ((c : Thread nD τ).loc main_arg2)) h r k := by
  rw [← biasK_at, ← V_bias]
  blk_point [iblk, idx t]

theorem at_place (kv : FVec Ideal S3x2x8192x512 .f32) (b : Fin 2) (x y : Fin 8192) (l : Fin 512) (h : x.val = y.val) :
    kv (ix4 0 b x l) = kv (ix4 0 b y l) := by
  rw [Fin.ext h]

theorem div_block (n : Fin 64) (r : Fin 128) (h : (n.val * 128 + r.val) / 128 < 64) :
    (⟨(n.val * 128 + r.val) / 128, h⟩ : Fin 64) = n :=
  Fin.ext (by show (n.val * 128 + r.val) / 128 = n.val; omega)

theorem mod_block (n : Fin 64) (r : Fin 128) (h : (n.val * 128 + r.val) % 128 < 128) :
    (⟨(n.val * 128 + r.val) % 128, h⟩ : Fin 128) = r :=
  Fin.ext (by show (n.val * 128 + r.val) % 128 = r.val; omega)

/-- Weights that vanish before the start hide what the places before the start hold. -/
theorem weights_eq (s v w : Fin 256 → EReal) (n : Fin 64) (hs : ∀ k, ¬ 128 ≤ n.val * 128 + k.val → s k = ⊥)
    (hv : ∀ k, 128 ≤ n.val * 128 + k.val → v k = w k) :
    ∑ k, Ideal.exp (s k - rowLse s) * v k = ∑ k, Ideal.exp (s k - rowLse s) * w k := by
  refine Finset.sum_congr rfl fun k _ => ?_
  by_cases hk : 128 ≤ n.val * 128 + k.val
  · rw [hv k hk]
  · rw [hs k hk, EReal.bot_sub, iexp_bot, zero_mul, zero_mul]

/-- Unless it lies before the start, a place of the window is the reference's. -/
theorem place_eq (c : Dev nD) (t : Fin cfg0.N) (k : Fin 256) (l : Fin 512)
    (hk : 128 ≤ (blockOf t).val * 128 + k.val) :
    atPlace (iblk m c 1 t) (iblk m c 2 t) k l
      = placeAt (m ((c : Thread nD τ).loc main_arg1)) (seqOf t) (blockOf t) k l := by
  unfold atPlace placeAt
  rw [dif_pos hk]
  by_cases h : (k : ℕ) < 128
  · rw [dif_pos h, prev_block]
    refine at_place _ _ _ _ _ ?_
    show ((blockOf t).val - 1) * 128 + k.val = (blockOf t).val * 128 + k.val - 128
    omega
  · rw [dif_neg h, own_block]
    refine at_place _ _ _ _ _ ?_
    show (blockOf t).val * 128 + (k.val - 128) = (blockOf t).val * 128 + k.val - 128
    omega

/-- The block's scores are the reference's. -/
theorem scores_eq (c : Dev nD) (t : Fin cfg0.N) (h : Fin 4) (r : Fin 128) :
    blockScore (grid0.coords t) (iblk m c 0 t) (iblk m c 1 t) (iblk m c 2 t) (iblk m c 3 t) h r
      = scoreAt (m ((c : Thread nD τ).loc main_arg0)) (m ((c : Thread nD τ).loc main_arg1))
          (m ((c : Thread nD τ).loc main_arg2)) (seqOf t) (blockOf t) h r := by
  funext k
  unfold blockScore scoreAt
  have hi : (grid0.coords t 2).val = (blockOf t).val := (idx t).2.2.2.2.2.2
  by_cases hk : 128 ≤ (blockOf t).val * 128 + k.val
  · rw [if_pos hk, if_neg (by omega), bias_block]
    refine congrArg (· + _) (Finset.sum_congr rfl fun d _ => ?_)
    rw [place_eq m c t k _ hk, q_block]
  · rw [if_neg hk, if_pos (by omega)]

/-- What a grid point leaves of the output is the reference's. -/
theorem out_eq (c : Dev nD) (t : Fin cfg0.N) (r : Fin 128) (l : Fin 256)
    (H : RealArgs (m ((c : Thread nD τ).loc main_arg0)) (m ((c : Thread nD τ).loc main_arg1))
      (m ((c : Thread nD τ).loc main_arg2))) :
    out0_4 (grid0.coords t) (iblk m c 0 t) (iblk m c 1 t) (iblk m c 2 t) (iblk m c 3 t) (ix3 0 r l)
      = outRef (m ((c : Thread nD τ).loc main_arg0)) (m ((c : Thread nD τ).loc main_arg1))
          (m ((c : Thread nD τ).loc main_arg2)) (ix3 (seqOf t) ⟨(blockOf t).val * 128 + r.val, by omega⟩ l) := by
  rw [out_at, WinRef.outRef_at]
  unfold blockOut
  rw [scores_eq, weighed (score_top H _ _ _ _) (score_some H _ _ _ _)]
  simp only [div_block, mod_block]
  refine weights_eq _ _ _ (blockOf t) (fun k hk => ?_) fun k hk => ?_
  · unfold scoreAt
    rw [if_neg hk]
  · rw [place_eq m c t k _ hk]
    refine congrArg _ (Fin.ext ?_)
    show 256 + (l.val / 64 * 64 + l.val % 64) = 256 + l.val
    omega

/-- What a grid point leaves of the logarithms is the reference's. -/
theorem lse_eq (c : Dev nD) (t : Fin cfg0.N) (r : Fin 128) (l : Fin 256)
    (H : RealArgs (m ((c : Thread nD τ).loc main_arg0)) (m ((c : Thread nD τ).loc main_arg1))
      (m ((c : Thread nD τ).loc main_arg2))) :
    out0_5 (grid0.coords t) (iblk m c 0 t) (iblk m c 1 t) (iblk m c 2 t) (iblk m c 3 t) (ix3 0 r l)
      = lseRef (m ((c : Thread nD τ).loc main_arg0)) (m ((c : Thread nD τ).loc main_arg1))
          (m ((c : Thread nD τ).loc main_arg2)) (ix3 (seqOf t) ⟨(blockOf t).val * 128 + r.val, by omega⟩ l) := by
  rw [lse_at, WinRef.lseRef_at]
  unfold blockLse
  rw [scores_eq, max_add_log (score_top H _ _ _ _) (score_some H _ _ _ _)]
  simp only [div_block, mod_block]

/-- Where row `r` and column `l` of a point's block of the output sit. -/
theorem emb4 (G : FVec Ideal S2x8192x256 .f32) (t : Fin cfg0.N) (r : Fin 128) (l : Fin 256) :
    G ((win0_4.blk t).view.emb (ix3 0 r l)) = G (ix3 (seqOf t) ⟨(blockOf t).val * 128 + r.val, by omega⟩ l) := by
  unfold seqOf blockOf
  blk_point [idx t]

/-- The same for the logarithms. -/
theorem emb5 (G : FVec Ideal S2x8192x256 .f32) (t : Fin cfg0.N) (r : Fin 128) (l : Fin 256) :
    G ((win0_5.blk t).view.emb (ix3 0 r l)) = G (ix3 (seqOf t) ⟨(blockOf t).val * 128 + r.val, by omega⟩ l) := by
  unfold seqOf blockOf
  blk_point [idx t]

/-- An index of a block is its row and its column. -/
theorem block_idx (y : S1x128x256.Idx) : ∃ (r : Fin 128) (l : Fin 256), y = ix3 0 r l := by
  idx_vars y
  exact ⟨_, _, congrArg (fun a => ix3 a _ _) (Subsingleton.elim _ _)⟩

/-- The output array after the run. -/
theorem final4 (c : Dev nD)
    (H : RealArgs (m ((c : Thread nD τ).loc main_arg0)) (m ((c : Thread nD τ).loc main_arg1))
      (m ((c : Thread nD τ).loc main_arg2))) :
    (dats m 0 c).arrAt 4 (cfgs 0).N = outRef (m ((c : Thread nD τ).loc main_arg0))
        (m ((c : Thread nD τ).loc main_arg1)) (m ((c : Thread nD τ).loc main_arg2)) := by
  refine (dats m 0 c).arrAt_eq_of_covers 4 _ (by decide +kernel) fun t _ y => ?_
  blk_simp
  rw [after0_4]
  obtain ⟨r, l, e⟩ := block_idx y
  rw [show y = ix3 0 r l from e]
  exact (out_eq m c t r l H).trans (emb4 _ t r l).symm

/-- The array of logarithms after the run. -/
theorem final5 (c : Dev nD)
    (H : RealArgs (m ((c : Thread nD τ).loc main_arg0)) (m ((c : Thread nD τ).loc main_arg1))
      (m ((c : Thread nD τ).loc main_arg2))) :
    (dats m 0 c).arrAt 5 (cfgs 0).N = lseRef (m ((c : Thread nD τ).loc main_arg0))
        (m ((c : Thread nD τ).loc main_arg1)) (m ((c : Thread nD τ).loc main_arg2)) := by
  refine (dats m 0 c).arrAt_eq_of_covers 5 _ (by decide +kernel) fun t _ y => ?_
  blk_simp
  rw [after0_5]
  obtain ⟨r, l, e⟩ := block_idx y
  rw [show y = ix3 0 r l from e]
  exact (lse_eq m c t r l H).trans (emb5 _ t r l).symm

end Cert.WinClosed

end
-- ==== Proof.FfnStepValue.lean ====
/- The output projection and the gated feed-forward, after mixers of 512 and 512 columns, at the sample's 128 rows: the array the kernel leaves is the reference's. -/
module

public import proofs.«01_k».proof.Proof.Gen.FfnStepIdeal.Value
public import proofs.«01_k».proof.Proof.Gen.RefFfnStepIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnStepClosed

section
open Cert.RefFfnStepIdeal Cert.RefFfnStepIdeal.Gen

/-- The residual stream after the mixer's output projection. -/
def X1 (X : FVec Ideal S128x1024 .f32) (M1 : FVec Ideal S128x512 .bf16) (M2 : FVec Ideal S128x512 .bf16)
    (Wo : FVec Ideal S1024x1024 .f32) : FVec Ideal S128x1024 .f32 :=
  addf X (Host.dotGeneral dot_S128x1024_S1024x1024_S128x1024_1_0_0_1_n_n none
    (concatenate S128x1024 1 [⟨S128x512, (extf .f32 M1 bitsLt_bf16_f32)⟩, ⟨S128x512, (extf .f32 M2 bitsLt_bf16_f32)⟩]
      concatenates_S128x512_S128x512_S128x1024_d1) Wo)

/-- Each row over its root mean square, times the gain. -/
def NORM (x : FVec Ideal S128x1024 .f32) (g : FVec Ideal S1024 .f32) : FVec Ideal S128x1024 .f32 :=
  mulf (mulf x (broadcastInDim S128x1024 ![0, 1] bcast_S128x1_S128x1024_0_1
      (Host.rsqrt (addf (Host.divf (broadcastInDim S128x1 ![0] bcast_S128_S128x1_0
        (Host.reduceAdd (mulf x x) (constant S_ .f32 0x00000000#32) reducesTo_S128x1024_S128_d1 h_S_))
          (broadcastInDim S128x1 ![] bcast_S_S128x1 (constant S_ .f32 0x44800000#32)))
        (broadcastInDim S128x1 ![] bcast_S_S128x1 (constant S_ .f32 0x358637BD#32))))))
      (broadcastInDim S128x1024 ![0, 1] bcast_S1x1024_S128x1024_0_1
        (broadcastInDim S1x1024 ![1] bcast_S1024_S1x1024_1 g))

/-- The gated hidden layer. -/
def HIDDEN (h : FVec Ideal S128x1024 .f32) (Wg Wu : FVec Ideal S1024x2816 .f32) : FVec Ideal S128x2816 .f32 :=
  mulf (mulf (Host.dotGeneral dot_S128x1024_S1024x2816_S128x2816_1_0_0_1_n_n none h Wg)
    (Host.divf (broadcastInDim S128x2816 ![] bcast_S_S128x2816 (constant S_ .f32 0x3F800000#32))
      (addf (broadcastInDim S128x2816 ![] bcast_S_S128x2816 (constant S_ .f32 0x3F800000#32))
        (Host.exp (Host.negf (Host.dotGeneral dot_S128x1024_S1024x2816_S128x2816_1_0_0_1_n_n none h Wg))))))
    (Host.dotGeneral dot_S128x1024_S1024x2816_S128x2816_1_0_0_1_n_n none h Wu)

/-- The reference's result as one term. -/
abbrev REF (X : FVec Ideal S128x1024 .f32) (M1 : FVec Ideal S128x512 .bf16) (M2 : FVec Ideal S128x512 .bf16)
    (Wo : FVec Ideal S1024x1024 .f32) (g : FVec Ideal S1024 .f32) (Wg Wu : FVec Ideal S1024x2816 .f32)
    (Wd : FVec Ideal S2816x1024 .f32) : FVec Ideal S128x1024 .f32 :=
  addf (X1 X M1 M2 Wo) (Host.dotGeneral dot_S128x2816_S2816x1024_S128x1024_1_0_0_1_n_n none
    (HIDDEN (NORM (X1 X M1 M2 Wo) g) Wg Wu) Wd)

/-- The reference's run leaves that term. -/
theorem res_eq (m : (ℓ : Loc nD τ sig) → Buf (Elt Ideal) ℓ) (c : Dev nD) :
    Cert.RefFfnStepIdeal.Value.res_main_v23 (F := Ideal) m c = REF (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) := rfl
end

open Cert.FfnStepIdeal Cert.FfnStepIdeal.Gen

variable (m : (ℓ : Loc nD τ sig) → Buf (Elt Ideal) ℓ)

/-- Which block every window holds at a grid point. -/
theorem idx : ∀ t : Fin cfg0.N, win0_0.index t = ![t.val / 11, 0] ∧ win0_1.index t = ![t.val / 11, 0]
    ∧ win0_2.index t = ![t.val / 11, 0] ∧ win0_3.index t = ![0, 0] ∧ win0_4.index t = ![0, 0]
    ∧ win0_5.index t = ![0, 0] ∧ win0_6.index t = ![0, t.val % 11] ∧ win0_7.index t = ![0, t.val % 11]
    ∧ win0_8.index t = ![t.val % 11, 0] ∧ win0_9.index t = ![t.val / 11, 0] :=
  (by decide +kernel : ∀ t : Fin grid0.N, _)

/-- The reference's residual stream over the launch contents. -/
abbrev x1 (c : Dev nD) := X1 (m ((c : Thread nD τ).loc main_arg0)) (m ((c : Thread nD τ).loc main_arg1))
  (m ((c : Thread nD τ).loc main_arg2)) (m ((c : Thread nD τ).loc main_arg3))

/-- The reference's normalised rows over the launch contents. -/
abbrev hn (c : Dev nD) := NORM (x1 m c) (m ((c : Thread nD τ).loc main_arg4))

/-- The first step's residual block is the reference's residual stream. -/
theorem pay4_at (c : Dev nD) (t : Fin cfg0.N) (y : S128x1024.Idx) :
    k0_pay4 (iblk m c 0 t) (iblk m c 1 t) (iblk m c 3 t) (iblk m c 2 t) (iblk m c 4 t) y
      = x1 m c (((cfg0.win 9).blk t).view.emb y) := by
  pointwise [k0_pay4, X1]
  rw [add_assoc]
  blk_point [iblk, V, idx t]

theorem pay5_at (c : Dev nD) (t : Fin cfg0.N) (y : S128x1024.Idx) :
    k0_pay5 (iblk m c 0 t) (iblk m c 1 t) (iblk m c 3 t) (iblk m c 2 t) (iblk m c 4 t) y
      = x1 m c (((cfg0.win 9).blk t).view.emb y) := by
  rw [← pay4_at]
  pointwise [k0_pay5]

/-- The first step's normalised block is the reference's. -/
theorem pay6_at (c : Dev nD) (t : Fin cfg0.N) (y : S128x1024.Idx) :
    k0_pay6 (iblk m c 0 t) (iblk m c 1 t) (iblk m c 3 t) (iblk m c 2 t) (iblk m c 4 t) (iblk m c 5 t) y
      = hn m c (((cfg0.win 9).blk t).view.emb y) := by
  pointwise [k0_pay6, NORM]
  simp only [pay4_at]
  blk_point [iblk, V, idx t]

/-- One step's share of the down projection: its 256 hidden lanes, from the normalised rows `h`. -/
def part (h : FVec Ideal S128x1024 .bf16) (wg wu : FVec Ideal S1024x256 .bf16) (wd : FVec Ideal S256x1024 .bf16)
    (y : S128x1024.Idx) : EReal :=
  ∑ k : Fin 256, ((∑ l : Fin 1024, h (ix2 (y 0) l) * wg (ix2 l k))
    * Ideal.logistic (∑ l : Fin 1024, h (ix2 (y 0) l) * wg (ix2 l k))
    * ∑ l : Fin 1024, h (ix2 (y 0) l) * wu (ix2 l k)) * wd (ix2 k (y 1))

/-- What a step leaves in the accumulator: what it held, plus the step's share. -/
theorem pay2_at (h : FVec Ideal S128x1024 .bf16) (wg wu : FVec Ideal S1024x256 .bf16) (a : FVec Ideal S128x1024 .f32)
    (wd : FVec Ideal S256x1024 .bf16) (y : S128x1024.Idx) :
    k0_pay2 h wg wu a wd y = a y + part h wg wu wd y := by
  pointwise [k0_pay2, part]

/-- The hidden layer at an index, with the logistic function named. -/
theorem hidden_at (h : FVec Ideal Cert.RefFfnStepIdeal.S128x1024 .f32)
    (Wg Wu : FVec Ideal Cert.RefFfnStepIdeal.S1024x2816 .f32) (r : Fin 128) (k : Fin 2816) :
    HIDDEN h Wg Wu (ix2 r k) = (∑ l : Fin 1024, h (ix2 r l) * Wg (ix2 l k))
      * Ideal.logistic (∑ l : Fin 1024, h (ix2 r l) * Wg (ix2 l k))
      * ∑ l : Fin 1024, h (ix2 r l) * Wu (ix2 l k) := by
  pointwise [HIDDEN]
  rfl

/-- Rows of the same block sit at the same place in the array. -/
theorem emb_pred (t : Fin cfg0.N) (h : ¬ t.val % 11 = 0) (y : S128x1024.Idx) (hp : t.val - 1 < cfg0.N) :
    ((cfg0.win 9).blk ⟨t.val - 1, hp⟩).view.emb y = ((cfg0.win 9).blk t).view.emb y := by
  blk_ext [idx t, idx ⟨t.val - 1, hp⟩]

/-- All through a block's eleven steps the two carried buffers hold the reference's residual stream and its
    normalised rows. -/
theorem carried (c : Dev nD) : ∀ (n : ℕ) (h : n < cfg0.N) (y : S128x1024.Idx),
    (outsAt0 m c n h).2.1 y = x1 m c (((cfg0.win 9).blk ⟨n, h⟩).view.emb y)
      ∧ (outsAt0 m c n h).2.2.1 y = hn m c (((cfg0.win 9).blk ⟨n, h⟩).view.emb y) := by
  intro n
  induction n with
  | zero =>
    intro h y
    rw [outsAt0_A m c ⟨0, h⟩ (Nat.zero_mod 11) (by show ¬ 0 % 11 = 10; omega)]; frame_out
    exact ⟨pay5_at m c ⟨0, h⟩ y, pay6_at m c ⟨0, h⟩ y⟩
  | succ n ih =>
    intro h y
    by_cases h0 : (n + 1) % 11 = 0
    · rw [outsAt0_A m c ⟨n + 1, h⟩ h0 (by show ¬ (n + 1) % 11 = 10; omega)]; frame_out
      exact ⟨pay5_at m c ⟨n + 1, h⟩ y, pay6_at m c ⟨n + 1, h⟩ y⟩
    · have e := emb_pred ⟨n + 1, h⟩ h0 y (by omega)
      have i := ih (by omega) y
      by_cases h1 : (n + 1) % 11 = 10
      · rw [outsAt0_C m c ⟨n + 1, h⟩ h0 h1, ← e]
        exact i
      · rw [outsAt0_B m c ⟨n + 1, h⟩ h0 h1, ← e]
        exact i

/-- The accumulator after a step that is not a block's first. -/
theorem acc_step (c : Dev nD) (t : Fin cfg0.N) (h0 : ¬t.val % 11 = 0) (y : S128x1024.Idx) :
    (outsAt0 m c t.val t.isLt).2.2.2 y
      = (outsAt0 m c (t.val - 1) (Nat.lt_of_le_of_lt (Nat.sub_le _ _) t.isLt)).2.2.2 y
        + part (fun z => hn m c (((cfg0.win 9).blk t).view.emb z)) (iblk m c 6 t) (iblk m c 7 t) (iblk m c 8 t) y := by
  have e : (outsAt0 m c (t.val - 1) (Nat.lt_of_le_of_lt (Nat.sub_le _ _) t.isLt)).2.2.1
      = fun z => hn m c (((cfg0.win 9).blk t).view.emb z) := by
    funext z
    rw [(carried m c _ _ z).2, emb_pred t h0 z]
  refine Eq.trans ?_ (congrArg (fun h => _ + part h _ _ _ y) e)
  refine Eq.trans ?_ (pay2_at _ _ _ _ _ y)
  by_cases h1 : t.val % 11 = 10
  · rw [outsAt0_C m c t h0 h1]; frame_out; simp only [read_unread_whole]
  · rw [outsAt0_B m c t h0 h1]; frame_out; simp only [read_unread_whole]

/-- The accumulator after a block's first step. -/
theorem acc_first (c : Dev nD) (t : Fin cfg0.N) (h0 : t.val % 11 = 0) (y : S128x1024.Idx) :
    (outsAt0 m c t.val t.isLt).2.2.2 y
      = 0 + part (fun z => hn m c (((cfg0.win 9).blk t).view.emb z)) (iblk m c 6 t) (iblk m c 7 t) (iblk m c 8 t) y := by
  have e : k0_pay6 (iblk m c 0 t) (iblk m c 1 t) (iblk m c 3 t) (iblk m c 2 t) (iblk m c 4 t) (iblk m c 5 t)
      = fun z => hn m c (((cfg0.win 9).blk t).view.emb z) := funext (pay6_at m c t)
  refine Eq.trans ?_ (congrArg (fun h => 0 + part h _ _ _ y) e)
  rw [outsAt0_A m c t h0 (by omega)]; frame_out
  refine (pay2_at _ _ _ _ _ y).trans ?_
  refine congrArg (· + _) ?_
  pointwise [k0_pay1, k0_pay7]

/-- What a block's last step writes back: the residual plus the accumulator. -/
theorem out_last (c : Dev nD) (t : Fin cfg0.N) (h1 : t.val % 11 = 10) (y : S128x1024.Idx) :
    (outsAt0 m c t.val t.isLt).1 y
      = x1 m c (((cfg0.win 9).blk t).view.emb y) + (outsAt0 m c t.val t.isLt).2.2.2 y := by
  have h0 : ¬ t.val % 11 = 0 := by omega
  rw [← (carried m c t.val t.isLt y).1, outsAt0_C m c t h0 h1]; frame_out
  simp only [read_unread_whole]
  pointwise [k0_pay3]
  rfl

/-- The result array after the run. -/
theorem final (c : Dev nD) : (dats m 0 c).arrAt 9 (cfgs 0).N
    = REF (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_covers 9 _ (by decide +kernel) fun t hf y => ?_
  have h1 : t.val % 11 = 10 := (flush0_9 t).mp hf
  blk_simp
  rw [after0_9, out_last m c t h1 y, Pipeline.eq_sum_fin_of_reset_step_apply_of_flush
    (fun n h => (outsAt0 m c n h).2.2.2) 11 (fun _ => 0)
    (fun t y => part (fun z => hn m c (((cfg0.win 9).blk t).view.emb z)) (iblk m c 6 t) (iblk m c 7 t) (iblk m c 8 t) y)
    (fun t h j => acc_first m c t h j) (fun t h j => acc_step m c t h j) t h1 _, zero_add]
  pointwise [REF, part]
  refine Ideal.add_congr rfl (Fin.sum_mul_add_congr fun s k hl => ?_)
  refine Eq.trans ?_ (Ideal.mul_congr (hidden_at _ _ _ _ _).symm rfl)
  blk_point [iblk, V, idx t, idx ⟨_, Pipeline.run_point_lt_of_flush t h1 s⟩]

end Cert.FfnStepClosed

end
-- ==== Proof.ProjStepValue.lean ====
/- The input projection with 3456 columns, at the sample's 128 rows: the array the kernel leaves is the reference's normalised rows times the weight. -/
module

public import proofs.«01_k».proof.Proof.Gen.ProjStepIdeal.Value
public import proofs.«01_k».proof.Proof.Gen.RefProjStepIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjStepIdeal.Closed

open Cert.ProjStepIdeal Cert.ProjStepIdeal.Gen

variable (m : (ℓ : Loc nD τ sig) → Buf (Elt Ideal) ℓ)

open Cert.RefProjStepIdeal.Gen in
/-- The reference's result as one term: each row of `X` over its root mean square, times the gain, times the weight. -/
abbrev REF (X : FVec Ideal Cert.RefProjStepIdeal.S128x1024 .f32) (g : FVec Ideal Cert.RefProjStepIdeal.S1024 .f32)
    (W : FVec Ideal Cert.RefProjStepIdeal.S1024x3456 .f32) : FVec Ideal Cert.RefProjStepIdeal.S128x3456 .f32 :=
  Host.dotGeneral Cert.RefProjStepIdeal.dot_S128x1024_S1024x3456_S128x3456_1_0_0_1_n_n none
    (mulf (mulf X (broadcastInDim Cert.RefProjStepIdeal.S128x1024 ![0, 1] bcast_S128x1_S128x1024_0_1
      (Host.rsqrt (addf (Host.divf (broadcastInDim Cert.RefProjStepIdeal.S128x1 ![0] bcast_S128_S128x1_0
        (Host.reduceAdd (mulf X X) (constant Cert.RefProjStepIdeal.S_ .f32 0x00000000#32) reducesTo_S128x1024_S128_d1 h_S_))
          (broadcastInDim Cert.RefProjStepIdeal.S128x1 ![] bcast_S_S128x1 (constant Cert.RefProjStepIdeal.S_ .f32 0x44800000#32)))
        (broadcastInDim Cert.RefProjStepIdeal.S128x1 ![] bcast_S_S128x1 (constant Cert.RefProjStepIdeal.S_ .f32 0x358637BD#32))))))
      (broadcastInDim Cert.RefProjStepIdeal.S128x1024 ![0, 1] bcast_S1x1024_S128x1024_0_1
        (broadcastInDim Cert.RefProjStepIdeal.S1x1024 ![1] bcast_S1024_S1x1024_1 g))) W

/-- Which block every window holds at a grid point. -/
theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- What a grid point stores at an index of its block is the reference's term at the index it sits at. -/
theorem point (c : Dev nD) (t : Fin cfg0.N) (y : S128x3456.Idx) :
    k0_pay1 (iblk m c 0 t) (iblk m c 1 t) (iblk m c 2 t) y
    = REF (m ((c : Thread nD τ).loc main_arg0)) (m ((c : Thread nD τ).loc main_arg1))
        (m ((c : Thread nD τ).loc main_arg2)) (((cfg0.win 3).blk t).view.emb y) := by
  pointwise [k0_pay1, REF]
  blk_point [iblk, V, idx t]

/-- The result array after the run. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

end Cert.ProjStepIdeal.Closed

end
-- ==== Proof.Ab.Tables.lean ====
module

public import proofs.«01_k».proof.AbQkvIdeal
public import proofs.«01_k».proof.Proof.Win.Tables

/-! The constant matrix the head norm's host code holds, read as a function of the place: one where
row and column lie in the same head, zero elsewhere. -/

@[expose] public section

set_option maxRecDepth 16384

namespace Cert.AbClosed

open Cert.AbQkvIdeal Cert.WinClosed Idealize.ShloMosaic

/-- Place `e` of the matrix, row-major: the word of one when row and column lie in the same head. -/
def segAt (e : Nat) : BitVec 16 := if e / 256 / 64 = e % 256 / 64 then 0x3F80#16 else 0x0000#16

theorem seg_0 (i : Nat) : lit0t1_0 i = segAt (i / 128 % 128 * 128 + i % 128) := by
  refine pick_eq (fun m => segAt (m * 128 + i % 128)) ?_ (Nat.mod_lt _ (by decide))
  repeat' refine And.intro ?_ ?_
  all_goals first
    | exact trivial
    | exact pick_row segAt (by decide +kernel)

theorem seg_1 (i : Nat) : lit0t1_1 i = segAt ((128 + i / 128 % 128) * 128 + i % 128) := by
  refine pick_eq (fun m => segAt ((128 + m) * 128 + i % 128)) ?_ (Nat.mod_lt _ (by decide))
  repeat' refine And.intro ?_ ?_
  all_goals first
    | exact trivial
    | exact pick_row segAt (by decide +kernel)

theorem seg_2 (i : Nat) : lit0t1_2 i = segAt ((256 + i / 128 % 128) * 128 + i % 128) := by
  refine pick_eq (fun m => segAt ((256 + m) * 128 + i % 128)) ?_ (Nat.mod_lt _ (by decide))
  repeat' refine And.intro ?_ ?_
  all_goals first
    | exact trivial
    | exact pick_row segAt (by decide +kernel)

theorem seg_3 (i : Nat) : lit0t1_3 i = segAt ((384 + i / 128 % 128) * 128 + i % 128) := by
  refine pick_eq (fun m => segAt ((384 + m) * 128 + i % 128)) ?_ (Nat.mod_lt _ (by decide))
  repeat' refine And.intro ?_ ?_
  all_goals first
    | exact trivial
    | exact pick_row segAt (by decide +kernel)

/-- The matrix at its place `i`. -/
theorem seg_table (i : Nat) (h : i < 65536) : lit0t i = segAt i := by
  have h4 : i / 16384 = 0 ∨ i / 16384 = 1 ∨ i / 16384 = 2 ∨ i / 16384 = 3 := by omega
  rcases h4 with e | e | e | e
  · rw [lit0t, e]; exact (seg_0 i).trans (congrArg segAt (by omega))
  · rw [lit0t, e]; exact (seg_1 i).trans (congrArg segAt (by omega))
  · rw [lit0t, e]; exact (seg_2 i).trans (congrArg segAt (by omega))
  · rw [lit0t, e]; exact (seg_3 i).trans (congrArg segAt (by omega))

end Cert.AbClosed
-- ==== Proof.Ab.Block.lean ====
module

public import proofs.«01_k».proof.Proof.Gen.AbQkvIdeal.Value
public import proofs.«01_k».proof.Proof.Win.Finite
public import Idealize.ShloMosaic.Lib.Pipeline.ReadBack
public import Idealize.ShloMosaic.Lib.Claim

/-! What one grid point of the head norm computes: each entry over the root mean square of its head. -/

@[expose] public section

set_option maxRecDepth 16384

noncomputable section

namespace Cert.AbClosed

open Cert.AbQkvIdeal Cert.AbQkvIdeal.Gen Cert.WinClosed
open Idealize.ShloMosaic Idealize.ShloMosaic.TcCoe Idealize.SL.Sem Idealize.ShloMosaic.StableHlo

/-- A sum kept to the places of `l`'s head. -/
theorem seg_sum (f : Fin 256 → EReal) (l : Fin 256) :
    ∑ k : Fin 256, (if k.val / 64 = l.val / 64 then f k else 0)
      = ∑ e : Fin 64, f ⟨l.val / 64 * 64 + e.val, by omega⟩ := by
  rw [← Finset.sum_filter]
  symm
  refine Finset.sum_bij (fun e _ => ⟨l.val / 64 * 64 + e.val, by omega⟩) ?_ ?_ ?_ ?_
  · intro e _
    simp only [Finset.mem_filter, Finset.mem_univ, true_and]
    omega
  · intro a _ b _ h
    have := congrArg Fin.val h
    exact Fin.ext (by simpa using this)
  · intro b hb
    simp only [Finset.mem_filter, Finset.mem_univ, true_and] at hb
    exact ⟨⟨b.val % 64, by omega⟩, Finset.mem_univ _, Fin.ext (by show l.val / 64 * 64 + b.val % 64 = b.val; omega)⟩
  · intro _ _
    rfl

/-- The matrix of ones and zeros. -/
def IsSeg (s : FVec Ideal S256x256 .bf16) : Prop :=
  ∀ k l : Fin 256, s (ix2 k l) = if k.val / 64 = l.val / 64 then (1 : EReal) else 0

theorem one_word : Ideal.ofBits FTy.bf16 0x3F80#16 = (1 : EReal) := by
  simp [Ideal.ofBits, Ideal.ieee]
  rw [← EReal.coe_mul]
  norm_num

/-- A mean over 64 entries: the sum times the word of one sixty-fourth is the sum over the word of 64. -/
theorem mean_word (x : EReal) :
    Ideal.div x (Ideal.ofBits .f32 0x42800000#32) = x * Ideal.ofBits .f32 0x3C800000#32 := by
  have a : Ideal.ofBits .f32 0x42800000#32 = ((64 : ℝ) : EReal) := by
    simp [Ideal.ofBits, Ideal.ieee]
    rw [← EReal.coe_mul]
    norm_num
  have b : Ideal.ofBits .f32 0x3C800000#32 = ((64⁻¹ : ℝ) : EReal) := by
    simp [Ideal.ofBits, Ideal.ieee]
    rw [← EReal.coe_mul]
    norm_num
  rw [a, b, Ideal.div, if_neg (by norm_num), EReal.coe_inv]

theorem zero_word : Ideal.ofBits FTy.bf16 0x0000#16 = (0 : EReal) := by
  simp [Ideal.ofBits, Ideal.ieee]

theorem real_sub (x : EReal) (h : IsReal x) : x - x = 0 := by
  obtain ⟨r, rfl⟩ := h.exists
  rw [← EReal.coe_sub, sub_self, EReal.coe_zero]

/-- The mean square of a head, from the two halves of each square. -/
theorem mean_at (x : Fin 256 → EReal) (s : FVec Ideal S256x256 .bf16) (hs : IsSeg s) (hx : ∀ k, IsReal (x k)) (l : Fin 256) :
    (∑ k, x k * x k * s (ix2 k l)) + ∑ k, (x k * x k - x k * x k) * s (ix2 k l)
      = ∑ e : Fin 64, x ⟨l.val / 64 * 64 + e.val, by omega⟩ * x ⟨l.val / 64 * 64 + e.val, by omega⟩ := by
  have e2 : ∑ k, (x k * x k - x k * x k) * s (ix2 k l) = 0 :=
    Finset.sum_eq_zero fun k _ => by rw [real_sub _ ((hx k).mul (hx k)), zero_mul]
  rw [e2, add_zero, ← seg_sum (fun k => x k * x k) l]
  refine Finset.sum_congr rfl fun k _ => ?_
  rw [hs k l]
  split_ifs
  · rw [mul_one]
  · rw [mul_zero]

/-- An entry over the root mean square of its head, times the gain. -/
def normAt (x : Fin 256 → EReal) (g : EReal) (l : Fin 256) : EReal :=
  x l * Ideal.rsqrt ((∑ e : Fin 64, x ⟨l.val / 64 * 64 + e.val, by omega⟩ * x ⟨l.val / 64 * 64 + e.val, by omega⟩)
    * Ideal.ofBits .f32 0x3C800000#32 + Ideal.ofBits .f32 0x358637BD#32) * g

theorem q_at (x : FVec Ideal S512x256 .f32) (g : FVec Ideal S1x256 .f32) (s : FVec Ideal S256x256 .bf16) (hs : IsSeg s)
    (r : Fin 512) (hx : ∀ k, IsReal (x (ix2 r k))) (l : Fin 256) :
    k0_pay3 (F := Ideal) x g s (ix2 r l) = normAt (fun k => x (ix2 r k)) (g (ix2 0 l)) l * Ideal.ofBits .f32 0x3E000000#32 := by
  unfold normAt
  rw [← mean_at _ s hs hx l]
  pointwise [k0_pay3]

theorem k_at (x : FVec Ideal S512x256 .f32) (g : FVec Ideal S1x256 .f32) (s : FVec Ideal S256x256 .bf16) (hs : IsSeg s)
    (r : Fin 512) (hx : ∀ k, IsReal (x (ix2 r k))) (l : Fin 256) :
    k0_pay1 (F := Ideal) x (k0_pay4 g) (k0_pay5 x s) (ix3 0 r l) = normAt (fun k => x (ix2 r k)) (g (ix2 0 l)) l := by
  unfold normAt
  rw [← mean_at _ s hs hx l]
  pointwise [k0_pay1, k0_pay4, k0_pay5]

theorem v_at (x : FVec Ideal S512x256 .f32) (r : Fin 512) (l : Fin 256) : k0_pay2 (F := Ideal) x (ix3 0 r l) = x (ix2 r l) := by
  pointwise [k0_pay2]

end Cert.AbClosed

end
-- ==== Proof.Ab.Ref.lean ====
module

public import proofs.«01_k».proof.Proof.Gen.RefAbQkvIdeal.Run
public import proofs.«01_k».proof.Proof.Win.Finite
public import Idealize.ShloMosaic.Lib.Claim

/-! The reference of the head norm at an index: the layer's queries, and its keys and values group by group. -/

@[expose] public section

set_option maxRecDepth 16384

noncomputable section

namespace Cert.AbRef

open Cert.RefAbQkvIdeal Cert.RefAbQkvIdeal.Gen Cert.RefAbQkvIdeal.Value Cert.WinClosed
open Idealize.ShloMosaic Idealize.ShloMosaic.TcCoe Idealize.SL.Sem Idealize.ShloMosaic.StableHlo

/-- Each head over its root mean square, times the gain. -/
def headR (x : FVec Ideal S16384x12x64 .f32) (g : FVec Ideal S64 .f32) : FVec Ideal S16384x12x64 .f32 :=
  mulf (mulf x (broadcastInDim S16384x12x64 ![0, 1, 2] bcast_S16384x12x1_S16384x12x64_0_1_2
    (Host.rsqrt (addf (Host.divf (broadcastInDim S16384x12x1 ![0, 1] bcast_S16384x12_S16384x12x1_0_1
      (Host.reduceAdd (mulf x x) (constant S_ .f32 0x00000000#32) reducesTo_S16384x12x64_S16384x12_d2 h_S_))
        (broadcastInDim S16384x12x1 ![] bcast_S_S16384x12x1 (constant S_ .f32 0x42800000#32)))
      (broadcastInDim S16384x12x1 ![] bcast_S_S16384x12x1 (constant S_ .f32 0x358637BD#32))))))
    (broadcastInDim S16384x12x64 ![0, 1, 2] bcast_S1x1x64_S16384x12x64_0_1_2
      (broadcastInDim S1x1x64 ![2] bcast_S64_S1x1x64_2 g))

theorem headR_at (x : FVec Ideal S16384x12x64 .f32) (g : FVec Ideal S64 .f32) (t : Fin 16384) (h : Fin 12) (d : Fin 64) :
    headR x g (ix3 t h d) = x (ix3 t h d) * Ideal.rsqrt (Ideal.div (∑ e : Fin 64, x (ix3 t h e) * x (ix3 t h e))
      (Ideal.ofBits .f32 0x42800000#32) + Ideal.ofBits .f32 0x358637BD#32) * g (ix1 d) := by
  pointwise [headR]

variable (z : FVec Ideal S16384x3328 .f32) (qn kn : FVec Ideal S64 .f32)

/-- The queries by head. -/
def qH : FVec Ideal S16384x12x64 .f32 :=
  shapeCast _ (extractStridedSlice S16384x768 ![0, 1024] z slices_S16384x3328_S16384x768_0_1024) shapeCasts_S16384x768_S16384x12x64
/-- The keys by head. -/
def kH : FVec Ideal S16384x12x64 .f32 :=
  shapeCast _ (extractStridedSlice S16384x768 ![0, 1792] z slices_S16384x3328_S16384x768_0_1792) shapeCasts_S16384x768_S16384x12x64
/-- The values by head. -/
def vH : FVec Ideal S16384x12x64 .f32 :=
  shapeCast _ (extractStridedSlice S16384x768 ![0, 2560] z slices_S16384x3328_S16384x768_0_2560) shapeCasts_S16384x768_S16384x12x64

/-- The queries the layer's attention takes. -/
def qRef : FVec Ideal S16384x768 .bf16 :=
  truncf .bf16 (shapeCast _ (mulf (headR (qH z) qn)
    (broadcastInDim S16384x12x64 ![] bcast_S_S16384x12x64 (constant S_ .f32 0x3E000000#32))) shapeCasts_S16384x12x64_S16384x768) bitsLt_bf16_f32

/-- One group's keys beside its values. -/
def pairR (a b : FVec Ideal S16384x4x64 .f32) : FVec Ideal S1x16384x2x4x64 .f32 :=
  broadcastInDim S1x16384x2x4x64 ![1, 2, 3, 4] bcast_S16384x2x4x64_S1x16384x2x4x64_1_2_3_4
    (concatenate S16384x2x4x64 1
      [⟨S16384x1x4x64, broadcastInDim S16384x1x4x64 ![0, 2, 3] bcast_S16384x4x64_S16384x1x4x64_0_2_3 a⟩,
       ⟨S16384x1x4x64, broadcastInDim S16384x1x4x64 ![0, 2, 3] bcast_S16384x4x64_S16384x1x4x64_0_2_3 b⟩]
      concatenates_S16384x1x4x64_S16384x1x4x64_S16384x2x4x64_d1)

/-- Heads 0 to 3. -/
def g0 (x : FVec Ideal S16384x12x64 .f32) := extractStridedSlice S16384x4x64 ![0, 0, 0] x slices_S16384x12x64_S16384x4x64_0_0_0
/-- Heads 4 to 7. -/
def g1 (x : FVec Ideal S16384x12x64 .f32) := extractStridedSlice S16384x4x64 ![0, 4, 0] x slices_S16384x12x64_S16384x4x64_0_4_0
/-- Heads 8 to 11. -/
def g2 (x : FVec Ideal S16384x12x64 .f32) := extractStridedSlice S16384x4x64 ![0, 8, 0] x slices_S16384x12x64_S16384x4x64_0_8_0

/-- The keys and values of the three groups. -/
def kvRef : FVec Ideal S3x16384x512 .f32 :=
  shapeCast _ (concatenate S3x16384x2x4x64 0
    [⟨S1x16384x2x4x64, pairR (g0 (headR (kH z) kn)) (g0 (vH z))⟩,
     ⟨S1x16384x2x4x64, pairR (g1 (headR (kH z) kn)) (g1 (vH z))⟩,
     ⟨S1x16384x2x4x64, pairR (g2 (headR (kH z) kn)) (g2 (vH z))⟩]
    concatenates_S1x16384x2x4x64_S1x16384x2x4x64_S1x16384x2x4x64_S3x16384x2x4x64_d0) shapeCasts_S3x16384x2x4x64_S3x16384x512

theorem kv_res (m : (ℓ : Loc nD τ sig) → Buf (Elt Ideal) ℓ) (c : Dev nD) : res_main_v55 m c
    = kvRef (m ((c.tc : Thread nD τ).loc main_arg0)) (m ((c.tc : Thread nD τ).loc main_arg2)) := by
  unfold res_main_v55
  rfl

theorem qH_at (t : Fin 16384) (h : Fin 12) (d : Fin 64) : qH z (ix3 t h d) = z (ix2 t ⟨1024 + (h.val * 64 + d.val), by omega⟩) := by
  pointwise [qH]
theorem kH_at (t : Fin 16384) (h : Fin 12) (d : Fin 64) : kH z (ix3 t h d) = z (ix2 t ⟨1792 + (h.val * 64 + d.val), by omega⟩) := by
  pointwise [kH]
theorem vH_at (t : Fin 16384) (h : Fin 12) (d : Fin 64) : vH z (ix3 t h d) = z (ix2 t ⟨2560 + (h.val * 64 + d.val), by omega⟩) := by
  pointwise [vH]

theorem qRef_at (t : Fin 16384) (l : Fin 768) : qRef z qn (ix2 t l)
    = headR (qH z) qn (ix3 t ⟨l.val / 64, by omega⟩ ⟨l.val % 64, by omega⟩) * Ideal.ofBits .f32 0x3E000000#32 := by
  pointwise [qRef]

theorem same (f : Fin 16384 → Fin 12 → Fin 64 → EReal) (t : Fin 16384) {h h' : Fin 12} {d d' : Fin 64} (e : h.val = h'.val)
    (e' : d.val = d'.val) : f t h d = f t h' d' := by
  rw [Fin.ext e, Fin.ext e']

theorem kvRef_k (g : Fin 3) (t : Fin 16384) (l : Fin 256) : kvRef z kn (ix3 g t ⟨l, by omega⟩)
    = headR (kH z) kn (ix3 t ⟨g.val * 4 + l.val / 64, by omega⟩ ⟨l.val % 64, by omega⟩) := by
  fin_cases g <;> pointwise [kvRef, pairR, g0, g1, g2]
  all_goals
    rw [dif_pos (by omega)]
    exact same (fun t h d => headR (kH z) kn (ix3 t h d)) t (by simp; omega) rfl

theorem kvRef_v (g : Fin 3) (t : Fin 16384) (l : Fin 256) : kvRef z kn (ix3 g t ⟨256 + l, by omega⟩)
    = vH z (ix3 t ⟨g.val * 4 + l.val / 64, by omega⟩ ⟨l.val % 64, by omega⟩) := by
  fin_cases g <;> pointwise [kvRef, pairR, g0, g1, g2]
  all_goals
    rw [dif_neg (by omega)]
    exact same (fun t h d => vH z (ix3 t h d)) t (by simp; omega) (by simp; omega)

end Cert.AbRef

end
-- ==== Proof.Ab.Value.lean ====
module

public import proofs.«01_k».proof.Pre_finite_heads
public import proofs.«01_k».proof.Proof.Ab.Tables
public import proofs.«01_k».proof.Proof.Ab.Block
public import proofs.«01_k».proof.Proof.Ab.Ref
public import Idealize.ShloMosaic.Lib.ReduceAll
public import Idealize.ShloMosaic.Lib.Pipeline.ValueKit

/-! The two arrays that the head norm leaves are the reference's. -/

@[expose] public section

set_option maxRecDepth 16384

noncomputable section

open Idealize.ShloMosaic

namespace Cert.Pre_finite_heads

instance facts : Facts where
  slices_S16384x3328_S16384x1536_0_1024 := by decide
  bcast_S_S16384x1536 := by decide
  reducesTo_S16384x1536_S_d0_1 := by decide
  h_S_ := by decide

end Cert.Pre_finite_heads

namespace Cert.AbClosed

open Cert.AbQkvIdeal Cert.AbQkvIdeal.Gen Cert.WinClosed
open Idealize.ShloMosaic.TcCoe Idealize.SL.Sem Idealize.ShloMosaic.StableHlo
open Idealize.ShloMosaic.Pipeline (Dat)
open Cert.AbRef (qRef kvRef headR qH kH vH)

/-- The queries' and the keys' columns hold real numbers. -/
def RealHeads (z : FVec Ideal S16384x3328 .f32) : Prop :=
  ∀ (t : Fin 16384) (l : Fin 1536), IsReal (z (ix2 t ⟨1024 + l, by omega⟩))

open Cert.Pre_finite_heads in
/-- The precondition, read. -/
theorem heads (z : FVec Ideal Cert.Pre_finite_heads.S16384x3328 .f32) (qn kn : FVec Ideal Cert.Pre_finite_heads.S64 .f32)
    (h : Cert.Pre_finite_heads.fn (F := Ideal) z qn kn = fun _ => 1#1) : RealHeads z := by
  intro t l
  have g := real_of_lt _ _ top_f32 (Host.reduce_andi_all _ _ _ _ _ (congrFun h (fun a => a.elim0)) (ix2 t l))
  have k : extractStridedSlice Cert.Pre_finite_heads.S16384x1536 ![0, 1024] z
      Cert.Pre_finite_heads.Facts.slices_S16384x3328_S16384x1536_0_1024 (ix2 t l) = z (ix2 t ⟨1024 + l, by omega⟩) := by
    pointwise
  exact k ▸ g

variable (m : (ℓ : Loc nD τ sig) → Buf (Elt Ideal) ℓ)

/-- The projected rows. -/
abbrev Z (c : Dev nD) : FVec Ideal S16384x3328 .f32 := m ((c : Thread nD τ).loc main_arg0)
/-- The queries' gain. -/
abbrev QN (c : Dev nD) : FVec Ideal S64 .f32 := m ((c : Thread nD τ).loc main_arg1)
/-- The keys' gain. -/
abbrev KN (c : Dev nD) : FVec Ideal S64 .f32 := m ((c : Thread nD τ).loc main_arg2)

/-! ## What the windows hold -/

/-- A gain repeated for the four heads of a group. -/
def gainK (g : FVec Ideal S64 .f32) : FVec Ideal S1x256 .f32 :=
  shapeCast S1x256 (shapeCast S256 (broadcastInDim S4x64 ![0, 1] bcast_S1x64_S4x64_0_1
    (shapeCast S1x64 g shapeCasts_S64_S1x64)) shapeCasts_S4x64_S256) shapeCasts_S256_S1x256

theorem gainK_at (g : FVec Ideal S64 .f32) (l : Fin 256) : gainK g (ix2 0 l) = g (ix1 ⟨l.val % 64, by omega⟩) := by
  pointwise [gainK]

theorem V_qgain (c : Dev nD) : V m c main_v3 = gainK (QN m c) := by
  unfold V
  simp only [hostOps0, List.flatten_cons, List.flatten_nil, List.append_nil, List.cons_append, List.nil_append]
  after_results_simp
  rfl

theorem V_kgain (c : Dev nD) : V m c main_v7 = gainK (KN m c) := by
  unfold V
  simp only [hostOps0, List.flatten_cons, List.flatten_nil, List.append_nil, List.cons_append, List.nil_append]
  after_results_simp
  rfl

/-- The matrix of ones and zeros, as the host code holds it. -/
def segK : FVec Ideal S256x256 .bf16 := fun i => FloatOps.ofBits .bf16 (lit0 (S256x256.rowMajor i))

theorem V_seg (c : Dev nD) : V m c main_cst = segK := by
  unfold V
  simp only [hostOps0, List.flatten_cons, List.flatten_nil, List.append_nil, List.cons_append, List.nil_append]
  after_results_simp
  rfl

theorem segK_isSeg : IsSeg segK := by
  intro k l
  have hk := k.isLt
  have hl := l.isLt
  have e : (S256x256.rowMajor (ix2 k l)).val = k.val * 256 + l.val := (Shape.rowMajor_val_two _).trans rfl
  show Ideal.ofBits .bf16 (lit0t (S256x256.rowMajor (ix2 k l)).val) = _
  rw [e, seg_table _ (by omega)]
  unfold segAt
  rw [show (k.val * 256 + l.val) / 256 = k.val by omega, show (k.val * 256 + l.val) % 256 = l.val by omega]
  by_cases q : k.val / 64 = l.val / 64
  · rw [if_pos q, if_pos q, one_word]
  · rw [if_neg q, if_neg q, zero_word]

/-- Which block every window holds at a grid point. -/
theorem idx : ∀ t : Fin cfg0.N, win0_0.index t = ![t.val / 3, 4 + t.val % 3] ∧ win0_1.index t = ![t.val / 3, 7 + t.val % 3]
    ∧ win0_2.index t = ![t.val / 3, 10 + t.val % 3] ∧ win0_3.index t = ![0, 0] ∧ win0_4.index t = ![0, 0]
    ∧ win0_5.index t = ![0, 0] ∧ win0_6.index t = ![t.val / 3, t.val % 3] ∧ win0_7.index t = ![t.val % 3, t.val / 3, 0] :=
  (by decide +kernel : ∀ t : Fin grid0.N, _)

theorem lt_N (t : Fin cfg0.N) : t.val < 96 := t.isLt

/-- The array's row at row `r` of a grid point's block. -/
def rowOf (t : Fin cfg0.N) (r : Fin 512) : Fin 16384 := ⟨t.val / 3 * 512 + r.val, by have := lt_N t; omega⟩

/-- The group of a grid point. -/
def groupOf (t : Fin cfg0.N) : Fin 3 := ⟨t.val % 3, by omega⟩

theorem q_block (c : Dev nD) (t : Fin cfg0.N) (r : Fin 512) (l : Fin 256) :
    iblk m c 0 t (ix2 r l) = Z m c (ix2 (rowOf t r) ⟨(4 + t.val % 3) * 256 + l.val, by omega⟩) := by
  unfold rowOf
  blk_point [iblk, V_main_arg0, idx t]

theorem k_block (c : Dev nD) (t : Fin cfg0.N) (r : Fin 512) (l : Fin 256) :
    iblk m c 1 t (ix2 r l) = Z m c (ix2 (rowOf t r) ⟨(7 + t.val % 3) * 256 + l.val, by omega⟩) := by
  unfold rowOf
  blk_point [iblk, V_main_arg0, idx t]

theorem v_block (c : Dev nD) (t : Fin cfg0.N) (r : Fin 512) (l : Fin 256) :
    iblk m c 2 t (ix2 r l) = Z m c (ix2 (rowOf t r) ⟨(10 + t.val % 3) * 256 + l.val, by omega⟩) := by
  unfold rowOf
  blk_point [iblk, V_main_arg0, idx t]

theorem qg_block (c : Dev nD) (t : Fin cfg0.N) (l : Fin 256) :
    iblk m c 3 t (ix2 0 l) = QN m c (ix1 ⟨l.val % 64, by omega⟩) := by
  rw [← gainK_at (QN m c) l, ← V_qgain]
  blk_point [iblk, idx t]

theorem kg_block (c : Dev nD) (t : Fin cfg0.N) (l : Fin 256) :
    iblk m c 4 t (ix2 0 l) = KN m c (ix1 ⟨l.val % 64, by omega⟩) := by
  rw [← gainK_at (KN m c) l, ← V_kgain]
  blk_point [iblk, idx t]

theorem seg_block (c : Dev nD) (t : Fin cfg0.N) : IsSeg (iblk m c 5 t) := by
  intro k l
  rw [← segK_isSeg k l, ← V_seg m c]
  blk_point [iblk, idx t]

/-! ## A head's norm, in the kernel's words and in the reference's -/

/-- A row's head norm, whichever way its columns are counted. -/
theorem norm_eq (x : Fin 256 → EReal) (X : FVec Ideal Cert.RefAbQkvIdeal.S16384x12x64 .f32) (g : FVec Ideal S64 .f32)
    (t : Fin 16384) (l : Fin 256) (h : Fin 12) (d : Fin 64) (hd : d.val = l.val % 64)
    (e : ∀ d' : Fin 64, X (ix3 t h d') = x ⟨l.val / 64 * 64 + d'.val, by omega⟩) :
    normAt x (g (ix1 d)) l = headR X g (ix3 t h d) := by
  have el : x ⟨l.val / 64 * 64 + d.val, by omega⟩ = x l := congrArg x (Fin.ext (by show l.val / 64 * 64 + d.val = l.val; omega))
  rw [AbRef.headR_at, mean_word]
  unfold normAt
  simp only [e, el]

theorem place (z : FVec Ideal S16384x3328 .f32) (t : Fin 16384) {a b : Fin 3328} (h : a.val = b.val) :
    z (ix2 t a) = z (ix2 t b) := by
  rw [Fin.ext h]

/-- What a grid point leaves of the queries. -/
theorem q_eq (c : Dev nD) (H : RealHeads (Z m c)) (t : Fin cfg0.N) (r : Fin 512) (l : Fin 256) :
    k0_pay3 (F := Ideal) (iblk m c 0 t) (iblk m c 3 t) (iblk m c 5 t) (ix2 r l)
      = qRef (Z m c) (QN m c) (ix2 (rowOf t r) ⟨t.val % 3 * 256 + l.val, by omega⟩) := by
  rw [q_at _ _ _ (seg_block m c t) r (fun k => ?_), AbRef.qRef_at, qg_block]
  · refine congrArg (· * _) ?_
    rw [norm_eq _ (qH (Z m c)) (QN m c) (rowOf t r) l ⟨t.val % 3 * 4 + l.val / 64, by omega⟩ _ rfl fun d' => ?_]
    · exact AbRef.same (fun t h d => headR (qH (Z m c)) (QN m c) (ix3 t h d)) _ (by simp; omega) (by simp; omega)
    · rw [AbRef.qH_at, q_block]
      exact place _ _ (by simp; omega)
  · rw [q_block]
    have := H (rowOf t r) ⟨t.val % 3 * 256 + k.val, by omega⟩
    rwa [place (Z m c) (rowOf t r) (a := ⟨(4 + t.val % 3) * 256 + k.val, by omega⟩)
      (b := ⟨1024 + (t.val % 3 * 256 + k.val), by omega⟩) (by simp; omega)]

/-- What a grid point leaves of the keys. -/
theorem k_eq (c : Dev nD) (H : RealHeads (Z m c)) (t : Fin cfg0.N) (r : Fin 512) (l : Fin 256) :
    k0_pay1 (F := Ideal) (iblk m c 1 t) (k0_pay4 (iblk m c 4 t)) (k0_pay5 (iblk m c 1 t) (iblk m c 5 t)) (ix3 0 r l)
      = kvRef (Z m c) (KN m c) (ix3 (groupOf t) (rowOf t r) ⟨l.val, by omega⟩) := by
  rw [k_at _ _ _ (seg_block m c t) r (fun k => ?_), AbRef.kvRef_k, kg_block]
  · exact norm_eq _ (kH (Z m c)) (KN m c) (rowOf t r) l ⟨t.val % 3 * 4 + l.val / 64, by omega⟩ _ rfl fun d' => by
      rw [AbRef.kH_at, k_block]
      exact place _ _ (by simp; omega)
  · rw [k_block]
    have := H (rowOf t r) ⟨768 + (t.val % 3 * 256 + k.val), by omega⟩
    rwa [place (Z m c) (rowOf t r) (a := ⟨(7 + t.val % 3) * 256 + k.val, by omega⟩)
      (b := ⟨1024 + (768 + (t.val % 3 * 256 + k.val)), by omega⟩) (by simp; omega)]

/-- What a grid point leaves of the values. -/
theorem v_eq (c : Dev nD) (t : Fin cfg0.N) (r : Fin 512) (l : Fin 256) :
    k0_pay2 (F := Ideal) (iblk m c 2 t) (ix3 0 r l)
      = kvRef (Z m c) (KN m c) (ix3 (groupOf t) (rowOf t r) ⟨256 + l.val, by omega⟩) := by
  rw [v_at, AbRef.kvRef_v, AbRef.vH_at, v_block]
  exact place _ _ (by simp [groupOf]; omega)

/-! ## The arrays after the run -/

theorem emb6 (G : FVec Ideal S16384x768 .bf16) (t : Fin cfg0.N) (r : Fin 512) (l : Fin 256) :
    G ((win0_6.blk t).view.emb (ix2 r l)) = G (ix2 (rowOf t r) ⟨t.val % 3 * 256 + l.val, by omega⟩) := by
  unfold rowOf
  blk_point [idx t]

theorem emb7 (G : FVec Ideal S3x16384x512 .f32) (t : Fin cfg0.N) (r : Fin 512) (l : Fin 512) :
    G ((win0_7.blk t).view.emb (ix3 0 r l)) = G (ix3 (groupOf t) (rowOf t r) l) := by
  unfold rowOf groupOf
  blk_point [idx t]

/-- The array of queries. -/
theorem final6 (c : Dev nD) (H : RealHeads (Z m c)) : (dats m 0 c).arrAt 6 (cfgs 0).N = qRef (Z m c) (QN m c) := by
  refine (dats m 0 c).arrAt_eq_of_covers 6 _ (by decide +kernel) fun t _ y => ?_
  blk_simp
  rw [after0_6]
  frame_out
  have e : ∃ (r : Fin 512) (l : Fin 256), y = ix2 r l := by
    idx_vars y
    exact ⟨_, _, rfl⟩
  obtain ⟨r, l, e⟩ := e
  rw [show y = ix2 r l from e]
  exact (q_eq m c H t r l).trans (emb6 _ t r l).symm

/-- A block's keys beside its values. -/
theorem kv_eq (c : Dev nD) (H : RealHeads (Z m c)) (t : Fin cfg0.N) (r : Fin 512) (l : Fin 512) :
    out0_7 (F := Ideal) (iblk m c 0 t) (iblk m c 1 t) (iblk m c 2 t) (iblk m c 3 t) (iblk m c 4 t) (iblk m c 5 t) (ix3 0 r l)
      = kvRef (Z m c) (KN m c) (ix3 (groupOf t) (rowOf t r) l) := by
  have hx : ∀ x : S1x512x256.Idx, ∃ (a : Fin 512) (b : Fin 256), x = ix3 0 a b := fun x =>
    ⟨x 1, x 2, by blk_ext⟩
  have hy : ∀ (a : Fin 512) (b : Fin 512) (h1 : (r : ℕ) = a) (h2 : (l : ℕ) = b),
      kvRef (Z m c) (KN m c) (ix3 (groupOf t) (rowOf t a) b) = kvRef (Z m c) (KN m c) (ix3 (groupOf t) (rowOf t r) l) := by
    intro a b h1 h2
    rw [Fin.ext h1, Fin.ext h2]
  unfold out0_7
  simp (disch := decide) only [View.ld_unit_lit']
  canon_tiles x h
  · obtain ⟨a, b, rfl⟩ := hx x
    exact (v_eq m c t a b).trans (hy _ _ h1 (by simpa using h2))
  · obtain ⟨a, b, rfl⟩ := hx x
    exact (k_eq m c H t a b).trans (hy _ _ h1 (by simpa using h2))

/-- The array of keys and values. -/
theorem final7 (c : Dev nD) (H : RealHeads (Z m c)) : (dats m 0 c).arrAt 7 (cfgs 0).N = kvRef (Z m c) (KN m c) := by
  refine (dats m 0 c).arrAt_eq_of_covers 7 _ (by decide +kernel) fun t _ y => ?_
  blk_simp
  rw [after0_7]
  have e : ∃ (r : Fin 512) (l : Fin 512), y = ix3 0 r l := by
    idx_vars y
    exact ⟨_, _, congrArg (fun a => ix3 a _ _) (Subsingleton.elim _ _)⟩
  obtain ⟨r, l, e⟩ := e
  rw [show y = ix3 0 r l from e]
  exact (kv_eq m c H t r l).trans (emb7 _ t r l).symm

end Cert.AbClosed

end
-- ==== Proof.Conv.Row.lean ====
module

public import Idealize.ShloMosaic.Lib.Pipeline.ValueKit
public import Idealize.ShloMosaic.Lib.Claim

/-! One row of the convolution module: the 31 taps, and the layer norm with its activation. -/

@[expose] public section

noncomputable section

namespace Cert.ConvRow

open Idealize.ShloMosaic

/-- Terms added one after another, from a start. -/
def addUp (b : EReal) : (n : ℕ) → (Fin n → EReal) → EReal
  | 0, _ => b
  | n + 1, p => addUp b n (fun i => p i.castSucc) + p (Fin.last n)

/-- The order of the additions does not matter. -/
theorem addUp_eq (b : EReal) (n : ℕ) (p : Fin n → EReal) : addUp b n p = b + ∑ i, p i := by
  induction n with
  | zero => simp [addUp]
  | succ n ih => rw [addUp, ih, Fin.sum_univ_castSucc, add_assoc]

/-- A channel of the depthwise convolution: its bias and its 31 weighted rows. -/
def taps (u w : Fin 31 → EReal) (b : EReal) : EReal := b + ∑ j, w j * u j

/-- The mean over the 512 channels. -/
def mean (y : Fin 512 → EReal) : EReal := Ideal.div (∑ k, y k) (Ideal.ofBits .f32 0x44000000#32)

/-- The layer norm of a row. -/
def lnorm (y g l : Fin 512 → EReal) (k : Fin 512) : EReal :=
  (y k - mean y) * Ideal.rsqrt (mean (fun k => (y k - mean y) * (y k - mean y)) + Ideal.ofBits .f32 0x358637BD#32) * g k + l k

/-- The norm times its own logistic. -/
def act (y g l : Fin 512 → EReal) (k : Fin 512) : EReal := lnorm y g l k * Ideal.logistic (lnorm y g l k)

/-- A load of writes through a rectangle, read off what the writes leave. -/
theorem load_eq {sig : RefSig} {κ : Kind} {sp : Space} {s : Shape} {e : EltTy} {Val : EltTy → Type} [∀ e, Nonempty (Val e)]
    (v : View sig κ sp s e) (L : List (View.Piece Val s e)) (r : Rect s) :
    v.readCov L r.toLoadRect = View.ld (View.canon L) r :=
  View.readCov_eq_canon' v L r.toLoadRect

/-- A load of the one piece just stored reads it, over any contents before. -/
theorem load_last {sig : RefSig} {κ : Kind} {sp : Space} {s : Shape} {e : EltTy} {Val : EltTy → Type} [∀ e, Nonempty (Val e)]
    (v : View sig κ sp s e) (f : v.ty.Contents Val) (r : Rect s) (w : r.shape.Idx → Val e) :
    v.readCov [⟨r, w⟩] r.toLoadRect = View.ld (v.read Val (v.writes Val f [⟨r, w⟩])) r :=
  (View.readAt_writes_of_cover v f [⟨r, w⟩] r.toLoadRect
    fun j => ⟨_, List.mem_singleton_self _, r.toLoadRect.mem_set.mpr fun a => ⟨j a, (j a).isLt, rfl⟩⟩).symm

/-- Whole rows written last: under them, what was written. -/
theorem rows_in {N : ℕ} {Val : EltTy → Type} [∀ e, Nonempty (Val e)] {e : EltTy} (o h : ℕ)
    (inb : ∀ a, (![o, 0] : Fin 2 → ℕ) a + (![h, 512] : Fin 2 → ℕ) a ≤ (⟨2, ![N, 512]⟩ : Shape).size a)
    (w : (⟨2, ![h, 512]⟩ : Shape).Idx → Val e) (L : List (View.Piece Val (⟨2, ![N, 512]⟩ : Shape) e))
    (r : Fin N) (k : Fin 512) (h0 : o ≤ r.val) (h1 : r.val < o + h) :
    View.canon ((⟨Rect.unit (s := (⟨2, ![N, 512]⟩ : Shape)) ![o, 0] ![h, 512] inb, w⟩ : View.Piece Val _ e) :: L) (ix2 r k)
      = w (ix2 ⟨r.val - o, by omega⟩ k) := by
  have g := View.canon_cons_emb (Rect.unit (s := (⟨2, ![N, 512]⟩ : Shape)) ![o, 0] ![h, 512] inb) w L
    (ix2 (⟨r.val - o, by omega⟩ : Fin h) k)
  refine Eq.trans (congrArg _ ?_) g
  funext a
  refine Fin.ext ?_
  match a with
  | ⟨0, _⟩ => show r.val = o + 1 * (r.val - o); omega
  | ⟨1, _⟩ => show k.val = 0 + 1 * k.val; omega

/-- Whole rows written last: off them, what was there. -/
theorem rows_off {N : ℕ} {Val : EltTy → Type} [∀ e, Nonempty (Val e)] {e : EltTy} (o h : ℕ)
    (inb : ∀ a, (![o, 0] : Fin 2 → ℕ) a + (![h, 512] : Fin 2 → ℕ) a ≤ (⟨2, ![N, 512]⟩ : Shape).size a)
    (w : (⟨2, ![h, 512]⟩ : Shape).Idx → Val e) (L : List (View.Piece Val (⟨2, ![N, 512]⟩ : Shape) e))
    (r : Fin N) (k : Fin 512) (h0 : r.val < o ∨ o + h ≤ r.val) :
    View.canon ((⟨Rect.unit (s := (⟨2, ![N, 512]⟩ : Shape)) ![o, 0] ![h, 512] inb, w⟩ : View.Piece Val _ e) :: L) (ix2 r k)
      = View.canon L (ix2 r k) := by
  refine View.canon_cons_of_not_mem _ _ fun hm => ?_
  have g := (Rect.mem_set_unit (inb := inb)).mp hm 0
  have g1 : o ≤ r.val := g.1
  have g2 : r.val < o + h := g.2
  omega

end Cert.ConvRow

end
-- ==== Proof.Conv.StepBlock.lean ====
module

public import proofs.«01_k».proof.Proof.Gen.ConvStepIdeal.Value
public import proofs.«01_k».proof.Proof.Conv.Row

/-! What one grid point of the convolution module leaves, at the sample's rows. -/

@[expose] public section

set_option maxRecDepth 16384

noncomputable section

open Idealize.ShloMosaic Idealize.ShloMosaic.TcCoe Idealize.SL.Sem
open Idealize.ShloMosaic.Pipeline (Dat)

namespace Cert.ConvStepClosed

open Cert.ConvStepIdeal Cert.ConvStepIdeal.Gen Cert.ConvRow

variable (m : (ℓ : Loc nD τ sig) → Buf (Elt Ideal) ℓ)

/-- The scratch rows of a grid point: the padded history, then the gated rows. -/
def scratch (c : Dev nD) (t : Fin cfg0.N) : Vec Ideal S36x512 .f32 :=
  View.canon (Val := Elt Ideal) (s := S36x512) (e := .f32) [⟨Rect.unit ![32, 0] ![4, 512] inb_S36x512_S4x512_32_0, k0_pay5 (X0_0 m c t)⟩,
    ⟨Rect.unit ![0, 0] ![32, 512] inb_S36x512_S32x512_0_0, k0_pay4 (iblk m c 1 t)⟩]

/-- The last 32 scratch rows. -/
theorem tail_at (c : Dev nD) (t : Fin cfg0.N) (r : Fin 32) (k : Fin 512) :
    (outsAt0 m c t).2 (ix3 0 r k) = scratch m c t (ix2 ⟨4 + r.val, by omega⟩ k) := by
  unfold outsAt0
  frame_out
  rw [load_eq]
  pointwise [k0_pay3]

/-- The activated rows. -/
theorem out_at (c : Dev nD) (t : Fin cfg0.N) (r : Fin 4) (k : Fin 512) :
    (outsAt0 m c t).1 (ix3 0 r k)
      = act (fun k => taps (fun j => scratch m c t (ix2 ⟨2 + j.val + r.val, by omega⟩ k))
          (fun j => iblk m c 2 t (ix2 ⟨j.val, by omega⟩ k)) (iblk m c 3 t (ix2 0 k)))
        (fun k => iblk m c 4 t (ix2 0 k)) (fun k => iblk m c 5 t (ix2 0 k)) k := by
  unfold outsAt0
  frame_out
  simp only [load_eq]
  rw [show View.canon _ = scratch m c t from rfl]
  generalize scratch m c t = W
  generalize iblk m c 2 t = w
  generalize iblk m c 3 t = b
  simp only [k0_pay17, k0_pay18, k0_pay19]
  generalize hA : k0_pay16 (F := Ideal) _ _ _ _ _ _ _ _ _ _ = A
  have e : ∀ (r : Fin 4) (k : Fin 512), A (ix2 r k) = taps (fun j => W (ix2 ⟨2 + j.val + r.val, by omega⟩ k))
      (fun j => w (ix2 ⟨j.val, by omega⟩ k)) (b (ix2 0 k)) := by
    intro r k
    rw [← hA]
    unfold taps
    rw [← addUp_eq]
    pointwise [k0_pay6, k0_pay7, k0_pay8, k0_pay9, k0_pay10, k0_pay11, k0_pay12, k0_pay13, k0_pay14, k0_pay15, k0_pay16]
    rfl
  simp only [← e]
  pointwise [k0_pay1, k0_pay20, act, lnorm, mean]

end Cert.ConvStepClosed

end
-- ==== Proof.Conv.StepRef.lean ====
module

public import proofs.«01_k».proof.Proof.Gen.RefConvStepIdeal.Run
public import proofs.«01_k».proof.Proof.Conv.Row

/-! The convolution's reference at an index, at the sample's rows. -/

@[expose] public section

set_option maxRecDepth 16384

noncomputable section

namespace Cert.ConvStepRef

open Cert.RefConvStepIdeal Cert.RefConvStepIdeal.Gen Cert.RefConvStepIdeal.Value Cert.ConvRow
open Idealize.ShloMosaic Idealize.ShloMosaic.TcCoe Idealize.SL.Sem Idealize.ShloMosaic.StableHlo

variable (Z : FVec Ideal S32x4x3328 .f32) (H : FVec Ideal S32x30x512 .f32) (w : FVec Ideal S31x512 .f32)
  (b g l : FVec Ideal S512 .f32)

/-- The gated rows. -/
def gated : FVec Ideal S32x4x512 .f32 :=
  mulf (extractStridedSlice S32x4x512 ![0, 0, 0] Z slices_S32x4x3328_S32x4x512_0_0_0)
    (Host.divf (broadcastInDim S32x4x512 ![] bcast_S_S32x4x512 (constant S_ .f32 0x3F800000#32))
      (addf (broadcastInDim S32x4x512 ![] bcast_S_S32x4x512 (constant S_ .f32 0x3F800000#32))
        (Host.exp (Host.negf (extractStridedSlice S32x4x512 ![0, 0, 512] Z slices_S32x4x3328_S32x4x512_0_0_512)))))

/-- The history with the gated rows behind it. -/
def joined : FVec Ideal S32x34x512 .f32 :=
  concatenate S32x34x512 1 [⟨S32x30x512, H⟩, ⟨S32x4x512, gated Z⟩] concatenates_S32x30x512_S32x4x512_S32x34x512_d1

/-- The result rows. -/
def outRef : FVec Ideal S32x4x512 .bf16 := fun i =>
  act (fun k => taps (fun j => joined Z H (ix3 (i 0) ⟨j.val + (i 1).val, by have := (i 1).isLt; simp at this; omega⟩ k))
      (fun j => w (ix2 j k)) (b (ix1 k)))
    (fun k => g (ix1 k)) (fun k => l (ix1 k)) (i 2)

/-- The last 32 rows. -/
def tailRef : FVec Ideal S32x32x512 .f32 :=
  extractStridedSlice S32x32x512 ![0, 2, 0] (joined Z H) slices_S32x34x512_S32x32x512_0_2_0

theorem gated_at (n : Fin 32) (r : Fin 4) (k : Fin 512) :
    gated Z (ix3 n r k) = Z (ix3 n r ⟨k.val, by omega⟩) * Ideal.logistic (Z (ix3 n r ⟨512 + k.val, by omega⟩)) := by
  pointwise [gated]
  rfl

theorem joined_hist (n : Fin 32) (r : Fin 34) (h : r.val < 30) (k : Fin 512) :
    joined Z H (ix3 n r k) = H (ix3 n ⟨r.val, h⟩ k) := by
  pointwise [joined]
  rw [dif_pos h]

theorem joined_new (n : Fin 32) (r : Fin 34) (h : ¬ r.val < 30) (k : Fin 512) :
    joined Z H (ix3 n r k) = gated Z (ix3 n ⟨r.val - 30, by omega⟩ k) := by
  pointwise [joined]
  rw [dif_neg h]

/-- One tap of a channel. -/
def tap (U : FVec Ideal S32x34x512 .f32) (w : FVec Ideal S31x512 .f32) (n : Fin 32) (r : Fin 4) (k : Fin 512)
    (j : Fin 31) : EReal :=
  U (ix3 n ⟨j.val + r.val, by omega⟩ k) * w (ix2 j k)

theorem tap_zero (U : FVec Ideal S32x34x512 .f32) (w : FVec Ideal S31x512 .f32) (n : Fin 32) (r : Fin 4) (k : Fin 512) :
    U (ix3 n ⟨r.val, by omega⟩ k) * w (ix2 0 k) = tap U w n r k 0 := by
  simp only [tap, Fin.val_zero, zero_add]

variable (V0 : Valuation τ sig (Elt Ideal))

theorem joined_res : res_main_v9 V0 = joined (V0 (Proc.devRef .tc main_arg0)) (V0 (Proc.devRef .tc main_arg1)) := rfl

theorem sum_at (n : Fin 32) (r : Fin 4) (k : Fin 512) :
    res_main_v230 V0 (ix3 n r k) = taps (fun j => res_main_v9 V0 (ix3 n ⟨j.val + r.val, by omega⟩ k))
      (fun j => V0 (Proc.devRef .tc main_arg2) (ix2 j k)) (V0 (Proc.devRef .tc main_arg3) (ix1 k)) := by
  unfold taps
  generalize hU : (res_main_v9 V0 : FVec Ideal S32x34x512 .f32) = U
  generalize hw : (V0 (Proc.devRef .tc main_arg2) : FVec Ideal S31x512 .f32) = w
  generalize hb : (V0 (Proc.devRef .tc main_arg3) : FVec Ideal S512 .f32) = b
  trans addUp (tap U w n r k 0) 30 (fun j => tap U w n r k j.succ) + b (ix1 k)
  · pointwise [res_main_v230, res_main_v164, res_main_v87]
    rw [hU, hw, hb]
    exact (congrArg (fun x => addUp x 30 (fun j => tap U w n r k j.succ) + b (ix1 k))
      (tap_zero U w n r k) :)
  · rw [addUp_eq, add_comm, ← Fin.sum_univ_succ]
    simp only [tap, mul_comm]

theorem out_res : truncf .bf16 (mulf (res_main_v254 V0) (Host.divf (broadcastInDim S32x4x512 ![] bcast_S_S32x4x512 (constant S_ .f32 0x3F800000#32)) (addf (broadcastInDim S32x4x512 ![] bcast_S_S32x4x512 (constant S_ .f32 0x3F800000#32)) (Host.exp (Host.negf (res_main_v254 V0)))))) bitsLt_bf16_f32
    = outRef (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5)) := by
  funext i
  idx_vars i
  unfold outRef
  rw [← joined_res]
  pointwise [res_main_v254, res_main_v236, res_main_v234]
  simp only [sum_at]
  rfl

theorem tail_res : extractStridedSlice S32x32x512 ![0, 2, 0] (res_main_v9 V0) slices_S32x34x512_S32x32x512_0_2_0
    = tailRef (V0 (Proc.devRef .tc main_arg0)) (V0 (Proc.devRef .tc main_arg1)) := by
  rw [joined_res]
  rfl

/-- The first result over a launch's arguments. -/
theorem out_launch (m : (ℓ : Loc nD τ sig) → Buf (Elt Ideal) ℓ) (c : Dev nD)
    {Z : FVec Ideal S32x4x3328 .f32} {H : FVec Ideal S32x30x512 .f32} {w : FVec Ideal S31x512 .f32} {b g l : FVec Ideal S512 .f32}
    (e0 : m ((c.tc : Thread nD τ).loc main_arg0) = Z) (e1 : m ((c.tc : Thread nD τ).loc main_arg1) = H)
    (e2 : m ((c.tc : Thread nD τ).loc main_arg2) = w) (e3 : m ((c.tc : Thread nD τ).loc main_arg3) = b)
    (e4 : m ((c.tc : Thread nD τ).loc main_arg4) = g) (e5 : m ((c.tc : Thread nD τ).loc main_arg5) = l) :
    truncf .bf16 (mulf (res_main_v254 (launchContents m c)) (Host.divf (broadcastInDim S32x4x512 ![] bcast_S_S32x4x512 (constant S_ .f32 0x3F800000#32)) (addf (broadcastInDim S32x4x512 ![] bcast_S_S32x4x512 (constant S_ .f32 0x3F800000#32)) (Host.exp (Host.negf (res_main_v254 (launchContents m c))))))) bitsLt_bf16_f32
    = outRef Z H w b g l := by
  subst e0 e1 e2 e3 e4 e5
  exact out_res (launchContents m c)

/-- The second result over a launch's arguments. -/
theorem tail_launch (m : (ℓ : Loc nD τ sig) → Buf (Elt Ideal) ℓ) (c : Dev nD)
    {Z : FVec Ideal S32x4x3328 .f32} {H : FVec Ideal S32x30x512 .f32}
    (e0 : m ((c.tc : Thread nD τ).loc main_arg0) = Z) (e1 : m ((c.tc : Thread nD τ).loc main_arg1) = H) :
    extractStridedSlice S32x32x512 ![0, 2, 0] (res_main_v9 (launchContents m c)) slices_S32x34x512_S32x32x512_0_2_0 = tailRef Z H := by
  subst e0 e1
  exact tail_res (launchContents m c)

end Cert.ConvStepRef

end
-- ==== Proof.Conv.StepValue.lean ====
module

public import proofs.«01_k».proof.Proof.Conv.StepBlock
public import proofs.«01_k».proof.Proof.Conv.StepRef

/-! At the sample's rows, the two arrays that the convolution module leaves are the reference's. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.ConvStepClosed

open Cert.ConvStepIdeal Cert.ConvStepIdeal.Gen Cert.ConvRow
open Cert.ConvStepRef (joined gated outRef tailRef gated_at joined_hist joined_new)

variable (m : (ℓ : Loc nD τ sig) → Buf (Elt Ideal) ℓ)

/-- The projected rows. -/
abbrev Z (c : Dev nD) : FVec Ideal S32x4x3328 .f32 := m ((c : Thread nD τ).loc main_arg0)
/-- The history. -/
abbrev H (c : Dev nD) : FVec Ideal S32x30x512 .f32 := m ((c : Thread nD τ).loc main_arg1)
/-- The taps. -/
abbrev WT (c : Dev nD) : FVec Ideal S31x512 .f32 := m ((c : Thread nD τ).loc main_arg2)
/-- The bias. -/
abbrev BS (c : Dev nD) : FVec Ideal S512 .f32 := m ((c : Thread nD τ).loc main_arg3)
/-- The norm's gain. -/
abbrev GN (c : Dev nD) : FVec Ideal S512 .f32 := m ((c : Thread nD τ).loc main_arg4)
/-- The norm's shift. -/
abbrev SH (c : Dev nD) : FVec Ideal S512 .f32 := m ((c : Thread nD τ).loc main_arg5)

/-! ## What the windows hold -/

theorem V_hist (c : Dev nD) : V m c main_v0 = pad S32x32x512 ![0, 2, 0] ![0, 0, 0] ![0, 0, 0] (H m c)
    (sitofp (F := Ideal) .f32 (constantI S_ 32 0#32)) pads_S32x30x512_S32x32x512_000_200_000 h_S_ := by
  unfold V
  simp only [hostOps0, hostOps0_1, hostOps0_2, hostOps0_3, hostOps0_4, List.flatten_cons, List.flatten_nil, List.append_nil,
    List.cons_append, List.nil_append]
  after_results_simp
  rfl

theorem V_taps (c : Dev nD) : V m c main_v1 = pad S32x512 ![0, 0] ![1, 0] ![0, 0] (WT m c)
    (sitofp (F := Ideal) .f32 (constantI S_ 32 0#32)) pads_S31x512_S32x512_010_000 h_S_ := by
  unfold V
  simp only [hostOps0, hostOps0_1, hostOps0_2, hostOps0_3, hostOps0_4, List.flatten_cons, List.flatten_nil, List.append_nil,
    List.cons_append, List.nil_append]
  after_results_simp
  rfl

theorem V_row (c : Dev nD) : V m c main_v2 = shapeCast S1x512 (BS m c) shapeCasts_S512_S1x512
    ∧ V m c main_v3 = shapeCast S1x512 (GN m c) shapeCasts_S512_S1x512
    ∧ V m c main_v4 = shapeCast S1x512 (SH m c) shapeCasts_S512_S1x512 := by
  unfold V
  simp only [hostOps0, hostOps0_1, hostOps0_2, hostOps0_3, hostOps0_4, List.flatten_cons, List.flatten_nil, List.append_nil,
    List.cons_append, List.nil_append]
  refine ⟨?_, ?_, ?_⟩
  · after_results_simp
    rfl
  · after_results_simp
    rfl
  · after_results_simp
    rfl

/-- Which block every window holds at a grid point. -/
theorem idx : ∀ t : Fin cfg0.N, win0_0.index t = ![t.val, 0, 0] ∧ win0_1.index t = ![t.val, 0, 0]
    ∧ win0_2.index t = ![0, 0] ∧ win0_3.index t = ![0, 0] ∧ win0_4.index t = ![0, 0]
    ∧ win0_5.index t = ![0, 0] ∧ win0_6.index t = ![t.val, 0, 0] ∧ win0_7.index t = ![t.val, 0, 0] :=
  (by decide +kernel : ∀ t : Fin grid0.N, _)

/-- The sequence of a grid point. -/
def seqOf (t : Fin cfg0.N) : Fin 32 := ⟨t.val, t.isLt⟩

theorem z_block (c : Dev nD) (t : Fin cfg0.N) (r : Fin 4) (k : Fin 1024) :
    X0_0 m c t (ix3 0 r k) = Z m c (ix3 (seqOf t) r ⟨k.val, by omega⟩) := by
  unfold X0_0 Pipeline.Window.fill
  rw [dif_pos (moved0_0 t _)]
  unfold seqOf
  blk_point [iblk, V_main_arg0, idx t]

theorem hist_block (c : Dev nD) (t : Fin cfg0.N) (r : Fin 32) (h : 2 ≤ r.val) (k : Fin 512) :
    iblk m c 1 t (ix3 0 r k) = H m c (ix3 (seqOf t) ⟨r.val - 2, by omega⟩ k) := by
  trans V m c main_v0 (ix3 (seqOf t) r k)
  · unfold seqOf
    blk_point [iblk, idx t]
  · rw [V_hist]
    pointwise
    exact dif_pos ⟨h, by omega⟩

theorem taps_block (c : Dev nD) (t : Fin cfg0.N) (j : Fin 31) (k : Fin 512) :
    iblk m c 2 t (ix2 ⟨j.val, by omega⟩ k) = WT m c (ix2 j k) := by
  trans V m c main_v1 (ix2 ⟨j.val, by omega⟩ k)
  · blk_point [iblk, idx t]
  · rw [V_taps]
    pointwise

theorem bias_block (c : Dev nD) (t : Fin cfg0.N) (k : Fin 512) : iblk m c 3 t (ix2 0 k) = BS m c (ix1 k) := by
  trans V m c main_v2 (ix2 0 k)
  · blk_point [iblk, idx t]
  · rw [(V_row m c).1]
    pointwise

theorem gain_block (c : Dev nD) (t : Fin cfg0.N) (k : Fin 512) : iblk m c 4 t (ix2 0 k) = GN m c (ix1 k) := by
  trans V m c main_v3 (ix2 0 k)
  · blk_point [iblk, idx t]
  · rw [(V_row m c).2.1]
    pointwise

theorem shift_block (c : Dev nD) (t : Fin cfg0.N) (k : Fin 512) : iblk m c 5 t (ix2 0 k) = SH m c (ix1 k) := by
  trans V m c main_v4 (ix2 0 k)
  · blk_point [iblk, idx t]
  · rw [(V_row m c).2.2]
    pointwise

/-! ## The scratch rows -/

theorem hist_pay (x : Vec Ideal S1x32x512 .f32) (r : Fin 32) (k : Fin 512) :
    k0_pay4 (F := Ideal) x (ix2 r k) = x (ix3 0 r k) := by
  pointwise [k0_pay4]

theorem gated_pay (x : Vec Ideal S1x4x1024 .f32) (r : Fin 4) (k : Fin 512) :
    k0_pay5 (F := Ideal) x (ix2 r k) = x (ix3 0 r ⟨k.val, by omega⟩) * Ideal.logistic (x (ix3 0 r ⟨512 + k.val, by omega⟩)) := by
  pointwise [k0_pay5]

/-- From the third row on, the scratch holds the reference's joined rows. -/
theorem scratch_at (c : Dev nD) (t : Fin cfg0.N) (r : Fin 34) (k : Fin 512) :
    scratch m c t (ix2 ⟨2 + r.val, by omega⟩ k) = joined (Z m c) (H m c) (ix3 (seqOf t) r k) := by
  unfold scratch
  by_cases h : r.val < 30
  · rw [rows_off 32 4 _ _ _ _ _ (Or.inl (by show 2 + r.val < 32; omega)),
      rows_in 0 32 _ _ _ _ _ (Nat.zero_le _) (by show 2 + r.val < 0 + 32; omega), hist_pay,
      hist_block m c t _ (by show 2 ≤ 2 + r.val - 0; omega), joined_hist _ _ _ _ h]
    exact congrArg (fun x => H m c (ix3 (seqOf t) x k)) (Fin.ext (by show 2 + r.val - 0 - 2 = r.val; omega))
  · rw [rows_in 32 4 _ _ _ _ _ (by show 32 ≤ 2 + r.val; omega) (by show 2 + r.val < 32 + 4; omega), gated_pay,
      z_block, z_block, joined_new _ _ _ _ h, gated_at]
    have e : (⟨2 + r.val - 32, by omega⟩ : Fin 4) = ⟨r.val - 30, by omega⟩ := Fin.ext (by show 2 + r.val - 32 = r.val - 30; omega)
    exact congrArg (fun x => Z m c (ix3 (seqOf t) x ⟨k.val, by omega⟩)
      * Ideal.logistic (Z m c (ix3 (seqOf t) x ⟨512 + k.val, by omega⟩))) e

/-! ## The arrays after the run -/

/-- The array of activated rows. -/
theorem final6 (c : Dev nD) : (dats m 0 c).arrAt 6 (cfgs 0).N
    = outRef (Z m c) (H m c) (WT m c) (BS m c) (GN m c) (SH m c) := by
  refine (dats m 0 c).arrAt_eq_of_covers 6 _ (by decide +kernel) fun t _ y => ?_
  blk_simp
  rw [after0_6]
  have e : ∃ (r : Fin 4) (l : Fin 512), y = ix3 0 r l := by
    idx_vars y
    exact ⟨_, _, congrArg (fun a => ix3 a _ _) (Subsingleton.elim _ _)⟩
  obtain ⟨r, k, e⟩ := e
  rw [show y = ix3 0 r k from e]
  have q : outRef (Z m c) (H m c) (WT m c) (BS m c) (GN m c) (SH m c) ((win0_6.blk t).view.emb (ix3 0 r k))
      = outRef (Z m c) (H m c) (WT m c) (BS m c) (GN m c) (SH m c) (ix3 (seqOf t) r k) := by
    unfold seqOf
    generalize outRef _ _ _ _ _ _ = G
    blk_point [idx t]
  refine (out_at m c t r k).trans (Eq.trans ?_ q.symm)
  have s : ∀ (j : Fin 31) (k : Fin 512), scratch m c t (ix2 ⟨2 + j.val + r.val, by omega⟩ k)
      = joined (Z m c) (H m c) (ix3 (seqOf t) ⟨j.val + r.val, by omega⟩ k) := fun j k =>
    Eq.trans (congrArg (fun x => scratch m c t (ix2 x k)) (Fin.ext (Nat.add_assoc _ _ _)))
      (scratch_at m c t ⟨j.val + r.val, by omega⟩ k)
  simp only [s, taps_block, bias_block, gain_block, shift_block]
  rfl

/-- The array of last rows. -/
theorem final7 (c : Dev nD) : (dats m 0 c).arrAt 7 (cfgs 0).N = tailRef (Z m c) (H m c) := by
  refine (dats m 0 c).arrAt_eq_of_covers 7 _ (by decide +kernel) fun t _ y => ?_
  blk_simp
  rw [after0_7]
  have e : ∃ (r : Fin 32) (l : Fin 512), y = ix3 0 r l := by
    idx_vars y
    exact ⟨_, _, congrArg (fun a => ix3 a _ _) (Subsingleton.elim _ _)⟩
  obtain ⟨r, k, e⟩ := e
  rw [show y = ix3 0 r k from e]
  have q : tailRef (Z m c) (H m c) ((win0_7.blk t).view.emb (ix3 0 r k))
      = tailRef (Z m c) (H m c) (ix3 (seqOf t) r k) := by
    unfold seqOf
    generalize tailRef _ _ = G
    blk_point [idx t]
  have q' : tailRef (Z m c) (H m c) (ix3 (seqOf t) r k)
      = joined (Z m c) (H m c) (ix3 (seqOf t) ⟨2 + r.val, by omega⟩ k) := by
    unfold tailRef
    generalize joined _ _ = G
    generalize seqOf t = n
    pointwise
  refine (tail_at m c t r k).trans (Eq.trans ?_ (q.trans q').symm)
  exact Eq.trans (congrArg (fun x => scratch m c t (ix2 x k)) (Fin.ext (by show 4 + r.val = 2 + (2 + r.val); omega)))
      (scratch_at m c t ⟨2 + r.val, by omega⟩ k)

end Cert.ConvStepClosed

end
-- ==== Proof.Conv.PromptBlock.lean ====
module

public import proofs.«01_k».proof.Proof.Gen.ConvIdeal.Value
public import proofs.«01_k».proof.Proof.Conv.Row
public import Idealize.ShloMosaic.Lib.Pipeline.ReadBack
public import Idealize.ShloMosaic.Lib.WritesUnit

/-! What one grid point of the convolution module leaves, at the prompt's rows. -/

@[expose] public section

set_option maxRecDepth 16384

noncomputable section

open Idealize.ShloMosaic Idealize.ShloMosaic.TcCoe Idealize.SL.Sem
open Idealize.ShloMosaic.Pipeline (Dat)

namespace Cert.ConvClosed

open Cert.ConvIdeal Cert.ConvIdeal.Gen Cert.ConvRow

variable (m : (ℓ : Loc nD τ sig) → Buf (Elt Ideal) ℓ)

/-- The rows that a grid point's 512 rows of the scratch hold. -/
abbrev fresh (c : Dev nD) (t : Fin cfg0.N) : View.Piece (Elt Ideal) S544x512 .f32 :=
  ⟨Rect.unit ![32, 0] ![512, 512] inb_S544x512_S512x512_32_0, k0_pay5 (X0_0 m c t)⟩

/-- The scratch rows of a sequence's first grid point: the padded history, then the gated rows. -/
def scratchA (c : Dev nD) (t : Fin cfg0.N) : Vec Ideal S544x512 .f32 :=
  View.canon (Val := Elt Ideal) (s := S544x512) (e := .f32) [fresh m c t,
    ⟨Rect.unit ![0, 0] ![32, 512] inb_S544x512_S32x512_0_0, k0_pay4 (iblk m c 1 t)⟩]

/-- What the grid point before leaves in the scratch. -/
def before (c : Dev nD) (t : Fin cfg0.N) : Vec Ideal S544x512 .f32 :=
  (outsAt0 m c (t.val - 1) (Nat.lt_of_le_of_lt (Nat.sub_le _ _) t.isLt)).2.2

/-- The scratch rows of a later grid point: what the point before left, then the gated rows. -/
def scratchB (c : Dev nD) (t : Fin cfg0.N) : Vec Ideal S544x512 .f32 :=
  View.read (Elt Ideal) (View.whole cc0_scratch0) ((View.whole cc0_scratch0).writes (Elt Ideal)
    ((Memref.isWhole_whole cc0_scratch0).unread (before m c t)) [fresh m c t])

/-- The activated rows of a scratch. -/
def activated (W : Vec Ideal S544x512 .f32) (w : Vec Ideal S32x512 .f32) (b g l : Vec Ideal S1x512 .f32) (r k : Fin 512) : EReal :=
  act (fun k => taps (fun j => W (ix2 ⟨2 + j.val + r.val, by omega⟩ k)) (fun j => w (ix2 ⟨j.val, by omega⟩ k)) (b (ix2 0 k)))
        (fun k => g (ix2 0 k)) (fun k => l (ix2 0 k)) k

theorem out_A (c : Dev nD) (t : Fin cfg0.N) (h0 : t.val % 16 = 0) (r : Fin 512) (k : Fin 512) :
    (outsAt0 m c t.val t.isLt).1 (ix3 0 r k)
      = activated (scratchA m c t) (iblk m c 2 t) (iblk m c 3 t) (iblk m c 4 t) (iblk m c 5 t) r k := by
  rw [outsAt0_A m c t h0]
  dsimp only
  frame_out
  simp only [load_eq]
  unfold activated
  rw [show View.canon _ = scratchA m c t from rfl]
  generalize scratchA m c t = W
  generalize iblk m c 2 t = w
  generalize iblk m c 3 t = b
  simp only [k0_pay17, k0_pay18, k0_pay19]
  generalize hA : k0_pay16 (F := Ideal) _ _ _ _ _ _ _ _ _ _ = A
  have e : ∀ (r : Fin 512) (k : Fin 512), A (ix2 r k) = taps (fun j => W (ix2 ⟨2 + j.val + r.val, by omega⟩ k))
      (fun j => w (ix2 ⟨j.val, by omega⟩ k)) (b (ix2 0 k)) := by
    intro r k
    rw [← hA]
    unfold taps
    rw [← addUp_eq]
    pointwise [k0_pay6, k0_pay7, k0_pay8, k0_pay9, k0_pay10, k0_pay11, k0_pay12, k0_pay13, k0_pay14, k0_pay15, k0_pay16]
    rfl
  simp only [← e]
  pointwise [k0_pay1, k0_pay20, act, lnorm, mean]

theorem out_B (c : Dev nD) (t : Fin cfg0.N) (h0 : ¬ t.val % 16 = 0) (r : Fin 512) (k : Fin 512) :
    (outsAt0 m c t.val t.isLt).1 (ix3 0 r k)
      = activated (scratchB m c t) (iblk m c 2 t) (iblk m c 3 t) (iblk m c 4 t) (iblk m c 5 t) r k := by
  rw [outsAt0_B m c t h0]
  rw [show (outsAt0 m c (t.val - 1) (Nat.lt_of_le_of_lt (Nat.sub_le _ _) t.isLt)).2.2 = before m c t from rfl]
  dsimp only
  frame_out
  rw [load_last _ ((Memref.isWhole_whole cc0_scratch0).unread (before m c t))]
  unfold activated
  rw [show View.read (Elt Ideal) (View.whole cc0_scratch0) ((View.whole cc0_scratch0).writes (Elt Ideal)
    ((Memref.isWhole_whole cc0_scratch0).unread (before m c t)) [fresh m c t]) = scratchB m c t from rfl]
  generalize scratchB m c t = W
  generalize iblk m c 2 t = w
  generalize iblk m c 3 t = b
  simp only [k0_pay17, k0_pay18, k0_pay19]
  generalize hA : k0_pay16 (F := Ideal) _ _ _ _ _ _ _ _ _ _ = A
  have e : ∀ (r : Fin 512) (k : Fin 512), A (ix2 r k) = taps (fun j => W (ix2 ⟨2 + j.val + r.val, by omega⟩ k))
      (fun j => w (ix2 ⟨j.val, by omega⟩ k)) (b (ix2 0 k)) := by
    intro r k
    rw [← hA]
    unfold taps
    rw [← addUp_eq]
    pointwise [k0_pay6, k0_pay7, k0_pay8, k0_pay9, k0_pay10, k0_pay11, k0_pay12, k0_pay13, k0_pay14, k0_pay15, k0_pay16]
    rfl
  simp only [← e]
  pointwise [k0_pay1, k0_pay20, act, lnorm, mean]

/-- The last 32 rows. -/
theorem tail_at (c : Dev nD) (t : Fin cfg0.N) (r : Fin 32) (k : Fin 512) :
    (outsAt0 m c t.val t.isLt).2.1 (ix3 0 r k) = k0_pay5 (X0_0 m c t) (ix2 ⟨480 + r.val, by omega⟩ k) := by
  have e : ∀ L : List (View.Piece (Elt Ideal) S544x512 .f32), View.canon (fresh m c t :: L) (ix2 (⟨512 + r.val, by omega⟩ : Fin 544) k)
      = k0_pay5 (X0_0 m c t) (ix2 ⟨480 + r.val, by omega⟩ k) := fun L =>
    (rows_in 32 512 inb_S544x512_S512x512_32_0 (k0_pay5 (X0_0 m c t)) L (⟨512 + r.val, by omega⟩ : Fin 544) k
      (by show 32 ≤ 512 + r.val; omega) (by show 512 + r.val < 32 + 512; omega)).trans
    (congrArg (fun x => k0_pay5 (X0_0 m c t) (ix2 x k)) (Fin.ext (by show 512 + r.val - 32 = 480 + r.val; omega)))
  by_cases h0 : t.val % 16 = 0
  · rw [outsAt0_A m c t h0]
    dsimp only
    frame_out
    rw [load_eq]
    refine Eq.trans ?_ (e [⟨Rect.unit ![0, 0] ![32, 512] inb_S544x512_S32x512_0_0, k0_pay4 (iblk m c 1 t)⟩])
    generalize View.canon (Val := Elt Ideal) (s := S544x512) (e := .f32) _ = W
    pointwise [k0_pay3]
  · rw [outsAt0_B m c t h0]
    dsimp only
    frame_out
    rw [load_eq]
    refine Eq.trans ?_ (e [])
    generalize View.canon (Val := Elt Ideal) (s := S544x512) (e := .f32) _ = W
    pointwise [k0_pay3]

/-- What the point leaves in the scratch's first rows. -/
theorem carried (c : Dev nD) (t : Fin cfg0.N) (r : Fin 32) (k : Fin 512) :
    (outsAt0 m c t.val t.isLt).2.2 (ix2 (⟨r.val, by omega⟩ : Fin 544) k) = k0_pay5 (X0_0 m c t) (ix2 ⟨480 + r.val, by omega⟩ k) := by
  have e : ∀ L : List (View.Piece (Elt Ideal) S544x512 .f32), View.canon (fresh m c t :: L) (ix2 (⟨512 + r.val, by omega⟩ : Fin 544) k)
      = k0_pay5 (X0_0 m c t) (ix2 ⟨480 + r.val, by omega⟩ k) := fun L =>
    (rows_in 32 512 inb_S544x512_S512x512_32_0 (k0_pay5 (X0_0 m c t)) L (⟨512 + r.val, by omega⟩ : Fin 544) k
      (by show 32 ≤ 512 + r.val; omega) (by show 512 + r.val < 32 + 512; omega)).trans
    (congrArg (fun x => k0_pay5 (X0_0 m c t) (ix2 x k)) (Fin.ext (by show 512 + r.val - 32 = 480 + r.val; omega)))
  by_cases h0 : t.val % 16 = 0
  · rw [outsAt0_A m c t h0]
    dsimp only
    frame_out
    refine (rows_in (N := 544) (Val := Elt Ideal) (e := .f32) 0 32 inb_S544x512_S32x512_0_0 _ _ (⟨r.val, by omega⟩ : Fin 544) k (Nat.zero_le _) (by show r.val < 0 + 32; omega)).trans ?_
    rw [load_eq]
    refine Eq.trans ?_ (e [⟨Rect.unit ![0, 0] ![32, 512] inb_S544x512_S32x512_0_0, k0_pay4 (iblk m c 1 t)⟩])
    generalize View.canon (Val := Elt Ideal) (s := S544x512) (e := .f32) _ = W
    pointwise [k0_pay2]
  · rw [outsAt0_B m c t h0]
    dsimp only
    frame_out
    refine (rows_in (N := 544) (Val := Elt Ideal) (e := .f32) 0 32 inb_S544x512_S32x512_0_0 _ _ (⟨r.val, by omega⟩ : Fin 544) k (Nat.zero_le _) (by show r.val < 0 + 32; omega)).trans ?_
    rw [load_eq]
    refine Eq.trans ?_ (e [])
    generalize View.canon (Val := Elt Ideal) (s := S544x512) (e := .f32) _ = W
    pointwise [k0_pay2]

/-- The rows of a later point's scratch that the point before left. -/
theorem scratchB_old (c : Dev nD) (t : Fin cfg0.N) (r : Fin 32) (k : Fin 512) :
    scratchB m c t (ix2 (⟨r.val, by omega⟩ : Fin 544) k) = before m c t (ix2 (⟨r.val, by omega⟩ : Fin 544) k) := by
  unfold scratchB
  refine (View.read_writes_cons_rows_of_not_mem (o := 32) (W := 512) _ _ _ _ _ _ rfl rfl (Or.inl (by show r.val < 32; omega))).trans ?_
  exact congrFun (read_unread_whole cc0_scratch0 _ (before m c t)) _

/-- The new rows of a later point's scratch. -/
theorem scratchB_new (c : Dev nD) (t : Fin cfg0.N) (r : Fin 512) (k : Fin 512) :
    scratchB m c t (ix2 (⟨32 + r.val, by omega⟩ : Fin 544) k) = k0_pay5 (X0_0 m c t) (ix2 r k) := by
  unfold scratchB
  exact View.read_writes_cons_rows_of_mem (o := 32) _ _ _ _ _ _ (ix2 r k) rfl rfl rfl

end Cert.ConvClosed

end
-- ==== Proof.Conv.PromptRef.lean ====
module

public import proofs.«01_k».proof.Proof.Gen.RefConvIdeal.Run
public import proofs.«01_k».proof.Proof.Conv.Row

/-! The convolution's reference at an index, at the prompt's rows. -/

@[expose] public section

set_option maxRecDepth 16384

noncomputable section

namespace Cert.ConvRef

open Cert.RefConvIdeal Cert.RefConvIdeal.Gen Cert.RefConvIdeal.Value Cert.ConvRow
open Idealize.ShloMosaic Idealize.ShloMosaic.TcCoe Idealize.SL.Sem Idealize.ShloMosaic.StableHlo

variable (Z : FVec Ideal S2x8192x3328 .f32) (H : FVec Ideal S2x30x512 .f32) (w : FVec Ideal S31x512 .f32)
  (b g l : FVec Ideal S512 .f32)

/-- The gated rows. -/
def gated : FVec Ideal S2x8192x512 .f32 :=
  mulf (extractStridedSlice S2x8192x512 ![0, 0, 0] Z slices_S2x8192x3328_S2x8192x512_0_0_0)
    (Host.divf (broadcastInDim S2x8192x512 ![] bcast_S_S2x8192x512 (constant S_ .f32 0x3F800000#32))
      (addf (broadcastInDim S2x8192x512 ![] bcast_S_S2x8192x512 (constant S_ .f32 0x3F800000#32))
        (Host.exp (Host.negf (extractStridedSlice S2x8192x512 ![0, 0, 512] Z slices_S2x8192x3328_S2x8192x512_0_0_512)))))

/-- The history with the gated rows behind it. -/
def joined : FVec Ideal S2x8222x512 .f32 :=
  concatenate S2x8222x512 1 [⟨S2x30x512, H⟩, ⟨S2x8192x512, gated Z⟩] concatenates_S2x30x512_S2x8192x512_S2x8222x512_d1

/-- The result rows. -/
def outRef : FVec Ideal S2x8192x512 .bf16 := fun i =>
  act (fun k => taps (fun j => joined Z H (ix3 (i 0) ⟨j.val + (i 1).val, by have := (i 1).isLt; simp at this; omega⟩ k))
      (fun j => w (ix2 j k)) (b (ix1 k)))
    (fun k => g (ix1 k)) (fun k => l (ix1 k)) (i 2)

/-- The last 32 rows. -/
def tailRef : FVec Ideal S2x32x512 .f32 :=
  extractStridedSlice S2x32x512 ![0, 8190, 0] (joined Z H) slices_S2x8222x512_S2x32x512_0_8190_0

theorem gated_at (n : Fin 2) (r : Fin 8192) (k : Fin 512) :
    gated Z (ix3 n r k) = Z (ix3 n r ⟨k.val, by omega⟩) * Ideal.logistic (Z (ix3 n r ⟨512 + k.val, by omega⟩)) := by
  pointwise [gated]
  rfl

theorem joined_hist (n : Fin 2) (r : Fin 8222) (h : r.val < 30) (k : Fin 512) :
    joined Z H (ix3 n r k) = H (ix3 n ⟨r.val, h⟩ k) := by
  pointwise [joined]
  rw [dif_pos h]

theorem joined_new (n : Fin 2) (r : Fin 8222) (h : ¬ r.val < 30) (k : Fin 512) :
    joined Z H (ix3 n r k) = gated Z (ix3 n ⟨r.val - 30, by omega⟩ k) := by
  pointwise [joined]
  rw [dif_neg h]

/-- One tap of a channel. -/
def tap (U : FVec Ideal S2x8222x512 .f32) (w : FVec Ideal S31x512 .f32) (n : Fin 2) (r : Fin 8192) (k : Fin 512)
    (j : Fin 31) : EReal :=
  U (ix3 n ⟨j.val + r.val, by omega⟩ k) * w (ix2 j k)

theorem tap_zero (U : FVec Ideal S2x8222x512 .f32) (w : FVec Ideal S31x512 .f32) (n : Fin 2) (r : Fin 8192) (k : Fin 512) :
    U (ix3 n ⟨r.val, by omega⟩ k) * w (ix2 0 k) = tap U w n r k 0 := by
  simp only [tap, Fin.val_zero, zero_add]

variable (V0 : Valuation τ sig (Elt Ideal))

theorem joined_res : res_main_v9 V0 = joined (V0 (Proc.devRef .tc main_arg0)) (V0 (Proc.devRef .tc main_arg1)) := rfl

theorem sum_at (n : Fin 2) (r : Fin 8192) (k : Fin 512) :
    res_main_v230 V0 (ix3 n r k) = taps (fun j => res_main_v9 V0 (ix3 n ⟨j.val + r.val, by omega⟩ k))
      (fun j => V0 (Proc.devRef .tc main_arg2) (ix2 j k)) (V0 (Proc.devRef .tc main_arg3) (ix1 k)) := by
  unfold taps
  generalize hU : (res_main_v9 V0 : FVec Ideal S2x8222x512 .f32) = U
  generalize hw : (V0 (Proc.devRef .tc main_arg2) : FVec Ideal S31x512 .f32) = w
  generalize hb : (V0 (Proc.devRef .tc main_arg3) : FVec Ideal S512 .f32) = b
  trans addUp (tap U w n r k 0) 30 (fun j => tap U w n r k j.succ) + b (ix1 k)
  · pointwise [res_main_v230, res_main_v164, res_main_v87]
    rw [hU, hw, hb]
    exact (congrArg (fun x => addUp x 30 (fun j => tap U w n r k j.succ) + b (ix1 k))
      (tap_zero U w n r k) :)
  · rw [addUp_eq, add_comm, ← Fin.sum_univ_succ]
    simp only [tap, mul_comm]

theorem out_res : truncf .bf16 (mulf (res_main_v254 V0) (Host.divf (broadcastInDim S2x8192x512 ![] bcast_S_S2x8192x512 (constant S_ .f32 0x3F800000#32)) (addf (broadcastInDim S2x8192x512 ![] bcast_S_S2x8192x512 (constant S_ .f32 0x3F800000#32)) (Host.exp (Host.negf (res_main_v254 V0)))))) bitsLt_bf16_f32
    = outRef (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5)) := by
  funext i
  idx_vars i
  unfold outRef
  rw [← joined_res]
  pointwise [res_main_v254, res_main_v236, res_main_v234]
  simp only [sum_at]
  rfl

theorem tail_res : extractStridedSlice S2x32x512 ![0, 8190, 0] (res_main_v9 V0) slices_S2x8222x512_S2x32x512_0_8190_0
    = tailRef (V0 (Proc.devRef .tc main_arg0)) (V0 (Proc.devRef .tc main_arg1)) := by
  rw [joined_res]
  rfl

/-- The first result over a launch's arguments. -/
theorem out_launch (m : (ℓ : Loc nD τ sig) → Buf (Elt Ideal) ℓ) (c : Dev nD)
    {Z : FVec Ideal S2x8192x3328 .f32} {H : FVec Ideal S2x30x512 .f32} {w : FVec Ideal S31x512 .f32} {b g l : FVec Ideal S512 .f32}
    (e0 : m ((c.tc : Thread nD τ).loc main_arg0) = Z) (e1 : m ((c.tc : Thread nD τ).loc main_arg1) = H)
    (e2 : m ((c.tc : Thread nD τ).loc main_arg2) = w) (e3 : m ((c.tc : Thread nD τ).loc main_arg3) = b)
    (e4 : m ((c.tc : Thread nD τ).loc main_arg4) = g) (e5 : m ((c.tc : Thread nD τ).loc main_arg5) = l) :
    truncf .bf16 (mulf (res_main_v254 (launchContents m c)) (Host.divf (broadcastInDim S2x8192x512 ![] bcast_S_S2x8192x512 (constant S_ .f32 0x3F800000#32)) (addf (broadcastInDim S2x8192x512 ![] bcast_S_S2x8192x512 (constant S_ .f32 0x3F800000#32)) (Host.exp (Host.negf (res_main_v254 (launchContents m c))))))) bitsLt_bf16_f32
    = outRef Z H w b g l := by
  subst e0 e1 e2 e3 e4 e5
  exact out_res (launchContents m c)

/-- The second result over a launch's arguments. -/
theorem tail_launch (m : (ℓ : Loc nD τ sig) → Buf (Elt Ideal) ℓ) (c : Dev nD)
    {Z : FVec Ideal S2x8192x3328 .f32} {H : FVec Ideal S2x30x512 .f32}
    (e0 : m ((c.tc : Thread nD τ).loc main_arg0) = Z) (e1 : m ((c.tc : Thread nD τ).loc main_arg1) = H) :
    extractStridedSlice S2x32x512 ![0, 8190, 0] (res_main_v9 (launchContents m c)) slices_S2x8222x512_S2x32x512_0_8190_0 = tailRef Z H := by
  subst e0 e1
  exact tail_res (launchContents m c)

end Cert.ConvRef

end
-- ==== Proof.Conv.PromptValue.lean ====
module

public import proofs.«01_k».proof.Proof.Conv.PromptBlock
public import proofs.«01_k».proof.Proof.Conv.PromptRef

/-! At the prompt's rows, the two arrays that the convolution module leaves are the reference's. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.ConvClosed

open Cert.ConvIdeal Cert.ConvIdeal.Gen Cert.ConvRow
open Cert.ConvRef (joined gated outRef tailRef gated_at joined_hist joined_new)

variable (m : (ℓ : Loc nD τ sig) → Buf (Elt Ideal) ℓ)

/-- The projected rows. -/
abbrev Z (c : Dev nD) : FVec Ideal S2x8192x3328 .f32 := m ((c : Thread nD τ).loc main_arg0)
/-- The history. -/
abbrev H (c : Dev nD) : FVec Ideal S2x30x512 .f32 := m ((c : Thread nD τ).loc main_arg1)
/-- The taps. -/
abbrev WT (c : Dev nD) : FVec Ideal S31x512 .f32 := m ((c : Thread nD τ).loc main_arg2)
/-- The bias. -/
abbrev BS (c : Dev nD) : FVec Ideal S512 .f32 := m ((c : Thread nD τ).loc main_arg3)
/-- The norm's gain. -/
abbrev GN (c : Dev nD) : FVec Ideal S512 .f32 := m ((c : Thread nD τ).loc main_arg4)
/-- The norm's shift. -/
abbrev SH (c : Dev nD) : FVec Ideal S512 .f32 := m ((c : Thread nD τ).loc main_arg5)

/-! ## What the windows hold -/

theorem V_hist (c : Dev nD) : V m c main_v0 = pad S2x32x512 ![0, 2, 0] ![0, 0, 0] ![0, 0, 0] (H m c)
    (sitofp (F := Ideal) .f32 (constantI S_ 32 0#32)) pads_S2x30x512_S2x32x512_000_200_000 h_S_ := by
  unfold V
  simp only [hostOps0, hostOps0_1, hostOps0_2, hostOps0_3, hostOps0_4, List.flatten_cons, List.flatten_nil, List.append_nil,
    List.cons_append, List.nil_append]
  after_results_simp
  rfl

theorem V_taps (c : Dev nD) : V m c main_v1 = pad S32x512 ![0, 0] ![1, 0] ![0, 0] (WT m c)
    (sitofp (F := Ideal) .f32 (constantI S_ 32 0#32)) pads_S31x512_S32x512_010_000 h_S_ := by
  unfold V
  simp only [hostOps0, hostOps0_1, hostOps0_2, hostOps0_3, hostOps0_4, List.flatten_cons, List.flatten_nil, List.append_nil,
    List.cons_append, List.nil_append]
  after_results_simp
  rfl

theorem V_row (c : Dev nD) : V m c main_v2 = shapeCast S1x512 (BS m c) shapeCasts_S512_S1x512
    ∧ V m c main_v3 = shapeCast S1x512 (GN m c) shapeCasts_S512_S1x512
    ∧ V m c main_v4 = shapeCast S1x512 (SH m c) shapeCasts_S512_S1x512 := by
  unfold V
  simp only [hostOps0, hostOps0_1, hostOps0_2, hostOps0_3, hostOps0_4, List.flatten_cons, List.flatten_nil, List.append_nil,
    List.cons_append, List.nil_append]
  refine ⟨?_, ?_, ?_⟩
  · after_results_simp
    rfl
  · after_results_simp
    rfl
  · after_results_simp
    rfl

/-- Which block every window holds at a grid point. -/
theorem idx : ∀ t : Fin cfg0.N, win0_0.index t = ![t.val / 16, t.val % 16, 0] ∧ win0_1.index t = ![t.val / 16, 0, 0]
    ∧ win0_2.index t = ![0, 0] ∧ win0_3.index t = ![0, 0] ∧ win0_4.index t = ![0, 0]
    ∧ win0_5.index t = ![0, 0] ∧ win0_6.index t = ![t.val / 16, t.val % 16, 0] ∧ win0_7.index t = ![t.val / 16, 0, 0] :=
  (by decide +kernel : ∀ t : Fin grid0.N, _)

theorem pt_lt (t : Fin cfg0.N) : t.val < 32 := t.isLt

/-- The sequence of a grid point. -/
def seqOf (t : Fin cfg0.N) : Fin 2 := ⟨t.val / 16, by have := pt_lt t; omega⟩

/-- The place in its sequence of a grid point's row. -/
def rowOf (t : Fin cfg0.N) (r : Fin 512) : Fin 8192 := ⟨t.val % 16 * 512 + r.val, by omega⟩

theorem z_block (c : Dev nD) (t : Fin cfg0.N) (r : Fin 512) (k : Fin 1024) :
    X0_0 m c t (ix3 0 r k) = Z m c (ix3 (seqOf t) (rowOf t r) ⟨k.val, by omega⟩) := by
  unfold X0_0 Pipeline.Window.fill
  rw [dif_pos (moved0_0 t _)]
  unfold seqOf rowOf
  blk_point [iblk, V_main_arg0, idx t]

theorem hist_block (c : Dev nD) (t : Fin cfg0.N) (r : Fin 32) (h : 2 ≤ r.val) (k : Fin 512) :
    iblk m c 1 t (ix3 0 r k) = H m c (ix3 (seqOf t) ⟨r.val - 2, by omega⟩ k) := by
  trans V m c main_v0 (ix3 (seqOf t) r k)
  · unfold seqOf
    blk_point [iblk, idx t]
  · rw [V_hist]
    pointwise
    exact dif_pos ⟨h, by omega⟩

theorem taps_block (c : Dev nD) (t : Fin cfg0.N) (j : Fin 31) (k : Fin 512) :
    iblk m c 2 t (ix2 ⟨j.val, by omega⟩ k) = WT m c (ix2 j k) := by
  trans V m c main_v1 (ix2 ⟨j.val, by omega⟩ k)
  · blk_point [iblk, idx t]
  · rw [V_taps]
    pointwise

theorem bias_block (c : Dev nD) (t : Fin cfg0.N) (k : Fin 512) : iblk m c 3 t (ix2 0 k) = BS m c (ix1 k) := by
  trans V m c main_v2 (ix2 0 k)
  · blk_point [iblk, idx t]
  · rw [(V_row m c).1]
    pointwise

theorem gain_block (c : Dev nD) (t : Fin cfg0.N) (k : Fin 512) : iblk m c 4 t (ix2 0 k) = GN m c (ix1 k) := by
  trans V m c main_v3 (ix2 0 k)
  · blk_point [iblk, idx t]
  · rw [(V_row m c).2.1]
    pointwise

theorem shift_block (c : Dev nD) (t : Fin cfg0.N) (k : Fin 512) : iblk m c 5 t (ix2 0 k) = SH m c (ix1 k) := by
  trans V m c main_v4 (ix2 0 k)
  · blk_point [iblk, idx t]
  · rw [(V_row m c).2.2]
    pointwise

/-! ## The scratch rows -/

theorem hist_pay (x : Vec Ideal S1x32x512 .f32) (r : Fin 32) (k : Fin 512) :
    k0_pay4 (F := Ideal) x (ix2 r k) = x (ix3 0 r k) := by
  pointwise [k0_pay4]

theorem gated_pay (x : Vec Ideal S1x512x1024 .f32) (r : Fin 512) (k : Fin 512) :
    k0_pay5 (F := Ideal) x (ix2 r k) = x (ix3 0 r ⟨k.val, by omega⟩) * Ideal.logistic (x (ix3 0 r ⟨512 + k.val, by omega⟩)) := by
  pointwise [k0_pay5]

/-- The reference's joined row at a place. -/
theorem joined_congr (c : Dev nD) (n n' : Fin 2) (r r' : Fin 8222) (k : Fin 512) (h : n.val = n'.val) (h' : r.val = r'.val) :
    joined (Z m c) (H m c) (ix3 n r k) = joined (Z m c) (H m c) (ix3 n' r' k) := by
  rw [Fin.ext h, Fin.ext h']

/-- A grid point's new rows are the reference's. -/
theorem fresh_at (c : Dev nD) (t : Fin cfg0.N) (r : Fin 512) (k : Fin 512) :
    k0_pay5 (F := Ideal) (X0_0 m c t) (ix2 r k)
      = joined (Z m c) (H m c) (ix3 (seqOf t) ⟨30 + (t.val % 16 * 512 + r.val), by omega⟩ k) := by
  rw [gated_pay, z_block, z_block, joined_new _ _ _ _ (by show ¬ 30 + (t.val % 16 * 512 + r.val) < 30; omega), gated_at]
  have e : rowOf t r = ⟨30 + (t.val % 16 * 512 + r.val) - 30, by omega⟩ :=
    Fin.ext (by show t.val % 16 * 512 + r.val = 30 + (t.val % 16 * 512 + r.val) - 30; omega)
  exact congrArg (fun x => Z m c (ix3 (seqOf t) x ⟨k.val, by omega⟩)
    * Ideal.logistic (Z m c (ix3 (seqOf t) x ⟨512 + k.val, by omega⟩))) e

/-- At a sequence's first point the scratch holds, from its third row on, the reference's joined rows. -/
theorem scratchA_at (c : Dev nD) (t : Fin cfg0.N) (h0 : t.val % 16 = 0) (r : Fin 542) (k : Fin 512) :
    scratchA m c t (ix2 ⟨2 + r.val, by omega⟩ k)
      = joined (Z m c) (H m c) (ix3 (seqOf t) ⟨t.val % 16 * 512 + r.val, by omega⟩ k) := by
  unfold scratchA
  by_cases h : r.val < 30
  · rw [rows_off 32 512 _ _ _ _ _ (Or.inl (by show 2 + r.val < 32; omega)),
      rows_in 0 32 _ _ _ _ _ (Nat.zero_le _) (by show 2 + r.val < 0 + 32; omega), hist_pay,
      hist_block m c t _ (by show 2 ≤ 2 + r.val - 0; omega),
      joined_hist _ _ _ _ (by show t.val % 16 * 512 + r.val < 30; omega)]
    exact congrArg (fun x => H m c (ix3 (seqOf t) x k))
      (Fin.ext (by show 2 + r.val - 0 - 2 = t.val % 16 * 512 + r.val; omega))
  · rw [rows_in 32 512 _ _ _ _ _ (by show 32 ≤ 2 + r.val; omega) (by show 2 + r.val < 32 + 512; omega), fresh_at]
    exact joined_congr m c _ _ _ _ _ rfl
      (by show 30 + (t.val % 16 * 512 + (2 + r.val - 32)) = t.val % 16 * 512 + r.val; omega)

/-- At a later point too: the point before left the rows above. -/
theorem scratchB_at (c : Dev nD) (t : Fin cfg0.N) (h0 : ¬ t.val % 16 = 0) (r : Fin 542) (k : Fin 512) :
    scratchB m c t (ix2 ⟨2 + r.val, by omega⟩ k)
      = joined (Z m c) (H m c) (ix3 (seqOf t) ⟨t.val % 16 * 512 + r.val, by omega⟩ k) := by
  by_cases h : r.val < 30
  · have p := pt_lt t
    refine (scratchB_old m c t ⟨2 + r.val, by omega⟩ k).trans ?_
    refine (carried m c ⟨t.val - 1, Nat.lt_of_le_of_lt (Nat.sub_le _ _) t.isLt⟩ ⟨2 + r.val, by omega⟩ k).trans ?_
    rw [fresh_at]
    exact joined_congr m c _ _ _ _ _ (by show (t.val - 1) / 16 = t.val / 16; omega)
      (by show 30 + ((t.val - 1) % 16 * 512 + (480 + (2 + r.val))) = t.val % 16 * 512 + r.val; omega)
  · refine Eq.trans (congrArg (fun x => scratchB m c t (ix2 x k)) (Fin.ext (by show 2 + r.val = 32 + (r.val - 30); omega)))
      ((scratchB_new m c t ⟨r.val - 30, by omega⟩ k).trans ?_)
    rw [fresh_at]
    exact joined_congr m c _ _ _ _ _ rfl (by show 30 + (t.val % 16 * 512 + (r.val - 30)) = t.val % 16 * 512 + r.val; omega)

/-- Over such a scratch, the activated rows are the reference's. -/
theorem activated_at (c : Dev nD) (t : Fin cfg0.N) (W : Vec Ideal S544x512 .f32)
    (hW : ∀ (r : Fin 542) (k : Fin 512), W (ix2 ⟨2 + r.val, by omega⟩ k)
      = joined (Z m c) (H m c) (ix3 (seqOf t) ⟨t.val % 16 * 512 + r.val, by omega⟩ k)) (r : Fin 512) (k : Fin 512) :
    activated W (iblk m c 2 t) (iblk m c 3 t) (iblk m c 4 t) (iblk m c 5 t) r k
      = outRef (Z m c) (H m c) (WT m c) (BS m c) (GN m c) (SH m c) (ix3 (seqOf t) (rowOf t r) k) := by
  have s : ∀ (j : Fin 31) (k : Fin 512), W (ix2 ⟨2 + j.val + r.val, by omega⟩ k)
      = joined (Z m c) (H m c) (ix3 (seqOf t) ⟨j.val + (rowOf t r).val, by omega⟩ k) := fun j k =>
    (congrArg (fun x => W (ix2 x k)) (Fin.ext (Nat.add_assoc _ _ _))).trans
      ((hW ⟨j.val + r.val, by omega⟩ k).trans
        (joined_congr m c _ _ _ _ _ rfl (by show t.val % 16 * 512 + (j.val + r.val) = j.val + (t.val % 16 * 512 + r.val); omega)))
  unfold activated
  simp only [s, taps_block, bias_block, gain_block, shift_block]
  rfl

/-! ## The arrays after the run -/

/-- The array of activated rows. -/
theorem final6 (c : Dev nD) : (dats m 0 c).arrAt 6 (cfgs 0).N
    = outRef (Z m c) (H m c) (WT m c) (BS m c) (GN m c) (SH m c) := by
  refine (dats m 0 c).arrAt_eq_of_covers 6 _ (by decide +kernel) fun t _ y => ?_
  blk_simp
  rw [after0_6]
  have e : ∃ (r : Fin 512) (l : Fin 512), y = ix3 0 r l := by
    idx_vars y
    exact ⟨_, _, congrArg (fun a => ix3 a _ _) (Subsingleton.elim _ _)⟩
  obtain ⟨r, k, e⟩ := e
  rw [show y = ix3 0 r k from e]
  have q : outRef (Z m c) (H m c) (WT m c) (BS m c) (GN m c) (SH m c) ((win0_6.blk t).view.emb (ix3 0 r k))
      = outRef (Z m c) (H m c) (WT m c) (BS m c) (GN m c) (SH m c) (ix3 (seqOf t) (rowOf t r) k) := by
    unfold seqOf rowOf
    generalize outRef _ _ _ _ _ _ = G
    blk_point [idx t]
  refine Eq.trans ?_ q.symm
  by_cases h0 : t.val % 16 = 0
  · exact (out_A m c t h0 r k).trans (activated_at m c t _ (scratchA_at m c t h0) r k)
  · exact (out_B m c t h0 r k).trans (activated_at m c t _ (scratchB_at m c t h0) r k)

/-- The array of last rows: only a sequence's last point leaves them. -/
theorem final7 (c : Dev nD) : (dats m 0 c).arrAt 7 (cfgs 0).N = tailRef (Z m c) (H m c) := by
  refine (dats m 0 c).arrAt_eq_of_covers 7 _ (by decide +kernel) fun t hf y => ?_
  have h15 : t.val % 16 = 15 := (flush0_7 t).mp hf
  blk_simp
  rw [after0_7]
  have e : ∃ (r : Fin 32) (l : Fin 512), y = ix3 0 r l := by
    idx_vars y
    exact ⟨_, _, congrArg (fun a => ix3 a _ _) (Subsingleton.elim _ _)⟩
  obtain ⟨r, k, e⟩ := e
  rw [show y = ix3 0 r k from e]
  have q : tailRef (Z m c) (H m c) ((win0_7.blk t).view.emb (ix3 0 r k))
      = tailRef (Z m c) (H m c) (ix3 (seqOf t) r k) := by
    unfold seqOf
    generalize tailRef _ _ = G
    blk_point [idx t]
  have q' : tailRef (Z m c) (H m c) (ix3 (seqOf t) r k)
      = joined (Z m c) (H m c) (ix3 (seqOf t) ⟨8190 + r.val, by omega⟩ k) := by
    unfold tailRef
    generalize joined _ _ = G
    generalize seqOf t = n
    pointwise
  refine (tail_at m c t r k).trans (Eq.trans ?_ (q.trans q').symm)
  rw [fresh_at]
  exact joined_congr m c _ _ _ _ _ rfl (by show 30 + (t.val % 16 * 512 + (480 + r.val)) = 8190 + r.val; omega)

end Cert.ConvClosed

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.RefFfnIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.RefProjIdeal
public import proofs.«01_k».proof.Proof.Gen.FfnIdeal.Value
public import proofs.«01_k».proof.Proof.Gen.RefFfnIdeal.Run
public import proofs.«01_k».proof.Proof.Gen.ProjIdeal.Value
public import proofs.«01_k».proof.Proof.Gen.RefProjIdeal.Run
public import proofs.«01_k».proof.Proof.FfnValue
public import proofs.«01_k».proof.Proof.ProjValue
public import proofs.«01_k».proof.Proof.Gen.FfnCd
public import proofs.«01_k».proof.Proof.Gen.FfnCd.Skeleton
public import proofs.«01_k».proof.Proof.Gen.FfnCd.Launch
public import proofs.«01_k».proof.Proof.Gen.FfnCd.Points
public import proofs.«01_k».proof.Proof.Gen.FfnCd.Frame
public import proofs.«01_k».proof.Proof.Gen.FfnCdIdeal
public import proofs.«01_k».proof.Proof.Gen.FfnCdIdeal.Skeleton
public import proofs.«01_k».proof.Proof.Gen.FfnCdIdeal.Launch
public import proofs.«01_k».proof.Proof.Gen.FfnCdIdeal.Points
public import proofs.«01_k».proof.Proof.Gen.FfnCdIdeal.Frame
public import proofs.«01_k».proof.Proof.Gen.RefFfnCdIdeal
public import proofs.«01_k».proof.Proof.Gen.FfnCdIdeal.Value
public import proofs.«01_k».proof.Proof.Gen.RefFfnCdIdeal.Run
public import proofs.«01_k».proof.Proof.FfnCdValue
public import proofs.«01_k».proof.Proof.Gen.ProjCd
public import proofs.«01_k».proof.Proof.Gen.ProjCd.Skeleton
public import proofs.«01_k».proof.Proof.Gen.ProjCd.Launch
public import proofs.«01_k».proof.Proof.Gen.ProjCd.Points
public import proofs.«01_k».proof.Proof.Gen.ProjCd.Frame
public import proofs.«01_k».proof.Proof.Gen.ProjCdIdeal
public import proofs.«01_k».proof.Proof.Gen.ProjCdIdeal.Skeleton
public import proofs.«01_k».proof.Proof.Gen.ProjCdIdeal.Launch
public import proofs.«01_k».proof.Proof.Gen.ProjCdIdeal.Points
public import proofs.«01_k».proof.Proof.Gen.ProjCdIdeal.Frame
public import proofs.«01_k».proof.Proof.Gen.RefProjCdIdeal
public import proofs.«01_k».proof.Proof.Gen.ProjCdIdeal.Value
public import proofs.«01_k».proof.Proof.Gen.RefProjCdIdeal.Run
public import proofs.«01_k».proof.Proof.ProjCdValue
public import proofs.«01_k».proof.Proof.Gen.Win0
public import proofs.«01_k».proof.Proof.Gen.Win0.Skeleton
public import proofs.«01_k».proof.Proof.Gen.Win0.Launch
public import proofs.«01_k».proof.Proof.Gen.Win0.Points
public import proofs.«01_k».proof.Proof.Gen.Win0.Frame
public import proofs.«01_k».proof.Proof.Gen.Win0Ideal
public import proofs.«01_k».proof.Proof.Gen.Win0Ideal.Skeleton
public import proofs.«01_k».proof.Proof.Gen.Win0Ideal.Launch
public import proofs.«01_k».proof.Proof.Gen.Win0Ideal.Points
public import proofs.«01_k».proof.Proof.Gen.Win0Ideal.Frame
public import proofs.«01_k».proof.Proof.Gen.Win0Ideal.Value
public import proofs.«01_k».proof.Proof.Gen.RefWin0Ideal
public import proofs.«01_k».proof.Proof.Gen.RefWin0Ideal.Run
public import proofs.«01_k».proof.Proof.Win.Value
public import proofs.«01_k».proof.Proof.Gen.FfnStep
public import proofs.«01_k».proof.Proof.Gen.FfnStep.Skeleton
public import proofs.«01_k».proof.Proof.Gen.FfnStep.Launch
public import proofs.«01_k».proof.Proof.Gen.FfnStep.Points
public import proofs.«01_k».proof.Proof.Gen.FfnStep.Frame
public import proofs.«01_k».proof.Proof.Gen.FfnStepIdeal
public import proofs.«01_k».proof.Proof.Gen.FfnStepIdeal.Skeleton
public import proofs.«01_k».proof.Proof.Gen.FfnStepIdeal.Launch
public import proofs.«01_k».proof.Proof.Gen.FfnStepIdeal.Points
public import proofs.«01_k».proof.Proof.Gen.FfnStepIdeal.Frame
public import proofs.«01_k».proof.Proof.Gen.FfnStepIdeal.Value
public import proofs.«01_k».proof.Proof.Gen.RefFfnStepIdeal
public import proofs.«01_k».proof.Proof.Gen.RefFfnStepIdeal.Run
public import proofs.«01_k».proof.Proof.Gen.ProjStep
public import proofs.«01_k».proof.Proof.Gen.ProjStep.Skeleton
public import proofs.«01_k».proof.Proof.Gen.ProjStep.Launch
public import proofs.«01_k».proof.Proof.Gen.ProjStep.Points
public import proofs.«01_k».proof.Proof.Gen.ProjStep.Frame
public import proofs.«01_k».proof.Proof.Gen.ProjStepIdeal
public import proofs.«01_k».proof.Proof.Gen.ProjStepIdeal.Skeleton
public import proofs.«01_k».proof.Proof.Gen.ProjStepIdeal.Launch
public import proofs.«01_k».proof.Proof.Gen.ProjStepIdeal.Points
public import proofs.«01_k».proof.Proof.Gen.ProjStepIdeal.Frame
public import proofs.«01_k».proof.Proof.Gen.ProjStepIdeal.Value
public import proofs.«01_k».proof.Proof.Gen.RefProjStepIdeal
public import proofs.«01_k».proof.Proof.Gen.RefProjStepIdeal.Run
public import proofs.«01_k».proof.Proof.FfnStepValue
public import proofs.«01_k».proof.Proof.ProjStepValue
public import proofs.«01_k».proof.Proof.Gen.AbQkv
public import proofs.«01_k».proof.Proof.Gen.AbQkv.Skeleton
public import proofs.«01_k».proof.Proof.Gen.AbQkv.Launch
public import proofs.«01_k».proof.Proof.Gen.AbQkv.Points
public import proofs.«01_k».proof.Proof.Gen.AbQkv.Frame
public import proofs.«01_k».proof.Proof.Gen.AbQkvIdeal
public import proofs.«01_k».proof.Proof.Gen.AbQkvIdeal.Skeleton
public import proofs.«01_k».proof.Proof.Gen.AbQkvIdeal.Launch
public import proofs.«01_k».proof.Proof.Gen.AbQkvIdeal.Points
public import proofs.«01_k».proof.Proof.Gen.AbQkvIdeal.Frame
public import proofs.«01_k».proof.Proof.Gen.AbQkvIdeal.Value
public import proofs.«01_k».proof.Proof.Gen.RefAbQkvIdeal
public import proofs.«01_k».proof.Proof.Gen.RefAbQkvIdeal.Run
public import proofs.«01_k».proof.Proof.Ab.Value
public import proofs.«01_k».proof.Proof.Conv.StepValue
public import proofs.«01_k».proof.Proof.Conv.PromptValue
public import proofs.«01_k».proof.Proof.Gen.ConvStep
public import proofs.«01_k».proof.Proof.Gen.ConvStep.Skeleton
public import proofs.«01_k».proof.Proof.Gen.ConvStep.Launch
public import proofs.«01_k».proof.Proof.Gen.ConvStep.Points
public import proofs.«01_k».proof.Proof.Gen.ConvStep.Frame
public import proofs.«01_k».proof.Proof.Gen.ConvStepIdeal
public import proofs.«01_k».proof.Proof.Gen.ConvStepIdeal.Skeleton
public import proofs.«01_k».proof.Proof.Gen.ConvStepIdeal.Launch
public import proofs.«01_k».proof.Proof.Gen.ConvStepIdeal.Points
public import proofs.«01_k».proof.Proof.Gen.ConvStepIdeal.Frame
public import proofs.«01_k».proof.Proof.Gen.ConvStepIdeal.Value
public import proofs.«01_k».proof.Proof.Gen.RefConvStepIdeal
public import proofs.«01_k».proof.Proof.Gen.RefConvStepIdeal.Run
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.RefConvIdeal
public import proofs.«01_k».proof.Proof.Gen.RefConvIdeal.Run
public import Idealize.ShloMosaic.Lib.Claim
public import Idealize.ShloMosaic.Adequacy
public import Idealize.ShloMosaic.Init

@[expose] public section

noncomputable section

namespace Cert.Proof

open Idealize.ShloMosaic Idealize.SL.Sem

/-- The feed-forward kernel's array is the reference's. -/
theorem algebraic_ffn : Cert.algebraic_FfnIdeal_RefFfnIdeal := by
  pair_intro
  · run_from Cert.FfnIdeal.Gen.run_main m g
  · run_from Cert.RefFfnIdeal.Value.run (F := Ideal) m' g'
    rw [Cert.FfnClosed.res_eq]
    obtain ⟨e0, e1, e2, e3, e4, e5, e6, e7⟩ := hagree c
    rw [e0, e1, e2, e3, e4, e5, e6, e7]
    exact (Cert.FfnClosed.final m c).symm

/-- The projection kernel's array is the reference's. -/
theorem algebraic_proj : Cert.algebraic_ProjIdeal_RefProjIdeal := by
  pair_intro
  · run_from Cert.ProjIdeal.Gen.run_main m g
  · hlo_run
    exact (Cert.ProjIdeal.Closed.final m c).symm

/-- With mixers of 512 and 512 columns, the feed-forward kernel's array is the reference's. -/
theorem algebraic_ffn_cd : Cert.algebraic_FfnCdIdeal_RefFfnCdIdeal := by
  pair_intro
  · run_from Cert.FfnCdIdeal.Gen.run_main m g
  · run_from Cert.RefFfnCdIdeal.Value.run (F := Ideal) m' g'
    rw [Cert.FfnCdClosed.res_eq]
    obtain ⟨e0, e1, e2, e3, e4, e5, e6, e7⟩ := hagree c
    rw [e0, e1, e2, e3, e4, e5, e6, e7]
    exact (Cert.FfnCdClosed.final m c).symm

/-- With 3456 columns, the projection kernel's array is the reference's. -/
theorem algebraic_proj_cd : Cert.algebraic_ProjCdIdeal_RefProjCdIdeal := by
  pair_intro
  · run_from Cert.ProjCdIdeal.Gen.run_main m g
  · hlo_run
    exact (Cert.ProjCdIdeal.Closed.final m c).symm

/-- The window attention's output and logarithms are the reference's. -/
theorem algebraic_win0 : Cert.algebraic_Win0Ideal_RefWin0Ideal_pre_finite_scores := by
  intro m g m' g' hpre hagree
  have H := fun c => Cert.WinClosed.arguments _ _ _ (hpre c)
  refine ⟨fun c => Cert.WinRef.outRef
      (m ((c.tc : Thread Cert.Win0Ideal.nD Cert.Win0Ideal.τ).loc Cert.Win0Ideal.main_arg0))
      (m ((c.tc : Thread Cert.Win0Ideal.nD Cert.Win0Ideal.τ).loc Cert.Win0Ideal.main_arg1))
      (m ((c.tc : Thread Cert.Win0Ideal.nD Cert.Win0Ideal.τ).loc Cert.Win0Ideal.main_arg2)),
    fun c => Cert.WinRef.lseRef
      (m ((c.tc : Thread Cert.Win0Ideal.nD Cert.Win0Ideal.τ).loc Cert.Win0Ideal.main_arg0))
      (m ((c.tc : Thread Cert.Win0Ideal.nD Cert.Win0Ideal.τ).loc Cert.Win0Ideal.main_arg1))
      (m ((c.tc : Thread Cert.Win0Ideal.nD Cert.Win0Ideal.τ).loc Cert.Win0Ideal.main_arg2)),
    (θ_run Cert.Win0Ideal.defs _ _).mono (fun r h c => ?_) (Cert.Win0Ideal.Value.run_blocks m g),
    (θ_run Cert.RefWin0Ideal.defs _ _).mono (fun r h c => ?_) (Cert.RefWin0Ideal.Value.run (F := Ideal) m' g')⟩
  · obtain ⟨h0, h1, ha⟩ := h c
    exact ⟨h0.trans (Cert.WinClosed.final4 m c (H c)), h1.trans (Cert.WinClosed.final5 m c (H c)), ha⟩
  · obtain ⟨h0, h1, ha⟩ := h c
    obtain ⟨e0, e1, e2⟩ := hagree c
    have r0 := Cert.WinRef.res0_eq m' c
    have r1 := Cert.WinRef.res1_eq m' c
    rw [e0, e1, e2] at r0 r1
    exact ⟨h0.trans r0, h1.trans r1, ha⟩

/-- At the sample's rows, the feed-forward kernel's array is the reference's. -/
theorem algebraic_ffn_step : Cert.algebraic_FfnStepIdeal_RefFfnStepIdeal := by
  pair_intro
  · run_from Cert.FfnStepIdeal.Gen.run_main m g
  · run_from Cert.RefFfnStepIdeal.Value.run (F := Ideal) m' g'
    rw [Cert.FfnStepClosed.res_eq]
    obtain ⟨e0, e1, e2, e3, e4, e5, e6, e7⟩ := hagree c
    rw [e0, e1, e2, e3, e4, e5, e6, e7]
    exact (Cert.FfnStepClosed.final m c).symm

/-- At the sample's rows, the projection kernel's array is the reference's. -/
theorem algebraic_proj_step : Cert.algebraic_ProjStepIdeal_RefProjStepIdeal := by
  pair_intro
  · run_from Cert.ProjStepIdeal.Gen.run_main m g
  · hlo_run
    exact (Cert.ProjStepIdeal.Closed.final m c).symm

/-- Where the queries' and keys' columns hold real numbers, the head norm's two arrays are the reference's. -/
theorem algebraic_ab : Cert.algebraic_AbQkvIdeal_RefAbQkvIdeal_pre_finite_heads := by
  intro m g m' g' hpre hagree
  have H := fun c => Cert.AbClosed.heads _ _ _ (hpre c)
  refine ⟨fun c => Cert.AbRef.qRef
      (m ((c.tc : Thread Cert.AbQkvIdeal.nD Cert.AbQkvIdeal.τ).loc Cert.AbQkvIdeal.main_arg0))
      (m ((c.tc : Thread Cert.AbQkvIdeal.nD Cert.AbQkvIdeal.τ).loc Cert.AbQkvIdeal.main_arg1)),
    fun c => Cert.AbRef.kvRef
      (m ((c.tc : Thread Cert.AbQkvIdeal.nD Cert.AbQkvIdeal.τ).loc Cert.AbQkvIdeal.main_arg0))
      (m ((c.tc : Thread Cert.AbQkvIdeal.nD Cert.AbQkvIdeal.τ).loc Cert.AbQkvIdeal.main_arg2)),
    (θ_run Cert.AbQkvIdeal.defs _ _).mono (fun r h c => ?_) (Cert.AbQkvIdeal.Value.run_blocks m g),
    (θ_run Cert.RefAbQkvIdeal.defs _ _).mono (fun r h c => ?_) (Cert.RefAbQkvIdeal.Value.run (F := Ideal) m' g')⟩
  · obtain ⟨h0, h1, ha⟩ := h c
    exact ⟨h0.trans (Cert.AbClosed.final6 m c (H c)), h1.trans (Cert.AbClosed.final7 m c (H c)), ha⟩
  · obtain ⟨h0, h1, ha⟩ := h c
    obtain ⟨e0, e1, e2⟩ := hagree c
    have r1 := Cert.AbRef.kv_res m' c
    rw [e0, e2] at r1
    rw [e0, e1] at h0
    exact ⟨h0, h1.trans r1, ha⟩

theorem algebraic_conv_step : Cert.algebraic_ConvStepIdeal_RefConvStepIdeal := by
  intro m g m' g' _ hagree
  refine ⟨fun c => Cert.ConvStepRef.outRef (Cert.ConvStepClosed.Z m c) (Cert.ConvStepClosed.H m c) (Cert.ConvStepClosed.WT m c) (Cert.ConvStepClosed.BS m c) (Cert.ConvStepClosed.GN m c) (Cert.ConvStepClosed.SH m c),
    fun c => Cert.ConvStepRef.tailRef (Cert.ConvStepClosed.Z m c) (Cert.ConvStepClosed.H m c),
    (θ_run Cert.ConvStepIdeal.defs _ _).mono (fun r h c => ?_) (Cert.ConvStepIdeal.Value.run_blocks m g),
    (θ_run Cert.RefConvStepIdeal.defs _ _).mono (fun r h c => ?_) (Cert.RefConvStepIdeal.Value.run (F := Ideal) m' g')⟩
  · obtain ⟨h0, h1, ha⟩ := h c
    exact ⟨h0.trans (Cert.ConvStepClosed.final6 m c), h1.trans (Cert.ConvStepClosed.final7 m c), ha⟩
  · obtain ⟨h0, h1, ha⟩ := h c
    obtain ⟨e0, e1, e2, e3, e4, e5⟩ := hagree c
    exact ⟨h0.trans (Cert.ConvStepRef.out_launch m' c e0 e1 e2 e3 e4 e5), h1.trans (Cert.ConvStepRef.tail_launch m' c e0 e1), ha⟩

theorem algebraic_conv : Cert.algebraic_ConvIdeal_RefConvIdeal := by
  intro m g m' g' _ hagree
  refine ⟨fun c => Cert.ConvRef.outRef (Cert.ConvClosed.Z m c) (Cert.ConvClosed.H m c) (Cert.ConvClosed.WT m c) (Cert.ConvClosed.BS m c) (Cert.ConvClosed.GN m c) (Cert.ConvClosed.SH m c),
    fun c => Cert.ConvRef.tailRef (Cert.ConvClosed.Z m c) (Cert.ConvClosed.H m c),
    (θ_run Cert.ConvIdeal.defs _ _).mono (fun r h c => ?_) (Cert.ConvIdeal.Value.run_blocks m g),
    (θ_run Cert.RefConvIdeal.defs _ _).mono (fun r h c => ?_) (Cert.RefConvIdeal.Value.run (F := Ideal) m' g')⟩
  · obtain ⟨h0, h1, ha⟩ := h c
    exact ⟨h0.trans (Cert.ConvClosed.final6 m c), h1.trans (Cert.ConvClosed.final7 m c), ha⟩
  · obtain ⟨h0, h1, ha⟩ := h c
    obtain ⟨e0, e1, e2, e3, e4, e5⟩ := hagree c
    exact ⟨h0.trans (Cert.ConvRef.out_launch m' c e0 e1 e2 e3 e4 e5), h1.trans (Cert.ConvRef.tail_launch m' c e0 e1), ha⟩

theorem claim : Cert.Claim := ⟨Cert.Ffn.Gen.facts, Cert.FfnIdeal.Gen.facts, Cert.RefFfnIdeal.Gen.facts, Cert.Proj.Gen.facts, Cert.ProjIdeal.Gen.facts, Cert.RefProjIdeal.Gen.facts, Cert.FfnCd.Gen.facts, Cert.FfnCdIdeal.Gen.facts, Cert.RefFfnCdIdeal.Gen.facts, Cert.ProjCd.Gen.facts, Cert.ProjCdIdeal.Gen.facts, Cert.RefProjCdIdeal.Gen.facts, Cert.Win0.Gen.facts, Cert.Win0Ideal.Gen.facts, Cert.RefWin0Ideal.Gen.facts, Cert.FfnStep.Gen.facts, Cert.FfnStepIdeal.Gen.facts, Cert.RefFfnStepIdeal.Gen.facts, Cert.ProjStep.Gen.facts, Cert.ProjStepIdeal.Gen.facts, Cert.RefProjStepIdeal.Gen.facts, Cert.AbQkv.Gen.facts, Cert.AbQkvIdeal.Gen.facts, Cert.RefAbQkvIdeal.Gen.facts, Cert.ConvStep.Gen.facts, Cert.ConvStepIdeal.Gen.facts, Cert.RefConvStepIdeal.Gen.facts, Cert.Conv.Gen.facts, Cert.ConvIdeal.Gen.facts, Cert.RefConvIdeal.Gen.facts, Cert.Pre_finite_scores.facts, Cert.Pre_finite_heads.facts, by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial, algebraic_ffn, trivial, algebraic_proj, trivial, algebraic_ffn_cd, trivial, algebraic_proj_cd,
    IdealRules.named_const.statement _ _ _ _ _ (by simp [Cert.Win0Ideal.κ]), algebraic_win0,
    trivial, algebraic_ffn_step, trivial, algebraic_proj_step, trivial, algebraic_ab, trivial, algebraic_conv_step, trivial, algebraic_conv⟩
  · exact fun m ρ _ => Cert.Ffn.Gen.frame m ρ
  · exact fun m ρ _ => Cert.FfnIdeal.Gen.frame m ρ
  · exact fun m g _ => (θ_run Cert.RefFfnIdeal.defs _ _).mono
      (fun r h => ⟨fun c => (h c).2, sem_eq_zero_of_no_sems (by decide) r.2⟩) (Cert.RefFfnIdeal.Value.run (F := Ideal) m g)
  · exact fun m ρ _ => Cert.Proj.Gen.frame m ρ
  · exact fun m ρ _ => Cert.ProjIdeal.Gen.frame m ρ
  · exact fun m g _ => (θ_run Cert.RefProjIdeal.defs _ _).mono
      (fun r h => ⟨fun c => (h c).2, sem_eq_zero_of_no_sems (by decide) r.2⟩) (Cert.RefProjIdeal.Value.run (F := Ideal) m g)
  · exact fun m ρ _ => Cert.FfnCd.Gen.frame m ρ
  · exact fun m ρ _ => Cert.FfnCdIdeal.Gen.frame m ρ
  · exact fun m g _ => (θ_run Cert.RefFfnCdIdeal.defs _ _).mono
      (fun r h => ⟨fun c => (h c).2, sem_eq_zero_of_no_sems (by decide) r.2⟩) (Cert.RefFfnCdIdeal.Value.run (F := Ideal) m g)
  · exact fun m ρ _ => Cert.ProjCd.Gen.frame m ρ
  · exact fun m ρ _ => Cert.ProjCdIdeal.Gen.frame m ρ
  · exact fun m g _ => (θ_run Cert.RefProjCdIdeal.defs _ _).mono
      (fun r h => ⟨fun c => (h c).2, sem_eq_zero_of_no_sems (by decide) r.2⟩) (Cert.RefProjCdIdeal.Value.run (F := Ideal) m g)
  · exact fun m ρ _ => Cert.Win0.Gen.frame m ρ
  · exact fun m ρ _ => Cert.Win0Ideal.Gen.frame m ρ
  · exact fun m ρ _ => Cert.Win0Ideal.Gen.frame m ρ
  · exact fun m g _ => (θ_run Cert.RefWin0Ideal.defs _ _).mono
      (fun r h => ⟨fun c => (h c).2.2, sem_eq_zero_of_no_sems (by decide) r.2⟩) (Cert.RefWin0Ideal.Value.run (F := Ideal) m g)
  · exact fun m g _ => (θ_run Cert.RefWin0Ideal.defs _ _).mono
      (fun r h => ⟨fun c => (h c).2.2, sem_eq_zero_of_no_sems (by decide) r.2⟩) (Cert.RefWin0Ideal.Value.run (F := Ideal) m g)
  · exact fun m ρ _ => Cert.FfnStep.Gen.frame m ρ
  · exact fun m ρ _ => Cert.FfnStepIdeal.Gen.frame m ρ
  · exact fun m g _ => (θ_run Cert.RefFfnStepIdeal.defs _ _).mono
      (fun r h => ⟨fun c => (h c).2, sem_eq_zero_of_no_sems (by decide) r.2⟩) (Cert.RefFfnStepIdeal.Value.run (F := Ideal) m g)
  · exact fun m ρ _ => Cert.ProjStep.Gen.frame m ρ
  · exact fun m ρ _ => Cert.ProjStepIdeal.Gen.frame m ρ
  · exact fun m g _ => (θ_run Cert.RefProjStepIdeal.defs _ _).mono
      (fun r h => ⟨fun c => (h c).2, sem_eq_zero_of_no_sems (by decide) r.2⟩) (Cert.RefProjStepIdeal.Value.run (F := Ideal) m g)
  · exact fun m ρ _ => Cert.AbQkv.Gen.frame m ρ
  · exact fun m ρ _ => Cert.AbQkvIdeal.Gen.frame m ρ
  · exact fun m ρ _ => Cert.AbQkvIdeal.Gen.frame m ρ
  · exact fun m g _ => (θ_run Cert.RefAbQkvIdeal.defs _ _).mono
      (fun r h => ⟨fun c => (h c).2.2, sem_eq_zero_of_no_sems (by decide) r.2⟩) (Cert.RefAbQkvIdeal.Value.run (F := Ideal) m g)
  · exact fun m g _ => (θ_run Cert.RefAbQkvIdeal.defs _ _).mono
      (fun r h => ⟨fun c => (h c).2.2, sem_eq_zero_of_no_sems (by decide) r.2⟩) (Cert.RefAbQkvIdeal.Value.run (F := Ideal) m g)
  · exact fun m ρ _ => Cert.ConvStep.Gen.frame m ρ
  · exact fun m ρ _ => Cert.ConvStepIdeal.Gen.frame m ρ
  · exact fun m g _ => (θ_run Cert.RefConvStepIdeal.defs _ _).mono
      (fun r h => ⟨fun c => (h c).2.2, sem_eq_zero_of_no_sems (by decide) r.2⟩) (Cert.RefConvStepIdeal.Value.run (F := Ideal) m g)
  · exact fun m ρ _ => Cert.Conv.Gen.frame m ρ
  · exact fun m ρ _ => Cert.ConvIdeal.Gen.frame m ρ
  · exact fun m g _ => (θ_run Cert.RefConvIdeal.defs _ _).mono
      (fun r h => ⟨fun c => (h c).2.2, sem_eq_zero_of_no_sems (by decide) r.2⟩) (Cert.RefConvIdeal.Value.run (F := Ideal) m g)⟩

end Cert.Proof

end
